-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v37) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v151_0)) (v1 : (c : Dev Cert.Kernel5Ideal.nD) → Buf (Elt Ideal) ((c.tc : Thread Cert.Kernel5Ideal.nD Cert.Kernel5Ideal.τ).loc Cert.Kernel5Ideal.main_v151_1)) (v2 : (c : Dev Cert.Kernel5Ideal.nD) → Buf (Elt Ideal) ((c.tc : Thread Cert.Kernel5Ideal.nD Cert.Kernel5Ideal.τ).loc Cert.Kernel5Ideal.main_v151_2)) (v3 : (c : Dev Cert.Kernel5Ideal.nD) → Buf (Elt Ideal) ((c.tc : Thread Cert.Kernel5Ideal.nD Cert.Kernel5Ideal.τ).loc Cert.Kernel5Ideal.main_v151_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v151_0) = v0 c
          ∧ r.2.mem ((c.tc : Thread Cert.Kernel5Ideal.nD Cert.Kernel5Ideal.τ).loc Cert.Kernel5Ideal.main_v151_1) = v1 c
          ∧ r.2.mem ((c.tc : Thread Cert.Kernel5Ideal.nD Cert.Kernel5Ideal.τ).loc Cert.Kernel5Ideal.main_v151_2) = v2 c
          ∧ r.2.mem ((c.tc : Thread Cert.Kernel5Ideal.nD Cert.Kernel5Ideal.τ).loc Cert.Kernel5Ideal.main_v151_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v73) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_v77) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ preserves_Kernel7_Kernel7Ideal
-- ==== Pre_finite.lean ====
abbrev S2x8x16384x128 : Shape := ⟨4, ![2, 8, 16384, 128]⟩
abbrev S2x16384x512 : Shape := ⟨3, ![2, 16384, 512]⟩
abbrev S2x8x32x128 : Shape := ⟨4, ![2, 8, 32, 128]⟩
abbrev S_ : Shape := ⟨0, ![]⟩

class Facts : Prop where
  bcast_S_S2x8x16384x128 : S_.BroadcastsInDim S2x8x16384x128 (![] : Fin 0 → Fin S2x8x16384x128.rank)
  bcast_S_S2x8x32x128 : S_.BroadcastsInDim S2x8x32x128 (![] : Fin 0 → Fin S2x8x32x128.rank)

variable [Facts]

def fn {F : FTy → Type} [FloatOps F] (main_arg0 : FVec F S2x8x16384x128 .bf16) (main_arg1 : FVec F S2x8x16384x128 .bf16) (main_arg2 : FVec F S2x16384x512 .bf16) (main_arg3 : FVec F S2x8x32x128 .f32) : IVec S2x8x16384x128 1 × IVec S2x8x16384x128 1 × IVec S2x8x32x128 1 :=
  let main_v0 : FVec F S2x8x16384x128 .bf16 := Host.absf main_arg0
  let main_cst : FVec F S_ .bf16 := constant S_ .bf16 0x7F80#16
  let main_v1 : FVec F S2x8x16384x128 .bf16 := broadcastInDim S2x8x16384x128 ![] bcast_S_S2x8x16384x128 main_cst
  let main_v2 : IVec S2x8x16384x128 1 := cmpf .olt main_v0 main_v1
  let main_v3 : FVec F S2x8x16384x128 .bf16 := Host.absf main_arg1
  let main_cst_0 : FVec F S_ .bf16 := constant S_ .bf16 0x7F80#16
  let main_v4 : FVec F S2x8x16384x128 .bf16 := broadcastInDim S2x8x16384x128 ![] bcast_S_S2x8x16384x128 main_cst_0
  let main_v5 : IVec S2x8x16384x128 1 := cmpf .olt main_v3 main_v4
  let main_v6 : FVec F S2x8x32x128 .f32 := Host.absf main_arg3
  let main_cst_1 : FVec F S_ .f32 := constant S_ .f32 0x7F800000#32
  let main_v7 : FVec F S2x8x32x128 .f32 := broadcastInDim S2x8x32x128 ![] bcast_S_S2x8x32x128 main_cst_1
  let main_v8 : IVec S2x8x32x128 1 := cmpf .olt main_v6 main_v7
  (main_v2, main_v5, main_v8)
-- ==== Pre_finite5.lean ====
abbrev S2x16384x1024 : Shape := ⟨3, ![2, 16384, 1024]⟩
abbrev S1024 : Shape := ⟨1, ![1024]⟩
abbrev S1024x3600 : Shape := ⟨2, ![1024, 3600]⟩
abbrev S64 : Shape := ⟨1, ![64]⟩
abbrev S8 : Shape := ⟨1, ![8]⟩
abbrev S_ : Shape := ⟨0, ![]⟩

class Facts : Prop where
  bcast_S_S1024 : S_.BroadcastsInDim S1024 (![] : Fin 0 → Fin S1024.rank)
  bcast_S_S1024x3600 : S_.BroadcastsInDim S1024x3600 (![] : Fin 0 → Fin S1024x3600.rank)
  bcast_S_S8 : S_.BroadcastsInDim S8 (![] : Fin 0 → Fin S8.rank)

variable [Facts]

def fn {F : FTy → Type} [FloatOps F] (main_arg0 : FVec F S2x16384x1024 .f32) (main_arg1 : FVec F S1024 .f32) (main_arg2 : FVec F S1024x3600 .f32) (main_arg3 : FVec F S64 .f32) (main_arg4 : FVec F S64 .f32) (main_arg5 : FVec F S8 .f32) : IVec S1024 1 × IVec S1024x3600 1 × IVec S8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3600 .f32 := Host.absf main_arg2
  let main_cst_0 : FVec F S_ .f32 := constant S_ .f32 0x7F800000#32
  let main_v4 : FVec F S1024x3600 .f32 := broadcastInDim S1024x3600 ![] bcast_S_S1024x3600 main_cst_0
  let main_v5 : IVec S1024x3600 1 := cmpf .olt main_v3 main_v4
  let main_v6 : FVec F S8 .f32 := Host.absf main_arg5
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S2x8x16384x128 : Shape := ⟨4, ![2, 8, 16384, 128]⟩
abbrev S2x16384x512 : Shape := ⟨3, ![2, 16384, 512]⟩
abbrev S2x8x32x128 : Shape := ⟨4, ![2, 8, 32, 128]⟩
abbrev S1x2x512x128 : Shape := ⟨4, ![1, 2, 512, 128]⟩
abbrev S1x2x16384x128 : Shape := ⟨4, ![1, 2, 16384, 128]⟩
abbrev S1x16384x128 : Shape := ⟨3, ![1, 16384, 128]⟩
abbrev S1x2x32x128 : Shape := ⟨4, ![1, 2, 32, 128]⟩
abbrev S1x512x128 : Shape := ⟨3, ![1, 512, 128]⟩
abbrev S512x1 : Shape := ⟨2, ![512, 1]⟩
abbrev S512x128 : Shape := ⟨2, ![512, 128]⟩
abbrev S512x512 : Shape := ⟨2, ![512, 512]⟩
abbrev S1x1x512x128 : Shape := ⟨4, ![1, 1, 512, 128]⟩
abbrev S1x1x1x128 : Shape := ⟨4, ![1, 1, 1, 128]⟩
abbrev S1x128 : Shape := ⟨2, ![1, 128]⟩
abbrev S1x1 : Shape := ⟨2, ![1, 1]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x16384x512, .bf16⟩
  | .hbm, ⟨3, _⟩ => ⟨S2x8x32x128, .f32⟩
  | .hbm, ⟨4, _⟩ => ⟨S2x16384x512, .f32⟩
  | .local _ .vmem, ⟨0, _⟩ => ⟨S1x2x512x128, .bf16⟩
  | .local _ .vmem, ⟨1, _⟩ => ⟨S1x2x512x128, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x2x32x128, .f32⟩
  | .local _ .vmem, ⟨7, _⟩ => ⟨S1x2x32x128, .f32⟩
  | .local _ .vmem, ⟨8, _⟩ => ⟨S1x512x128, .f32⟩
  | .local _ .vmem, ⟨9, _⟩ => ⟨S1x512x128, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_off1 (i : grid0.Coords) : Fin 4 → Nat :=
  let c0_3 : Index := 0#32
  let c0_4 : Index := 0#32
  let arg2 : BitVec 32 := BitVec.ofNat 32 (i 2).val
  let v4 : Index := Scalar.indexCast arg2
  let c0_5 : Index := 0#32
  ![0, 0, v4.toNat, 0]
@[reducible] def k0_t1_loop (i : grid0.Coords) : Scf.Loop 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_15 : BitVec 32 := 1#32
  ⟨c0_i32_14, v24, c1_i32_15⟩
def k0_mult1 (i : grid0.Coords) (k0_t1 : Fin (k0_t1_loop i).trips) : BitVec 32 :=
  let c0_i32_14 : BitVec 32 := 0#32
  let c1_i32_15 : BitVec 32 := 1#32
  let arg11 : BitVec 32 := Scf.iv c0_i32_14 c1_i32_15 k0_t1
  let c512_i32_99 : BitVec 32 := 512#32
  let v163 : BitVec 32 := Scalar.muli arg11 c512_i32_99
  v163
def k0_off2 (i : grid0.Coords) (k0_t1 : Fin (k0_t1_loop i).trips) : Fin 4 → Nat :=
  let c0_100 : Index := 0#32
  let c0_101 : Index := 0#32
  let c0_i32_14 : BitVec 32 := 0#32
  let c1_i32_15 : BitVec 32 := 1#32
  let arg11 : BitVec 32 := Scf.iv c0_i32_14 c1_i32_15 k0_t1
  let c512_i32_99 : BitVec 32 := 512#32
  let v163 : BitVec 32 := Scalar.muli arg11 c512_i32_99
  let v164 : BitVec 32 := v163
  let v165 : Index := Scalar.indexCast v164
  let c0_102 : Index := 0#32
  ![0, 0, v165.toNat, 0]
def k0_off3 (i : grid0.Coords) (k0_t1 : Fin (k0_t1_loop i).trips) : Fin 3 → Nat :=
  let c0_103 : Index := 0#32
  let c0_i32_14 : BitVec 32 := 0#32
  let c1_i32_15 : BitVec 32 := 1#32
  let arg11 : BitVec 32 := Scf.iv c0_i32_14 c1_i32_15 k0_t1
  let c512_i32_99 : BitVec 32 := 512#32
  let v163 : BitVec 32 := Scalar.muli arg11 c512_i32_99
  let v164 : BitVec 32 := v163
  let v168 : Index := Scalar.indexCast v164
  let c0_104 : Index := 0#32
  ![0, v168.toNat, 0]
def k0_off4 (i : grid0.Coords) (k0_t1 : Fin (k0_t1_loop i).trips) : Fin 4 → Nat :=
  let c0_106 : Index := 0#32
  let c0_107 : Index := 0#32
  let c0_i32_14 : BitVec 32 := 0#32
  let c1_i32_15 : BitVec 32 := 1#32
  let arg11 : BitVec 32 := Scf.iv c0_i32_14 c1_i32_15 k0_t1
  let v172 : Index := Scalar.indexCast arg11
  let c0_108 : Index := 0#32
  ![0, 0, v172.toNat, 0]
@[reducible] def k0_t2_loop (i : grid0.Coords) : Scf.Loop 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let v21 : BitVec 32 := Scalar.addi c0_i32_14 v20
  let c1_i32_16 : BitVec 32 := 1#32
  ⟨v24, v21, c1_i32_16⟩
def k0_mult2 (i : grid0.Coords) (k0_t2 : Fin (k0_t2_loop i).trips) : BitVec 32 :=
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c512_i32_99 : BitVec 32 := 512#32
  let v163 : BitVec 32 := Scalar.muli arg11 c512_i32_99
  v163
def k0_off5 (i : grid0.Coords) (k0_t2 : Fin (k0_t2_loop i).trips) : Fin 4 → Nat :=
  let c0_100 : Index := 0#32
  let c0_101 : Index := 0#32
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c512_i32_99 : BitVec 32 := 512#32
  let v163 : BitVec 32 := Scalar.muli arg11 c512_i32_99
  let v164 : BitVec 32 := v163
  let v165 : Index := Scalar.indexCast v164
  let c0_102 : Index := 0#32
  ![0, 0, v165.toNat, 0]
def k0_off6 (i : grid0.Coords) (k0_t2 : Fin (k0_t2_loop i).trips) : Fin 3 → Nat :=
  let c0_103 : Index := 0#32
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let c512_i32_99 : BitVec 32 := 512#32
  let v163 : BitVec 32 := Scalar.muli arg11 c512_i32_99
  let v164 : BitVec 32 := v163
  let v168 : Index := Scalar.indexCast v164
  let c0_104 : Index := 0#32
  ![0, v168.toNat, 0]
def k0_off7 (i : grid0.Coords) (k0_t2 : Fin (k0_t2_loop i).trips) : Fin 4 → Nat :=
  let c0_106 : Index := 0#32
  let c0_107 : Index := 0#32
  let c0_i32_14 : BitVec 32 := 0#32
  let arg2 : BitVec 32 := BitVec.ofNat 32 (i 2).val
  let v20 : BitVec 32 := Scalar.subi arg2 c0_i32_14
  let c1_i32 : BitVec 32 := 1#32
  let v22 : BitVec 32 := Scalar.divsi v20 c1_i32
  let v23 : BitVec 32 := Scalar.muli v22 c1_i32
  let v24 : BitVec 32 := Scalar.addi c0_i32_14 v23
  let c1_i32_16 : BitVec 32 := 1#32
  let arg11 : BitVec 32 := Scf.iv v24 c1_i32_16 k0_t2
  let v172 : Index := Scalar.indexCast arg11
  let c0_108 : Index := 0#32
  ![0, 0, v172.toNat, 0]
def k0_mult3 (i : grid0.Coords) : BitVec 32 :=
  let arg2 : BitVec 32 := BitVec.ofNat 32 (i 2).val
  let c512_i32 : BitVec 32 := 512#32
  let v25 : BitVec 32 := Scalar.muli arg2 c512_i32
  v25
def k0_off8 (i : grid0.Coords) : Fin 4 → Nat :=
  let c0_17 : Index := 0#32
  let c0_18 : Index := 0#32
  let arg2 : BitVec 32 := BitVec.ofNat 32 (i 2).val
  let c512_i32 : BitVec 32 := 512#32
  let v25 : BitVec 32 := Scalar.muli arg2 c512_i32
  let v26 : BitVec 32 := v25
  let v27 : Index := Scalar.indexCast v26
  let c0_19 : Index := 0#32
  ![0, 0, v27.toNat, 0]
def k0_off9 (i : grid0.Coords) : Fin 3 → Nat :=
  let c0_20 : Index := 0#32
  let arg2 : BitVec 32 := BitVec.ofNat 32 (i 2).val
  let c512_i32 : BitVec 32 := 512#32
  let v25 : BitVec 32 := Scalar.muli arg2 c512_i32
  let v26 : BitVec 32 := v25
  let v30 : Index := Scalar.indexCast v26
  let c0_21 : Index := 0#32
  ![0, v30.toNat, 0]
def k0_off10 (i : grid0.Coords) : Fin 4 → Nat :=
  let c0_49 : Index := 0#32
  let c1_50 : Index := 1#32
  let arg2 : BitVec 32 := BitVec.ofNat 32 (i 2).val
  let v81 : Index := Scalar.indexCast arg2
  let c0_51 : Index := 0#32
  ![0, 1, v81.toNat, 0]
@[reducible] def k0_t3_loop (i : grid0.Coords) : Scf.Loop 32 :=
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let c1_i32_64 : BitVec 32 := 1#32
  ⟨c0_i32_62, v101, c1_i32_64⟩
def k0_mult4 (i : grid0.Coords) (k0_t3 : Fin (k0_t3_loop i).trips) : BitVec 32 :=
  let c0_i32_62 : BitVec 32 := 0#32
  let c1_i32_64 : BitVec 32 := 1#32
  let arg11 : BitVec 32 := Scf.iv c0_i32_62 c1_i32_64 k0_t3
  let c512_i32_99 : BitVec 32 := 512#32
  let v163 : BitVec 32 := Scalar.muli arg11 c512_i32_99
  v163
def k0_off11 (i : grid0.Coords) (k0_t3 : Fin (k0_t3_loop i).trips) : Fin 4 → Nat :=
  let c0_100 : Index := 0#32
  let c1_101 : Index := 1#32
  let c0_i32_62 : BitVec 32 := 0#32
  let c1_i32_64 : BitVec 32 := 1#32
  let arg11 : BitVec 32 := Scf.iv c0_i32_62 c1_i32_64 k0_t3
  let c512_i32_99 : BitVec 32 := 512#32
  let v163 : BitVec 32 := Scalar.muli arg11 c512_i32_99
  let v164 : BitVec 32 := v163
  let v165 : Index := Scalar.indexCast v164
  let c0_102 : Index := 0#32
  ![0, 1, v165.toNat, 0]
def k0_off12 (i : grid0.Coords) (k0_t3 : Fin (k0_t3_loop i).trips) : Fin 3 → Nat :=
  let c0_103 : Index := 0#32
  let c0_i32_62 : BitVec 32 := 0#32
  let c1_i32_64 : BitVec 32 := 1#32
  let arg11 : BitVec 32 := Scf.iv c0_i32_62 c1_i32_64 k0_t3
  let c512_i32_99 : BitVec 32 := 512#32
  let v163 : BitVec 32 := Scalar.muli arg11 c512_i32_99
  let v164 : BitVec 32 := v163
  let v168 : Index := Scalar.indexCast v164
  let c0_104 : Index := 0#32
  ![0, v168.toNat, 0]
def k0_off13 (i : grid0.Coords) (k0_t3 : Fin (k0_t3_loop i).trips) : Fin 4 → Nat :=
  let c0_106 : Index := 0#32
  let c1_107 : Index := 1#32
  let c0_i32_62 : BitVec 32 := 0#32
  let c1_i32_64 : BitVec 32 := 1#32
  let arg11 : BitVec 32 := Scf.iv c0_i32_62 c1_i32_64 k0_t3
  let v172 : Index := Scalar.indexCast arg11
  let c0_108 : Index := 0#32
  ![0, 1, v172.toNat, 0]
@[reducible] def k0_t4_loop (i : grid0.Coords) : Scf.Loop 32 :=
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let v98 : BitVec 32 := Scalar.addi c0_i32_62 v97
  let c1_i32_65 : BitVec 32 := 1#32
  ⟨v101, v98, c1_i32_65⟩
def k0_mult5 (i : grid0.Coords) (k0_t4 : Fin (k0_t4_loop i).trips) : BitVec 32 :=
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let c1_i32_65 : BitVec 32 := 1#32
  let arg11 : BitVec 32 := Scf.iv v101 c1_i32_65 k0_t4
  let c512_i32_99 : BitVec 32 := 512#32
  let v163 : BitVec 32 := Scalar.muli arg11 c512_i32_99
  v163
def k0_off14 (i : grid0.Coords) (k0_t4 : Fin (k0_t4_loop i).trips) : Fin 4 → Nat :=
  let c0_100 : Index := 0#32
  let c1_101 : Index := 1#32
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let c1_i32_65 : BitVec 32 := 1#32
  let arg11 : BitVec 32 := Scf.iv v101 c1_i32_65 k0_t4
  let c512_i32_99 : BitVec 32 := 512#32
  let v163 : BitVec 32 := Scalar.muli arg11 c512_i32_99
  let v164 : BitVec 32 := v163
  let v165 : Index := Scalar.indexCast v164
  let c0_102 : Index := 0#32
  ![0, 1, v165.toNat, 0]
def k0_off15 (i : grid0.Coords) (k0_t4 : Fin (k0_t4_loop i).trips) : Fin 3 → Nat :=
  let c0_103 : Index := 0#32
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let c1_i32_65 : BitVec 32 := 1#32
  let arg11 : BitVec 32 := Scf.iv v101 c1_i32_65 k0_t4
  let c512_i32_99 : BitVec 32 := 512#32
  let v163 : BitVec 32 := Scalar.muli arg11 c512_i32_99
  let v164 : BitVec 32 := v163
  let v168 : Index := Scalar.indexCast v164
  let c0_104 : Index := 0#32
  ![0, v168.toNat, 0]
def k0_off16 (i : grid0.Coords) (k0_t4 : Fin (k0_t4_loop i).trips) : Fin 4 → Nat :=
  let c0_106 : Index := 0#32
  let c1_107 : Index := 1#32
  let c0_i32_62 : BitVec 32 := 0#32
  let arg2 : BitVec 32 := BitVec.ofNat 32 (i 2).val
  let v97 : BitVec 32 := Scalar.subi arg2 c0_i32_62
  let c1_i32_63 : BitVec 32 := 1#32
  let v99 : BitVec 32 := Scalar.divsi v97 c1_i32_63
  let v100 : BitVec 32 := Scalar.muli v99 c1_i32_63
  let v101 : BitVec 32 := Scalar.addi c0_i32_62 v100
  let c1_i32_65 : BitVec 32 := 1#32
  let arg11 : BitVec 32 := Scf.iv v101 c1_i32_65 k0_t4
  let v172 : Index := Scalar.indexCast arg11
  let c0_108 : Index := 0#32
  ![0, 1, v172.toNat, 0]
def k0_mult6 (i : grid0.Coords) : BitVec 32 :=
  let arg2 : BitVec 32 := BitVec.ofNat 32 (i 2).val
  let c512_i32_66 : BitVec 32 := 512#32
  let v102 : BitVec 32 := Scalar.muli arg2 c512_i32_66
  v102
def k0_off17 (i : grid0.Coords) : Fin 4 → Nat :=
  let c0_67 : Index := 0#32
  let c1_68 : Index := 1#32
  let arg2 : BitVec 32 := BitVec.ofNat 32 (i 2).val
  let c512_i32_66 : BitVec 32 := 512#32
  let v102 : BitVec 32 := Scalar.muli arg2 c512_i32_66
  let v103 : BitVec 32 := v102
  let v104 : Index := Scalar.indexCast v103
  let c0_69 : Index := 0#32
  ![0, 1, v104.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8x16384x128 : Shape := ⟨4, ![2, 8, 16384, 128]⟩
abbrev S2x16384x512 : Shape := ⟨3, ![2, 16384, 512]⟩
abbrev S2x8x32x128 : Shape := ⟨4, ![2, 8, 32, 128]⟩
abbrev S2x16384x8x64 : Shape := ⟨4, ![2, 16384, 8, 64]⟩
abbrev S2x8x16384x64 : Shape := ⟨4, ![2, 8, 16384, 64]⟩
abbrev S2x8x32x1 : Shape := ⟨4, ![2, 8, 32, 1]⟩
abbrev S2x8x32 : Shape := ⟨3, ![2, 8, 32]⟩
abbrev S2x8x32x512 : Shape := ⟨4, ![2, 8, 32, 512]⟩
abbrev S2x8x16384 : Shape := ⟨3, ![2, 8, 16384]⟩
abbrev S16384 : Shape := ⟨1, ![16384]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x16384x512, .bf16⟩
  | .hbm, ⟨3, _⟩ => ⟨S2x8x32x128, .f32⟩
  | .hbm, ⟨4, _⟩ => ⟨S2x8x16384x128, .f32⟩
  | .hbm, ⟨5, _⟩ => ⟨S2x8x16384x128, .f32⟩
  | .hbm, ⟨6, _⟩ => ⟨S2x16384x512, .f32⟩
  | .hbm, ⟨7, _⟩ => ⟨S2x16384x8x64, .f32⟩
  | .hbm, ⟨8, _⟩ => ⟨S2x8x16384x64, .f32⟩
  | .hbm, ⟨9, _⟩ => ⟨S2x8x32x1, .f32⟩
  | .hbm, ⟨10, _⟩ => ⟨S2x8x32, .f32⟩
  | .hbm, ⟨11, _⟩ => ⟨S2x8x32x512, .f32⟩
  | .hbm, ⟨12, _⟩ => ⟨S2x8x16384, .f32⟩
  | .hbm, ⟨13, _⟩ => ⟨S16384, .i32⟩
  | .hbm, ⟨14, _⟩ => ⟨S2x8x16384x16384, .f32⟩
  | .hbm, ⟨15, _⟩ => ⟨S2x8x16384x1, .f32⟩
  | .hbm, ⟨16, _⟩ => ⟨S2x8x16384x16384, .f32⟩
  | .hbm, ⟨17, _⟩ => ⟨S2x8x16384x16384, .f32⟩
  | .hbm, ⟨18, _⟩ => ⟨S2x8x1x16384, .f32⟩
  | .hbm, ⟨19, _⟩ => ⟨S2x8x16384x16384, .f32⟩
  | .hbm, ⟨20, _⟩ => ⟨S2x8x16384x16384, .f32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S2x8x16384x16384, .i1⟩
  | .hbm, ⟨29, _⟩ => ⟨S2x8x16384x16384, .f32⟩
  | .hbm, ⟨30, _⟩ => ⟨S2x8x16384x16384, .f32⟩
  | .hbm, ⟨31, _⟩ => ⟨S_, .f32⟩
  | .hbm, ⟨32, _⟩ => ⟨S2x8x16384, .f32⟩
  | .hbm, ⟨33, _⟩ => ⟨S_, .f32⟩
  | .hbm, ⟨34, _⟩ => ⟨S2x8x16384, .f32⟩
  | .hbm, ⟨35, _⟩ => ⟨S2x8x16384, .f32⟩
  | .hbm, ⟨36, _⟩ => ⟨S2x8x16384x1, .f32⟩
  | .hbm, ⟨37, _⟩ => ⟨S2x8x16384x16384, .f32⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S2x8x16384, .f32⟩
  | .hbm, ⟨42, _⟩ => ⟨S2x8x16384x1, .f32⟩
  | .hbm, ⟨43, _⟩ => ⟨S2x8x16384x16384, .f32⟩
  | .hbm, ⟨44, _⟩ => ⟨S2x8x16384x16384, .f32⟩
  | .hbm, ⟨45, _⟩ => ⟨S2x8x16384x64, .f32⟩
  | .hbm, ⟨46, _⟩ => ⟨S2x16384x8x64, .f32⟩
  | .hbm, ⟨47, _⟩ => ⟨S2x16384x512, .f32⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S256 : Shape := ⟨1, ![256]⟩
abbrev S2x4x256x256 : Shape := ⟨4, ![2, 4, 256, 256]⟩
abbrev S1x1024 : Shape := ⟨2, ![1, 1024]⟩
abbrev S1x256 : Shape := ⟨2, ![1, 256]⟩
abbrev S1x512x1024 : Shape := ⟨3, ![1, 512, 1024]⟩
abbrev S1x512x512 : Shape := ⟨3, ![1, 512, 512]⟩
abbrev S1x4x256x256 : Shape := ⟨4, ![1, 4, 256, 256]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x1x256x256 : Shape := ⟨4, ![1, 1, 256, 256]⟩
abbrev S256x256 : Shape := ⟨2, ![256, 256]⟩

abbrev nBuf : Space → Nat
  | .hbm => 16
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S2x4x256x256, .bf16⟩
  | .hbm, ⟨8, _⟩ => ⟨S2x4x256x256, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x1024, .bf16⟩
  | .hbm, ⟨13, _⟩ => ⟨S1x256, .f32⟩
  | .hbm, ⟨14, _⟩ => ⟨S1024x1024, .bf16⟩
  | .hbm, ⟨15, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256, .f32⟩
  | .local _ .vmem, ⟨10, _⟩ => ⟨S1x4x256x256, .bf16⟩
  | .local _ .vmem, ⟨11, _⟩ => ⟨S1x4x256x256, .bf16⟩
  | .local _ .vmem, ⟨12, _⟩ => ⟨S1x4x256x256, .bf16⟩
  | .local _ .vmem, ⟨13, _⟩ => ⟨S1x4x256x256, .bf16⟩
  | .local _ .vmem, ⟨14, _⟩ => ⟨S1024x1024, .bf16⟩
  | .local _ .vmem, ⟨15, _⟩ => ⟨S1x512x1024, .f32⟩
  | .local _ .vmem, ⟨16, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S1024 : Shape := ⟨1, ![1024]⟩
abbrev S256 : Shape := ⟨1, ![256]⟩
abbrev S2x4x256x256 : Shape := ⟨4, ![2, 4, 256, 256]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4x256 : Shape := ⟨4, ![2, 16384, 4, 256]⟩
abbrev S2x16384x4 : Shape := ⟨3, ![2, 16384, 4]⟩
abbrev S2x16384x4x1 : Shape := ⟨4, ![2, 16384, 4, 1]⟩
abbrev S1x1x1x256 : Shape := ⟨4, ![1, 1, 1, 256]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S256, .f32⟩
  | .hbm, ⟨7, _⟩ => ⟨S2x4x256x256, .bf16⟩
  | .hbm, ⟨8, _⟩ => ⟨S2x4x256x256, .bf16⟩
  | .hbm, ⟨9, _⟩ => ⟨S1024x1024, .f32⟩
  | .hbm, ⟨10, _⟩ => ⟨S2x16384x1024, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x4x256, .f32⟩
  | .hbm, ⟨31, _⟩ => ⟨S2x16384x4x256, .f32⟩
  | .hbm, ⟨32, _⟩ => ⟨S_, .f32⟩
  | .hbm, ⟨33, _⟩ => ⟨S2x16384x4, .f32⟩
  | .hbm, ⟨34, _⟩ => ⟨S2x16384x4x1, .f32⟩
  | .hbm, ⟨35, _⟩ => ⟨S_, .f32⟩
  | .hbm, ⟨36, _⟩ => ⟨S2x16384x4x1, .f32⟩
  | .hbm, ⟨37, _⟩ => ⟨S2x16384x4x1, .f32⟩
  | .hbm, ⟨38, _⟩ => ⟨S_, .f32⟩
  | .hbm, ⟨39, _⟩ => ⟨S2x16384x4x1, .f32⟩
  | .hbm, ⟨40, _⟩ => ⟨S2x16384x4x1, .f32⟩
  | .hbm, ⟨41, _⟩ => ⟨S2x16384x4x1, .f32⟩
  | .hbm, ⟨42, _⟩ => ⟨S2x16384x4x256, .f32⟩
  | .hbm, ⟨43, _⟩ => ⟨S2x16384x4x256, .f32⟩
  | .hbm, ⟨44, _⟩ => ⟨S1x1x1x256, .f32⟩
  | .hbm, ⟨45, _⟩ => ⟨S2x16384x4x256, .f32⟩
  | .hbm, ⟨46, _⟩ => ⟨S2x16384x4x256, .f32⟩
  | .hbm, ⟨47, _⟩ => ⟨S2x4x256x256, .f32⟩
  | .hbm, ⟨48, _⟩ => ⟨S2x4x16384x256, .f32⟩
  | .hbm, ⟨49, _⟩ => ⟨S_, .f32⟩
  | .hbm, ⟨50, _⟩ => ⟨S2x4x16384x256, .f32⟩
  | .hbm, ⟨51, _⟩ => ⟨S2x4x16384x256, .f32⟩
  | .hbm, ⟨52, _⟩ => ⟨S_, .f32⟩
  | .hbm, ⟨53, _⟩ => ⟨S2x4x16384, .f32⟩
  | .hbm, ⟨54, _⟩ => ⟨S_, .f32⟩
  | .hbm, ⟨55, _⟩ => ⟨S2x4x16384, .f32⟩
  | .hbm, ⟨56, _⟩ => ⟨S2x4x16384, .f32⟩
  | .hbm, ⟨57, _⟩ => ⟨S2x4x16384x1, .f32⟩
  | .hbm, ⟨58, _⟩ => ⟨S2x4x16384x256, .f32⟩
  | .hbm, ⟨59, _⟩ => ⟨S2x4x16384x256, .f32⟩
  | .hbm, ⟨60, _⟩ => ⟨S2x4x16384x256, .f32⟩
  | .hbm, ⟨61, _⟩ => ⟨S_, .f32⟩
  | .hbm, ⟨62, _⟩ => ⟨S2x4x16384, .f32⟩
  | .hbm, ⟨63, _⟩ => ⟨S2x4x16384x1, .f32⟩
  | .hbm, ⟨64, _⟩ => ⟨S2x4x16384x256, .f32⟩
  | .hbm, ⟨65, _⟩ => ⟨S2x4x16384x256, .f32⟩
  | .hbm, ⟨66, _⟩ => ⟨S2x4x256x256, .f32⟩
  | .hbm, ⟨67, _⟩ => ⟨S2x4x256x16384, .f32⟩
  | .hbm, ⟨68, _⟩ => ⟨S2x16384x4x256, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x3600 : Shape := ⟨2, ![1024, 3600]⟩
abbrev S4 : Shape := ⟨1, ![4]⟩
abbrev S1024x2048 : Shape := ⟨2, ![1024, 2048]⟩
abbrev S1024x4 : Shape := ⟨2, ![1024, 4]⟩
abbrev S1024x4x128 : Shape := ⟨3, ![1024, 4, 128]⟩
abbrev S1024x512 : Shape := ⟨2, ![1024, 512]⟩
abbrev S1024x3072 : Shape := ⟨2, ![1024, 3072]⟩
abbrev S4x128 : Shape := ⟨2, ![4, 128]⟩
abbrev S512 : Shape := ⟨1, ![512]⟩
abbrev S1x512 : Shape := ⟨2, ![1, 512]⟩
abbrev S1x1024 : Shape := ⟨2, ![1, 1024]⟩
abbrev S2x16384x1536 : Shape := ⟨3, ![2, 16384, 1536]⟩
abbrev S2x16384x512 : Shape := ⟨3, ![2, 16384, 512]⟩
abbrev S1x512x1024 : Shape := ⟨3, ![1, 512, 1024]⟩
abbrev S1x512x1536 : Shape := ⟨3, ![1, 512, 1536]⟩
abbrev S1x512x512 : Shape := ⟨3, ![1, 512, 512]⟩
abbrev S512x1024 : Shape := ⟨2, ![512, 1024]⟩
abbrev S512x1 : Shape := ⟨2, ![512, 1]⟩
abbrev S1024x1536 : Shape := ⟨2, ![1024, 1536]⟩
abbrev S512x1536 : Shape := ⟨2, ![512, 1536]⟩
abbrev S512x512 : Shape := ⟨2, ![512, 512]⟩

abbrev nBuf : Space → Nat
  | .hbm => 27
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3600, .f32⟩
  | .hbm, ⟨3, _⟩ => ⟨S4, .f32⟩
  | .hbm, ⟨4, _⟩ => ⟨S4, .f32⟩
  | .hbm, ⟨5, _⟩ => ⟨S1024x2048, .f32⟩
  | .hbm, ⟨6, _⟩ => ⟨S1024x4, .f32⟩
  | .hbm, ⟨7, _⟩ => ⟨S1024x4x128, .f32⟩
  | .hbm, ⟨8, _⟩ => ⟨S1024x512, .f32⟩
  | .hbm, ⟨9, _⟩ => ⟨S1024x4, .f32⟩
  | .hbm, ⟨10, _⟩ => ⟨S1024x4x128, .f32⟩
  | .hbm, ⟨11, _⟩ => ⟨S1024x512, .f32⟩
  | .hbm, ⟨12, _⟩ => ⟨S1024x3072, .f32⟩
  | .hbm, ⟨13, _⟩ => ⟨S1024x3072, .bf16⟩
  | .hbm, ⟨14, _⟩ => ⟨S4, .f32⟩
  | .hbm, ⟨15, _⟩ => ⟨S4, .f32⟩
  | .hbm, ⟨16, _⟩ => ⟨S4x128, .f32⟩
  | .hbm, ⟨17, _⟩ => ⟨S512, .f32⟩
  | .hbm, ⟨18, _⟩ => ⟨S1x512, .f32⟩
  | .hbm, ⟨19, _⟩ => ⟨S4x128, .f32⟩
  | .hbm, ⟨20, _⟩ => ⟨S512, .f32⟩
  | .hbm, ⟨21, _⟩ => ⟨S1x512, .f32⟩
  | .hbm, ⟨22, _⟩ => ⟨S1x1024, .f32⟩
  | .hbm, ⟨23, _⟩ => ⟨S2x16384x1536, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S1x512x1536, .f32⟩
  | .local _ .vmem, ⟨7, _⟩ => ⟨S1x512x1536, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev main_v18_2 : Ref sig .tc := ⟨.hbm, 25, rfl⟩
abbrev main_v18_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x16384x1024 : Shape := ⟨3, ![2, 16384, 1024]⟩
abbrev S1024 : Shape := ⟨1, ![1024]⟩
abbrev S1024x3600 : Shape := ⟨2, ![1024, 3600]⟩
abbrev S4 : Shape := ⟨1, ![4]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3600 : Shape := ⟨3, ![2, 16384, 3600]⟩
abbrev S2x16384x4 : Shape := ⟨3, ![2, 16384, 4]⟩
abbrev S1x1x4 : Shape := ⟨3, ![1, 1, 4]⟩
abbrev S2x16384x1536 : Shape := ⟨3, ![2, 16384, 1536]⟩
abbrev S2x16384x512 : Shape := ⟨3, ![2, 16384, 512]⟩
abbrev S2x16384x4x128 : Shape := ⟨4, ![2, 16384, 4, 128]⟩

abbrev nBuf : Space → Nat
  | .hbm => 69
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3600, .f32⟩
  | .hbm, ⟨3, _⟩ => ⟨S4, .f32⟩
  | .hbm, ⟨4, _⟩ => ⟨S4, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x3600, .f32⟩
  | .hbm, ⟨22, _⟩ => ⟨S4, .f32⟩
  | .hbm, ⟨23, _⟩ => ⟨S4, .f32⟩
  | .hbm, ⟨24, _⟩ => ⟨S2x16384x4, .f32⟩
  | .hbm, ⟨25, _⟩ => ⟨S1x1x4, .f32⟩
  | .hbm, ⟨26, _⟩ => ⟨S2x16384x4, .f32⟩
  | .hbm, ⟨27, _⟩ => ⟨S2x16384x4, .f32⟩
  | .hbm, ⟨28, _⟩ => ⟨S_, .f32⟩
  | .hbm, ⟨29, _⟩ => ⟨S2x16384x4, .f32⟩
  | .hbm, ⟨30, _⟩ => ⟨S2x16384x4, .f32⟩
  | .hbm, ⟨31, _⟩ => ⟨S2x16384x4, .f32⟩
  | .hbm, ⟨32, _⟩ => ⟨S2x16384x4, .f32⟩
  | .hbm, ⟨33, _⟩ => ⟨S2x16384x4, .i1⟩
  | .hbm, ⟨34, _⟩ => ⟨S2x16384x4, .f32⟩
  | .hbm, ⟨35, _⟩ => ⟨S2x16384x4, .f32⟩
  | .hbm, ⟨36, _⟩ => ⟨S2x16384x4, .f32⟩
  | .hbm, ⟨37, _⟩ => ⟨S2x16384x4, .f32⟩
  | .hbm, ⟨38, _⟩ => ⟨S2x16384x4, .f32⟩
  | .hbm, ⟨39, _⟩ => ⟨S2x16384x4, .f32⟩
  | .hbm, ⟨40, _⟩ => ⟨S2x16384x4, .f32⟩
  | .hbm, ⟨41, _⟩ => ⟨S2x16384x4, .f32⟩
  | .hbm, ⟨42, _⟩ => ⟨S1x1x4, .f32⟩
  | .hbm, ⟨43, _⟩ => ⟨S2x16384x4, .f32⟩
  | .hbm, ⟨44, _⟩ => ⟨S2x16384x4, .f32⟩
  | .hbm, ⟨45, _⟩ => ⟨S2x16384x4, .f32⟩
  | .hbm, ⟨46, _⟩ => ⟨S2x16384x4, .f32⟩
  | .hbm, ⟨47, _⟩ => ⟨S2x16384x4, .f32⟩
  | .hbm, ⟨48, _⟩ => ⟨S_, .f32⟩
  | .hbm, ⟨49, _⟩ => ⟨S2x16384x4, .f32⟩
  | .hbm, ⟨50, _⟩ => ⟨S2x16384x4, .f32⟩
  | .hbm, ⟨51, _⟩ => ⟨S_, .f32⟩
  | .hbm, ⟨52, _⟩ => ⟨S2x16384x4, .f32⟩
  | .hbm, ⟨53, _⟩ => ⟨S2x16384x4, .f32⟩
  | .hbm, ⟨54, _⟩ => ⟨S2x16384x1536, .f32⟩
  | .hbm, ⟨55, _⟩ => ⟨S2x16384x512, .f32⟩
  | .hbm, ⟨56, _⟩ => ⟨S2x16384x512, .f32⟩
  | .hbm, ⟨57, _⟩ => ⟨S2x16384x512, .f32⟩
  | .hbm, ⟨58, _⟩ => ⟨S_, .f32⟩
  | .hbm, ⟨59, _⟩ => ⟨S2x16384x512, .f32⟩
  | .hbm, ⟨60, _⟩ => ⟨S2x16384x512, .f32⟩
  | .hbm, ⟨61, _⟩ => ⟨S_, .f32⟩
  | .hbm, ⟨62, _⟩ => ⟨S2x16384x512, .f32⟩
  | .hbm, ⟨63, _⟩ => ⟨S2x16384x512, .f32⟩
  | .hbm, ⟨64, _⟩ => ⟨S2x16384x512, .f32⟩
  | .hbm, ⟨65, _⟩ => ⟨S2x16384x4x128, .f32⟩
  | .hbm, ⟨66, _⟩ => ⟨S2x16384x512, .f32⟩
  | .hbm, ⟨67, _⟩ => ⟨S2x16384x4x128, .f32⟩
  | .hbm, ⟨68, _⟩ => ⟨S2x16384x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S1x1024 : Shape := ⟨2, ![1, 1024]⟩
abbrev S1x256 : Shape := ⟨2, ![1, 256]⟩
abbrev S2x4x256x256 : Shape := ⟨4, ![2, 4, 256, 256]⟩
abbrev S1x256x1024 : Shape := ⟨3, ![1, 256, 1024]⟩
abbrev S1x4x256x256 : Shape := ⟨4, ![1, 4, 256, 256]⟩
abbrev S256x1024 : Shape := ⟨2, ![256, 1024]⟩
abbrev S256x1 : Shape := ⟨2, ![256, 1]⟩
abbrev S256x2048 : Shape := ⟨2, ![256, 2048]⟩
abbrev S256x256 : Shape := ⟨2, ![256, 256]⟩
abbrev S1x1x256x256 : Shape := ⟨4, ![1, 1, 256, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S1x1024, .f32⟩
  | .hbm, ⟨5, _⟩ => ⟨S1024x2048, .bf16⟩
  | .hbm, ⟨6, _⟩ => ⟨S1x256, .f32⟩
  | .hbm, ⟨7, _⟩ => ⟨S2x4x256x256, .bf16⟩
  | .hbm, ⟨8, _⟩ => ⟨S2x4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x4x256x256, .bf16⟩
  | .local _ .vmem, ⟨6, _⟩ => ⟨S1x4x256x256, .bf16⟩
  | .local _ .vmem, ⟨7, _⟩ => ⟨S1x4x256x256, .bf16⟩
  | .local _ .vmem, ⟨8, _⟩ => ⟨S1x4x256x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩
abbrev S2x4x256x256 : Shape := ⟨4, ![2, 4, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S256, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x2048, .f32⟩
  | .hbm, ⟨21, _⟩ => ⟨S2x256x1024, .f32⟩
  | .hbm, ⟨22, _⟩ => ⟨S2x256x4x256, .f32⟩
  | .hbm, ⟨23, _⟩ => ⟨S2x256x4x256, .f32⟩
  | .hbm, ⟨24, _⟩ => ⟨S_, .f32⟩
  | .hbm, ⟨25, _⟩ => ⟨S2x256x4, .f32⟩
  | .hbm, ⟨26, _⟩ => ⟨S2x256x4x1, .f32⟩
  | .hbm, ⟨27, _⟩ => ⟨S_, .f32⟩
  | .hbm, ⟨28, _⟩ => ⟨S2x256x4x1, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S2x256x4x1, .f32⟩
  | .hbm, ⟨34, _⟩ => ⟨S2x256x4x256, .f32⟩
  | .hbm, ⟨35, _⟩ => ⟨S2x256x4x256, .f32⟩
  | .hbm, ⟨36, _⟩ => ⟨S1x1x1x256, .f32⟩
  | .hbm, ⟨37, _⟩ => ⟨S2x256x4x256, .f32⟩
  | .hbm, ⟨38, _⟩ => ⟨S2x256x4x256, .f32⟩
  | .hbm, ⟨39, _⟩ => ⟨S2x256x1024, .f32⟩
  | .hbm, ⟨40, _⟩ => ⟨S2x256x4x256, .f32⟩
  | .hbm, ⟨41, _⟩ => ⟨S2x4x256x256, .f32⟩
  | .hbm, ⟨42, _⟩ => ⟨S2x4x256x256, .bf16⟩
  | .hbm, ⟨43, _⟩ => ⟨S2x4x256x256, .f32⟩
  | .hbm, ⟨44, _⟩ => ⟨S2x4x256x256, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x3600 : Shape := ⟨2, ![1024, 3600]⟩
abbrev S64 : Shape := ⟨1, ![64]⟩
abbrev S8 : Shape := ⟨1, ![8]⟩
abbrev S2 : Shape := ⟨1, ![2]⟩
abbrev S_ : Shape := ⟨0, ![]⟩
abbrev S8x256x128 : Shape := ⟨3, ![8, 256, 128]⟩
abbrev S8x1 : Shape := ⟨2, ![8, 1]⟩
abbrev S8x3 : Shape := ⟨2, ![8, 3]⟩
abbrev S1x128 : Shape := ⟨2, ![1, 128]⟩
abbrev S2x1 : Shape := ⟨2, ![2, 1]⟩
abbrev S2x2 : Shape := ⟨2, ![2, 2]⟩
abbrev S1024x512 : Shape := ⟨2, ![1024, 512]⟩
abbrev S1024x8x128 : Shape := ⟨3, ![1024, 8, 128]⟩
abbrev S1024x8x64 : Shape := ⟨3, ![1024, 8, 64]⟩
abbrev S1 : Shape := ⟨1, ![1]⟩
abbrev S1024x1024 : Shape := ⟨2, ![1024, 1024]⟩
abbrev S1024x128 : Shape := ⟨2, ![1024, 128]⟩
abbrev S1024x8 : Shape := ⟨2, ![1024, 8]⟩
abbrev S1x1024 : Shape := ⟨2, ![1, 1024]⟩
abbrev S2x8x16384x128 : Shape := ⟨4, ![2, 8, 16384, 128]⟩
abbrev S2x16384x512 : Shape := ⟨3, ![2, 16384, 512]⟩
abbrev S2x32x8x128 : Shape := ⟨4, ![2, 32, 8, 128]⟩
abbrev S1x512x1024 : Shape := ⟨3, ![1, 512, 1024]⟩
abbrev S1x8x512x128 : Shape := ⟨4, ![1, 8, 512, 128]⟩
abbrev S1x512x512 : Shape := ⟨3, ![1, 512, 512]⟩
abbrev S1x1x8x128 : Shape := ⟨4, ![1, 1, 8, 128]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S512x256 : Shape := ⟨2, ![512, 256]⟩
abbrev S128x128 : Shape := ⟨2, ![128, 128]⟩
abbrev S1x256x128 : Shape := ⟨3, ![1, 256, 128]⟩
abbrev S256x128 : Shape := ⟨2, ![256, 128]⟩
abbrev S1x1x512x128 : Shape := ⟨4, ![1, 1, 512, 128]⟩

abbrev nBuf : Space → Nat
  | .hbm => 219
  | .vmem => 23
  | .smem => 0
  | _ => 0

abbrev hbmTy0_0 (i : Nat) : BufTy := match i % 128 with
  | 0 => ⟨S2x16384x1024, .f32⟩
  | 1 => ⟨S1024, .f32⟩
  | 2 => ⟨S1024x3600, .f32⟩
  | 3 => ⟨S64, .f32⟩
  | 4 => ⟨S64, .f32⟩
  | 5 => ⟨S8, .f32⟩
  | 6 => ⟨S2, .i32⟩
  | 7 => ⟨S2, .i32⟩
  | 8 => ⟨S_, .f32⟩
  | 9 => ⟨S8x256x128, .f32⟩
  | 10 => ⟨S8, .i32⟩
  | 11 => ⟨S_, .i32⟩
  | 12 => ⟨S8, .i32⟩
  | 13 => ⟨S8, .i1⟩
  | 14 => ⟨S_, .i32⟩
  | 15 => ⟨S8, .i32⟩
  | 16 => ⟨S8, .i32⟩
  | 17 => ⟨S8, .i32⟩
  | 18 => ⟨S_, .i32⟩
  | 19 => ⟨S8, .i32⟩
  | 20 => ⟨S8, .i1⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i32⟩
  | 28 => ⟨S8x1, .i32⟩
  | 29 => ⟨S8x1, .i32⟩
  | 30 => ⟨S8x1, .i32⟩
  | 31 => ⟨S8x3, .i32⟩
  | 32 => ⟨S_, .f32⟩
  | 33 => ⟨S8, .f32⟩
  | 34 => ⟨S8x256x128, .f32⟩
  | 35 => ⟨S_, .i32⟩
  | 36 => ⟨S8, .i32⟩
  | 37 => ⟨S8, .i32⟩
  | 38 => ⟨S_, .i32⟩
  | 39 => ⟨S8, .i32⟩
  | 40 => ⟨S8, .i1⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i1⟩
  | 48 => ⟨S_, .i32⟩
  | 49 => ⟨S8, .i32⟩
  | 50 => ⟨S8, .i32⟩
  | 51 => ⟨S8, .i32⟩
  | 52 => ⟨S_, .i32⟩
  | 53 => ⟨S8, .i32⟩
  | 54 => ⟨S8, .i32⟩
  | 55 => ⟨S8x1, .i32⟩
  | 56 => ⟨S8x1, .i32⟩
  | 57 => ⟨S8x1, .i32⟩
  | 58 => ⟨S8x3, .i32⟩
  | 59 => ⟨S_, .f32⟩
  | 60 => ⟨S8, .f32⟩
  | 61 => ⟨S8x256x128, .f32⟩
  | 62 => ⟨S8x256x128, .bf16⟩
  | 63 => ⟨S_, .f32⟩
  | 64 => ⟨S8x256x128, .f32⟩
  | 65 => ⟨S8, .i32⟩
  | 66 => ⟨S_, .i32⟩
  | 67 => ⟨S8, .i32⟩
  | 68 => ⟨S8, .i1⟩
  | 69 => ⟨S_, .i32⟩
  | 70 => ⟨S8, .i32⟩
  | 71 => ⟨S8, .i32⟩
  | 72 => ⟨S8, .i32⟩
  | 73 => ⟨S_, .i32⟩
  | 74 => ⟨S8, .i32⟩
  | 75 => ⟨S8, .i1⟩
  | 76 => ⟨S_, .i32⟩
  | 77 => ⟨S8, .i32⟩
  | 78 => ⟨S8, .i32⟩
  | 79 => ⟨S8, .i32⟩
  | 80 => ⟨S_, .i32⟩
  | 81 => ⟨S8, .i32⟩
  | 82 => ⟨S8, .i32⟩
  | 83 => ⟨S8x1, .i32⟩
  | 84 => ⟨S8x1, .i32⟩
  | 85 => ⟨S8x1, .i32⟩
  | 86 => ⟨S8x3, .i32⟩
  | 87 => ⟨S_, .f32⟩
  | 88 => ⟨S8, .f32⟩
  | 89 => ⟨S8x256x128, .f32⟩
  | 90 => ⟨S_, .i32⟩
  | 91 => ⟨S8, .i32⟩
  | 92 => ⟨S8, .i32⟩
  | 93 => ⟨S_, .i32⟩
  | 94 => ⟨S8, .i32⟩
  | 95 => ⟨S8, .i1⟩
  | 96 => ⟨S_, .i32⟩
  | 97 => ⟨S8, .i32⟩
  | 98 => ⟨S8, .i32⟩
  | 99 => ⟨S8, .i32⟩
  | 100 => ⟨S_, .i32⟩
  | 101 => ⟨S8, .i32⟩
  | 102 => ⟨S8, .i1⟩
  | 103 => ⟨S_, .i32⟩
  | 104 => ⟨S8, .i32⟩
  | 105 => ⟨S8, .i32⟩
  | 106 => ⟨S8, .i32⟩
  | 107 => ⟨S_, .i32⟩
  | 108 => ⟨S8, .i32⟩
  | 109 => ⟨S8, .i32⟩
  | 110 => ⟨S8x1, .i32⟩
  | 111 => ⟨S8x1, .i32⟩
  | 112 => ⟨S8x1, .i32⟩
  | 113 => ⟨S8x3, .i32⟩
  | 114 => ⟨S_, .f32⟩
  | 115 => ⟨S8, .f32⟩
  | 116 => ⟨S8x256x128, .f32⟩
  | 117 => ⟨S8x256x128, .bf16⟩
  | 118 => ⟨S_, .f32⟩
  | 119 => ⟨S1x128, .f32⟩
  | 120 => ⟨S_, .i32⟩
  | 121 => ⟨S2, .i32⟩
  | 122 => ⟨S2, .i1⟩
  | 123 => ⟨S_, .i32⟩
  | 124 => ⟨S2, .i32⟩
  | 125 => ⟨S2, .i32⟩
  | 126 => ⟨S2, .i32⟩
  | 127 => ⟨S_, .i32⟩
  | _ => ⟨S2x16384x1024, .f32⟩

abbrev hbmTy0_1 (i : Nat) : BufTy := match i % 128 with
  | 0 => ⟨S2, .i32⟩
  | 1 => ⟨S2, .i32⟩
  | 2 => ⟨S2x1, .i32⟩
  | 3 => ⟨S2x1, .i32⟩
  | 4 => ⟨S2x2, .i32⟩
  | 5 => ⟨S_, .f32⟩
  | 6 => ⟨S2, .f32⟩
  | 7 => ⟨S1x128, .f32⟩
  | 8 => ⟨S_, .f32⟩
  | 9 => ⟨S1x128, .f32⟩
  | 10 => ⟨S_, .i32⟩
  | 11 => ⟨S2, .i32⟩
  | 12 => ⟨S2, .i1⟩
  | 13 => ⟨S_, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S2x1, .i32⟩
  | 21 => ⟨S2x1, .i32⟩
  | 22 => ⟨S2x2, .i32⟩
  | 23 => ⟨S_, .f32⟩
  | 24 => ⟨S2, .f32⟩
  | 25 => ⟨S1x128, .f32⟩
  | 26 => ⟨S1024x512, .f32⟩
  | 27 => ⟨S_, .f32⟩
  | 28 => ⟨S1024x8x128, .f32⟩
  | 29 => ⟨S1024x8x64, .f32⟩
  | 30 => ⟨S_, .i32⟩
  | 31 => ⟨S1, .i32⟩
  | 32 => ⟨S1024x8x128, .f32⟩
  | 33 => ⟨S1024x1024, .f32⟩
  | 34 => ⟨S1024x1024, .bf16⟩
  | 35 => ⟨S1024x512, .f32⟩
  | 36 => ⟨S_, .f32⟩
  | 37 => ⟨S1024x8x128, .f32⟩
  | 38 => ⟨S1024x8x64, .f32⟩
  | 39 => ⟨S_, .i32⟩
  | 40 => ⟨S1, .i32⟩
  | 41 => ⟨S1024x8x128, .f32⟩
  | 42 => ⟨S1024x1024, .f32⟩
  | 43 => ⟨S1024x1024, .bf16⟩
  | 44 => ⟨S1024x512, .f32⟩
  | 45 => ⟨S1024x512, .bf16⟩
  | 46 => ⟨S_, .f32⟩
  | 47 => ⟨S1024x128, .f32⟩
  | 48 => ⟨S1024x8, .f32⟩
  | 49 => ⟨S_, .i32⟩
  | 50 => ⟨S1, .i32⟩
  | 51 => ⟨S1024x128, .f32⟩
  | 52 => ⟨S1024x128, .bf16⟩
  | 53 => ⟨S1x1024, .f32⟩
  | 54 => ⟨S_, .f32⟩
  | 55 => ⟨S1x128, .f32⟩
  | 56 => ⟨S_, .f32⟩
  | 57 => ⟨S8, .f32⟩
  | 58 => ⟨S8, .f32⟩
  | 59 => ⟨S_, .i32⟩
  | 60 => ⟨S1, .i32⟩
  | 61 => ⟨S_, .i32⟩
  | 62 => ⟨S1, .i32⟩
  | 63 => ⟨S2, .i32⟩
  | 64 => ⟨S1x128, .f32⟩
  | 65 => ⟨S_, .f32⟩
  | 66 => ⟨S1x128, .f32⟩
  | 67 => ⟨S_, .f32⟩
  | 68 => ⟨S64, .f32⟩
  | 69 => ⟨S64, .f32⟩
  | 70 => ⟨S_, .i32⟩
  | 71 => ⟨S1, .i32⟩
  | 72 => ⟨S_, .i32⟩
  | 73 => ⟨S1, .i32⟩
  | 74 => ⟨S2, .i32⟩
  | 75 => ⟨S1x128, .f32⟩
  | 76 => ⟨S_, .f32⟩
  | 77 => ⟨S1x128, .f32⟩
  | 78 => ⟨S_, .f32⟩
  | 79 => ⟨S64, .f32⟩
  | 80 => ⟨S64, .f32⟩
  | 81 => ⟨S_, .i32⟩
  | 82 => ⟨S1, .i32⟩
  | 83 => ⟨S_, .i32⟩
  | 84 => ⟨S1, .i32⟩
  | 85 => ⟨S2, .i32⟩
  | 86 => ⟨S1x128, .f32⟩
  | 87 => ⟨S2x8x16384x128, .bf16⟩
  | 88 => ⟨S2x8x16384x128, .bf16⟩
  | 89 => ⟨S2x16384x512, .bf16⟩
  | 90 => ⟨S2x32x8x128, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8x256x128, .bf16⟩
  | .local _ .vmem, ⟨11, _⟩ => ⟨S8x256x128, .bf16⟩
  | .local _ .vmem, ⟨12, _⟩ => ⟨S1x128, .f32⟩
  | .local _ .vmem, ⟨13, _⟩ => ⟨S1x128, .f32⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x512x512, .bf16⟩
  | .local _ .vmem, ⟨19, _⟩ => ⟨S1x512x512, .bf16⟩
  | .local _ .vmem, ⟨20, _⟩ => ⟨S1x1x8x128, .f32⟩
  | .local _ .vmem, ⟨21, _⟩ => ⟨S1x1x8x128, .f32⟩
  | .local _ .vmem, ⟨22, _⟩ => ⟨S8x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_c_1 : Ref sig .tc := ⟨.hbm, 11, rfl⟩
abbrev main_v2 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_c_8 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_10 : Ref sig .tc := ⟨.hbm, 45, rfl⟩
abbrev main_v27 : Ref sig .tc := ⟨.hbm, 46, rfl⟩
abbrev main_v28 : Ref sig .tc := ⟨.hbm, 47, rfl⟩
abbrev main_c_11 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_12 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_14 : Ref sig .tc := ⟨.hbm, 63, rfl⟩
abbrev main_v41 : Ref sig .tc := ⟨.hbm, 64, rfl⟩
abbrev main_v42 : Ref sig .tc := ⟨.hbm, 65, rfl⟩
abbrev main_c_15 : Ref sig .tc := ⟨.hbm, 66, rfl⟩
abbrev main_v43 : Ref sig .tc := ⟨.hbm, 67, rfl⟩
abbrev main_v44 : Ref sig .tc := ⟨.hbm, 68, rfl⟩
abbrev main_c_16 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_17 : Ref sig .tc := ⟨.hbm, 73, rfl⟩
abbrev main_v48 : Ref sig .tc := ⟨.hbm, 74, rfl⟩
abbrev main_v49 : Ref sig .tc := ⟨.hbm, 75, rfl⟩
abbrev main_c_18 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_19 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_20 : Ref sig .tc := ⟨.hbm, 87, rfl⟩
abbrev main_v59 : Ref sig .tc := ⟨.hbm, 88, rfl⟩
abbrev main_v60 : Ref sig .tc := ⟨.hbm, 89, rfl⟩
abbrev main_c_21 : Ref sig .tc := ⟨.hbm, 90, rfl⟩
abbrev main_v61 : Ref sig .tc := ⟨.hbm, 91, rfl⟩
abbrev main_v62 : Ref sig .tc := ⟨.hbm, 92, rfl⟩
abbrev main_c_22 : Ref sig .tc := ⟨.hbm, 93, rfl⟩
abbrev main_v63 : Ref sig .tc := ⟨.hbm, 94, rfl⟩
abbrev main_v64 : Ref sig .tc := ⟨.hbm, 95, rfl⟩
abbrev main_c_23 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_24 : Ref sig .tc := ⟨.hbm, 100, rfl⟩
abbrev main_v68 : Ref sig .tc := ⟨.hbm, 101, rfl⟩
abbrev main_v69 : Ref sig .tc := ⟨.hbm, 102, rfl⟩
abbrev main_c_25 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_26 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_27 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_28 : Ref sig .tc := ⟨.hbm, 118, rfl⟩
abbrev main_v82 : Ref sig .tc := ⟨.hbm, 119, rfl⟩
abbrev main_c_29 : Ref sig .tc := ⟨.hbm, 120, rfl⟩
abbrev main_v83 : Ref sig .tc := ⟨.hbm, 121, rfl⟩
abbrev main_v84 : Ref sig .tc := ⟨.hbm, 122, rfl⟩
abbrev main_c_30 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_31 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_32 : Ref sig .tc := ⟨.hbm, 133, rfl⟩
abbrev main_v93 : Ref sig .tc := ⟨.hbm, 134, rfl⟩
abbrev main_v94 : Ref sig .tc := ⟨.hbm, 135, rfl⟩
abbrev main_cst_33 : Ref sig .tc := ⟨.hbm, 136, rfl⟩
abbrev main_v95 : Ref sig .tc := ⟨.hbm, 137, rfl⟩
abbrev main_c_34 : Ref sig .tc := ⟨.hbm, 138, rfl⟩
abbrev main_v96 : Ref sig .tc := ⟨.hbm, 139, rfl⟩
abbrev main_v97 : Ref sig .tc := ⟨.hbm, 140, rfl⟩
abbrev main_c_35 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_36 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_37 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_38 : Ref sig .tc := ⟨.hbm, 155, rfl⟩
abbrev main_v109 : Ref sig .tc := ⟨.hbm, 156, rfl⟩
abbrev main_v110 : Ref sig .tc := ⟨.hbm, 157, rfl⟩
abbrev main_c_39 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_40 : Ref sig .tc := ⟨.hbm, 164, rfl⟩
abbrev main_v116 : Ref sig .tc := ⟨.hbm, 165, rfl⟩
abbrev main_v117 : Ref sig .tc := ⟨.hbm, 166, rfl⟩
abbrev main_c_41 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_42 : Ref sig .tc := ⟨.hbm, 174, rfl⟩
abbrev main_v124 : Ref sig .tc := ⟨.hbm, 175, rfl⟩
abbrev main_v125 : Ref sig .tc := ⟨.hbm, 176, rfl⟩
abbrev main_c_43 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_44 : Ref sig .tc := ⟨.hbm, 182, rfl⟩
abbrev main_v130 : Ref sig .tc := ⟨.hbm, 183, rfl⟩
abbrev main_cst_45 : Ref sig .tc := ⟨.hbm, 184, rfl⟩
abbrev main_v131 : Ref sig .tc := ⟨.hbm, 185, rfl⟩
abbrev main_v132 : Ref sig .tc := ⟨.hbm, 186, rfl⟩
abbrev main_c_46 : Ref sig .tc := ⟨.hbm, 187, rfl⟩
abbrev main_v133 : Ref sig .tc := ⟨.hbm, 188, rfl⟩
abbrev main_c_47 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_48 : Ref sig .tc := ⟨.hbm, 193, rfl⟩
abbrev main_v137 : Ref sig .tc := ⟨.hbm, 194, rfl⟩
abbrev main_cst_49 : Ref sig .tc := ⟨.hbm, 195, rfl⟩
abbrev main_v138 : Ref sig .tc := ⟨.hbm, 196, rfl⟩
abbrev main_v139 : Ref sig .tc := ⟨.hbm, 197, rfl⟩
abbrev main_c_50 : Ref sig .tc := ⟨.hbm, 198, rfl⟩
abbrev main_v140 : Ref sig .tc := ⟨.hbm, 199, rfl⟩
abbrev main_c_51 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_52 : Ref sig .tc := ⟨.hbm, 204, rfl⟩
abbrev main_v144 : Ref sig .tc := ⟨.hbm, 205, rfl⟩
abbrev main_cst_53 : Ref sig .tc := ⟨.hbm, 206, rfl⟩
abbrev main_v145 : Ref sig .tc := ⟨.hbm, 207, rfl⟩
abbrev main_v146 : Ref sig .tc := ⟨.hbm, 208, rfl⟩
abbrev main_c_54 : Ref sig .tc := ⟨.hbm, 209, rfl⟩
abbrev main_v147 : Ref sig .tc := ⟨.hbm, 210, rfl⟩
abbrev main_c_55 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151_0 : Ref sig .tc := ⟨.hbm, 215, rfl⟩
abbrev main_v151_1 : Ref sig .tc := ⟨.hbm, 216, rfl⟩
abbrev main_v151_2 : Ref sig .tc := ⟨.hbm, 217, rfl⟩
abbrev main_v151_3 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S2x16384x1024 : Shape := ⟨3, ![2, 16384, 1024]⟩
abbrev S1024 : Shape := ⟨1, ![1024]⟩
abbrev S1024x3600 : Shape := ⟨2, ![1024, 3600]⟩
abbrev S64 : Shape := ⟨1, ![64]⟩
abbrev S8 : Shape := ⟨1, ![8]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3600 : Shape := ⟨3, ![2, 16384, 3600]⟩
abbrev S2x16384x512 : Shape := ⟨3, ![2, 16384, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S1x1x8 : Shape := ⟨3, ![1, 1, 8]⟩
abbrev S2x16384x128 : Shape := ⟨3, ![2, 16384, 128]⟩
abbrev S2x32x512x128 : Shape := ⟨4, ![2, 32, 512, 128]⟩
abbrev S2x31x1x128 : Shape := ⟨4, ![2, 31, 1, 128]⟩
abbrev S2x31x128 : Shape := ⟨3, ![2, 31, 128]⟩
abbrev S2x32x128 : Shape := ⟨3, ![2, 32, 128]⟩
abbrev S2x32x1x128 : Shape := ⟨4, ![2, 32, 1, 128]⟩
abbrev S2x16384x8x60 : Shape := ⟨4, ![2, 16384, 8, 60]⟩
abbrev S2x16384x8x128 : Shape := ⟨4, ![2, 16384, 8, 128]⟩
abbrev S2x8x16384x128 : Shape := ⟨4, ![2, 8, 16384, 128]⟩
abbrev S2x32x1x8x128 : Shape := ⟨5, ![2, 32, 1, 8, 128]⟩
abbrev S2x32x8x128 : Shape := ⟨4, ![2, 32, 8, 128]⟩

abbrev nBuf : Space → Nat
  | .hbm => 118
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S2x16384x3600, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x8x64, .f32⟩
  | .hbm, ⟨27, _⟩ => ⟨S2x16384x8x64, .f32⟩
  | .hbm, ⟨28, _⟩ => ⟨S_, .f32⟩
  | .hbm, ⟨29, _⟩ => ⟨S2x16384x8, .f32⟩
  | .hbm, ⟨30, _⟩ => ⟨S2x16384x8x1, .f32⟩
  | .hbm, ⟨31, _⟩ => ⟨S_, .f32⟩
  | .hbm, ⟨32, _⟩ => ⟨S2x16384x8x1, .f32⟩
  | .hbm, ⟨33, _⟩ => ⟨S2x16384x8x1, .f32⟩
  | .hbm, ⟨34, _⟩ => ⟨S_, .f32⟩
  | .hbm, ⟨35, _⟩ => ⟨S2x16384x8x1, .f32⟩
  | .hbm, ⟨36, _⟩ => ⟨S2x16384x8x1, .f32⟩
  | .hbm, ⟨37, _⟩ => ⟨S2x16384x8x1, .f32⟩
  | .hbm, ⟨38, _⟩ => ⟨S2x16384x8x64, .f32⟩
  | .hbm, ⟨39, _⟩ => ⟨S2x16384x8x64, .f32⟩
  | .hbm, ⟨40, _⟩ => ⟨S1x1x1x64, .f32⟩
  | .hbm, ⟨41, _⟩ => ⟨S2x16384x8x64, .f32⟩
  | .hbm, ⟨42, _⟩ => ⟨S2x16384x8x64, .f32⟩
  | .hbm, ⟨43, _⟩ => ⟨S_, .f32⟩
  | .hbm, ⟨44, _⟩ => ⟨S2x16384x8x64, .f32⟩
  | .hbm, ⟨45, _⟩ => ⟨S2x16384x8x64, .f32⟩
  | .hbm, ⟨46, _⟩ => ⟨S2x16384x8x64, .f32⟩
  | .hbm, ⟨47, _⟩ => ⟨S2x16384x8x64, .f32⟩
  | .hbm, ⟨48, _⟩ => ⟨S_, .f32⟩
  | .hbm, ⟨49, _⟩ => ⟨S2x16384x8, .f32⟩
  | .hbm, ⟨50, _⟩ => ⟨S2x16384x8x1, .f32⟩
  | .hbm, ⟨51, _⟩ => ⟨S_, .f32⟩
  | .hbm, ⟨52, _⟩ => ⟨S2x16384x8x1, .f32⟩
  | .hbm, ⟨53, _⟩ => ⟨S2x16384x8x1, .f32⟩
  | .hbm, ⟨54, _⟩ => ⟨S_, .f32⟩
  | .hbm, ⟨55, _⟩ => ⟨S2x16384x8x1, .f32⟩
  | .hbm, ⟨56, _⟩ => ⟨S2x16384x8x1, .f32⟩
  | .hbm, ⟨57, _⟩ => ⟨S2x16384x8x1, .f32⟩
  | .hbm, ⟨58, _⟩ => ⟨S2x16384x8x64, .f32⟩
  | .hbm, ⟨59, _⟩ => ⟨S2x16384x8x64, .f32⟩
  | .hbm, ⟨60, _⟩ => ⟨S1x1x1x64, .f32⟩
  | .hbm, ⟨61, _⟩ => ⟨S2x16384x8x64, .f32⟩
  | .hbm, ⟨62, _⟩ => ⟨S2x16384x8x64, .f32⟩
  | .hbm, ⟨63, _⟩ => ⟨S2x16384x8, .f32⟩
  | .hbm, ⟨64, _⟩ => ⟨S1x1x8, .f32⟩
  | .hbm, ⟨65, _⟩ => ⟨S2x16384x8, .f32⟩
  | .hbm, ⟨66, _⟩ => ⟨S2x16384x8, .f32⟩
  | .hbm, ⟨67, _⟩ => ⟨S_, .i32⟩
  | .hbm, ⟨68, _⟩ => ⟨S_, .f32⟩
  | .hbm, ⟨69, _⟩ => ⟨S2x16384x128, .f32⟩
  | .hbm, ⟨70, _⟩ => ⟨S2x16384x128, .f32⟩
  | .hbm, ⟨71, _⟩ => ⟨S_, .f32⟩
  | .hbm, ⟨72, _⟩ => ⟨S2x16384x128, .f32⟩
  | .hbm, ⟨73, _⟩ => ⟨S2x16384x128, .f32⟩
  | .hbm, ⟨74, _⟩ => ⟨S2x16384x128, .f32⟩
  | .hbm, ⟨75, _⟩ => ⟨S2x16384x128, .f32⟩
  | .hbm, ⟨76, _⟩ => ⟨S2x16384x128, .i1⟩
  | .hbm, ⟨77, _⟩ => ⟨S2x16384x128, .f32⟩
  | .hbm, ⟨78, _⟩ => ⟨S2x16384x128, .f32⟩
  | .hbm, ⟨79, _⟩ => ⟨S2x16384x128, .f32⟩
  | .hbm, ⟨80, _⟩ => ⟨S2x16384x128, .f32⟩
  | .hbm, ⟨81, _⟩ => ⟨S2x16384x128, .f32⟩
  | .hbm, ⟨82, _⟩ => ⟨S2x16384x128, .f32⟩
  | .hbm, ⟨83, _⟩ => ⟨S2x16384x128, .f32⟩
  | .hbm, ⟨84, _⟩ => ⟨S2x16384x128, .f32⟩
  | .hbm, ⟨85, _⟩ => ⟨S2x16384x128, .f32⟩
  | .hbm, ⟨86, _⟩ => ⟨S_, .f32⟩
  | .hbm, ⟨87, _⟩ => ⟨S_, .f32⟩
  | .hbm, ⟨88, _⟩ => ⟨S2x16384x128, .f32⟩
  | .hbm, ⟨89, _⟩ => ⟨S2x32x512x128, .f32⟩
  | .hbm, ⟨90, _⟩ => ⟨S2x31x1x128, .f32⟩
  | .hbm, ⟨91, _⟩ => ⟨S2x31x128, .f32⟩
  | .hbm, ⟨92, _⟩ => ⟨S_, .i32⟩
  | .hbm, ⟨93, _⟩ => ⟨S_, .f32⟩
  | .hbm, ⟨94, _⟩ => ⟨S2x32x128, .f32⟩
  | .hbm, ⟨95, _⟩ => ⟨S2x32x1x128, .f32⟩
  | .hbm, ⟨96, _⟩ => ⟨S2x32x512x128, .f32⟩
  | .hbm, ⟨97, _⟩ => ⟨S2x32x512x128, .f32⟩
  | .hbm, ⟨98, _⟩ => ⟨S2x16384x128, .f32⟩
  | .hbm, ⟨99, _⟩ => ⟨S2x16384x8, .f32⟩
  | .hbm, ⟨100, _⟩ => ⟨S2x16384x8x1, .f32⟩
  | .hbm, ⟨101, _⟩ => ⟨S_, .f32⟩
  | .hbm, ⟨102, _⟩ => ⟨S2x16384x8x1, .f32⟩
  | .hbm, ⟨103, _⟩ => ⟨S_, .f32⟩
  | .hbm, ⟨104, _⟩ => ⟨S2x16384x8x1, .f32⟩
  | .hbm, ⟨105, _⟩ => ⟨S_, .f32⟩
  | .hbm, ⟨106, _⟩ => ⟨S2x16384x8x60, .f32⟩
  | .hbm, ⟨107, _⟩ => ⟨S2x16384x8x128, .f32⟩
  | .hbm, ⟨108, _⟩ => ⟨S2x16384x8x1, .f32⟩
  | .hbm, ⟨109, _⟩ => ⟨S2x16384x8x128, .f32⟩
  | .hbm, ⟨110, _⟩ => ⟨S2x8x16384x128, .f32⟩
  | .hbm, ⟨111, _⟩ => ⟨S2x8x16384x128, .bf16⟩
  | .hbm, ⟨112, _⟩ => ⟨S2x8x16384x128, .f32⟩
  | .hbm, ⟨113, _⟩ => ⟨S2x8x16384x128, .bf16⟩
  | .hbm, ⟨114, _⟩ => ⟨S2x16384x512, .bf16⟩
  | .hbm, ⟨115, _⟩ => ⟨S2x32x1x128, .f32⟩
  | .hbm, ⟨116, _⟩ => ⟨S2x32x1x8x128, .f32⟩
  | .hbm, ⟨117, _⟩ => ⟨S2x32x8x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_call0_v0 : Ref sig .tc := ⟨.hbm, 68, rfl⟩
abbrev main_v51 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1 : Ref sig .tc := ⟨.hbm, 84, rfl⟩
abbrev main_v52 : Ref sig .tc := ⟨.hbm, 85, rfl⟩
abbrev main_call2_call0_cst : Ref sig .tc := ⟨.hbm, 86, rfl⟩
abbrev main_call2_call0_v0 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_call3_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_cst_11 : Ref sig .tc := ⟨.hbm, 103, rfl⟩
abbrev main_v65 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]
-- ==== Kernel6.lean ====
abbrev S2x16384x1536 : Shape := ⟨3, ![2, 16384, 1536]⟩
abbrev S2x16384x512 : Shape := ⟨3, ![2, 16384, 512]⟩
abbrev S4x1x1536 : Shape := ⟨3, ![4, 1, 1536]⟩
abbrev S128 : Shape := ⟨1, ![128]⟩
abbrev S4x1536 : Shape := ⟨2, ![4, 1536]⟩
abbrev S1x128 : Shape := ⟨2, ![1, 128]⟩
abbrev S1x64x1536 : Shape := ⟨3, ![1, 64, 1536]⟩
abbrev S1x64x512 : Shape := ⟨3, ![1, 64, 512]⟩
abbrev S72x1536 : Shape := ⟨2, ![72, 1536]⟩
abbrev S4x128x128 : Shape := ⟨3, ![4, 128, 128]⟩
abbrev S8x1536 : Shape := ⟨2, ![8, 1536]⟩
abbrev S64x1536 : Shape := ⟨2, ![64, 1536]⟩
abbrev S1x1536 : Shape := ⟨2, ![1, 1536]⟩
abbrev S64x64 : Shape := ⟨2, ![64, 64]⟩
abbrev S128x128 : Shape := ⟨2, ![128, 128]⟩
abbrev S64x128 : Shape := ⟨2, ![64, 128]⟩
abbrev S1x64x128 : Shape := ⟨3, ![1, 64, 128]⟩
abbrev S1x128x128 : Shape := ⟨3, ![1, 128, 128]⟩
abbrev S128x64 : Shape := ⟨2, ![128, 64]⟩

abbrev nBuf : Space → Nat
  | .hbm => 9
  | .vmem => 14
  | .smem => 0
  | _ => 0

abbrev bufTy : (tb : Table) → Fin (tcTables nBuf tb) → BufTy
  | .hbm, ⟨0, _⟩ => ⟨S2x16384x1536, .f32⟩
  | .hbm, ⟨1, _⟩ => ⟨S2x16384x512, .f32⟩
  | .hbm, ⟨2, _⟩ => ⟨S2x16384x512, .f32⟩
  | .hbm, ⟨3, _⟩ => ⟨S2x16384x512, .f32⟩
  | .hbm, ⟨4, _⟩ => ⟨S4x1x1536, .f32⟩
  | .hbm, ⟨5, _⟩ => ⟨S128, .f32⟩
  | .hbm, ⟨6, _⟩ => ⟨S4x1536, .f32⟩
  | .hbm, ⟨7, _⟩ => ⟨S1x128, .f32⟩
  | .hbm, ⟨8, _⟩ => ⟨S2x16384x512, .f32⟩
  | .local _ .vmem, ⟨0, _⟩ => ⟨S1x64x1536, .f32⟩
  | .local _ .vmem, ⟨1, _⟩ => ⟨S1x64x1536, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S4x1536, .f32⟩
  | .local _ .vmem, ⟨9, _⟩ => ⟨S1x128, .f32⟩
  | .local _ .vmem, ⟨10, _⟩ => ⟨S1x64x512, .f32⟩
  | .local _ .vmem, ⟨11, _⟩ => ⟨S1x64x512, .f32⟩
  | .local _ .vmem, ⟨12, _⟩ => ⟨S72x1536, .f32⟩
  | .local _ .vmem, ⟨13, _⟩ => ⟨S4x128x128, .f32⟩
  | _, _ => ⟨S2x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 256], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel7.lean ====
abbrev S2x16384x1024 : Shape := ⟨3, ![2, 16384, 1024]⟩
abbrev S1024 : Shape := ⟨1, ![1024]⟩
abbrev S1024x2048 : Shape := ⟨2, ![1024, 2048]⟩
abbrev S2x8x128x128 : Shape := ⟨4, ![2, 8, 128, 128]⟩
abbrev S16384x1024 : Shape := ⟨2, ![16384, 1024]⟩
abbrev S32768x1024 : Shape := ⟨2, ![32768, 1024]⟩
abbrev S1x1024 : Shape := ⟨2, ![1, 1024]⟩
abbrev S2048x1024 : Shape := ⟨2, ![2048, 1024]⟩
abbrev S1024x16384 : Shape := ⟨2, ![1024, 16384]⟩
abbrev S512x1024 : Shape := ⟨2, ![512, 1024]⟩
abbrev S2x8x128x512 : Shape := ⟨4, ![2, 8, 128, 512]⟩
abbrev S8x8x512 : Shape := ⟨3, ![8, 8, 512]⟩
abbrev S2x16x512 : Shape := ⟨3, ![2, 16, 512]⟩
abbrev S1024x512 : Shape := ⟨2, ![1024, 512]⟩
abbrev S512 : Shape := ⟨1, ![512]⟩
abbrev S512x1 : Shape := ⟨2, ![512, 1]⟩
abbrev S128x1024 : Shape := ⟨2, ![128, 1024]⟩
abbrev S128x512 : Shape := ⟨2, ![128, 512]⟩
abbrev S1x1x128x128 : Shape := ⟨4, ![1, 1, 128, 128]⟩
abbrev S128x128 : Shape := ⟨2, ![128, 128]⟩
abbrev S1x1x128x512 : Shape := ⟨4, ![1, 1, 128, 512]⟩
abbrev S1x512 : Shape := ⟨2, ![1, 512]⟩
abbrev S1x16x512 : Shape := ⟨3, ![1, 16, 512]⟩
abbrev S16x512 : Shape := ⟨2, ![16, 512]⟩
abbrev S1x1x512 : Shape := ⟨3, ![1, 1, 512]⟩
abbrev S256x512 : Shape := ⟨2, ![256, 512]⟩
abbrev S8x512 : Shape := ⟨2, ![8, 512]⟩
abbrev S1x8x512 : Shape := ⟨3, ![1, 8, 512]⟩
abbrev S1024x1024 : Shape := ⟨2, ![1024, 1024]⟩
abbrev S1x1x1x512 : Shape := ⟨4, ![1, 1, 1, 512]⟩

abbrev nBuf : Space → Nat
  | .hbm => 15
  | .vmem => 17
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S2x8x128x128, .f32⟩
  | .hbm, ⟨4, _⟩ => ⟨S16384x1024, .f32⟩
  | .hbm, ⟨5, _⟩ => ⟨S16384x1024, .f32⟩
  | .hbm, ⟨6, _⟩ => ⟨S32768x1024, .f32⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S2x8x128x128, .bf16⟩
  | .hbm, ⟨11, _⟩ => ⟨S16384x1024, .bf16⟩
  | .hbm, ⟨12, _⟩ => ⟨S1024x16384, .f32⟩
  | .hbm, ⟨13, _⟩ => ⟨S1024x16384, .bf16⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S2x8x128x128, .bf16⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S2x8x128x512, .f32⟩
  | .local _ .vmem, ⟨13, _⟩ => ⟨S2x8x128x512, .f32⟩
  | .local _ .vmem, ⟨14, _⟩ => ⟨S8x8x512, .f32⟩
  | .local _ .vmem, ⟨15, _⟩ => ⟨S2x16x512, .f32⟩
  | .local _ .vmem, ⟨16, _⟩ => ⟨S1024x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![64, 8], ![false, false]⟩

def k0_off1 (i : grid0.Coords) (c0_i32_8 : BitVec 32) (c0_i32_9 : BitVec 32) : Fin 4 → Nat :=
  let c0_11 : Index := 0#32
  let c0_12 : Index := 0#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v24 : Index := Scalar.indexCast v22
  let c0_13 : Index := 0#32
  ![0, 0, v24.toNat, 0]
def k0_off2 (i : grid0.Coords) (c0_i32_8 : BitVec 32) (c0_i32_9 : BitVec 32) : Fin 4 → Nat :=
  let c0_28 : Index := 0#32
  let c1_29 : Index := 1#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v45 : Index := Scalar.indexCast v22
  let c0_30 : Index := 0#32
  ![0, 1, v45.toNat, 0]
def k0_off3 (i : grid0.Coords) (c0_i32_8 : BitVec 32) (c0_i32_9 : BitVec 32) : Fin 4 → Nat :=
  let c0_46 : Index := 0#32
  let c2 : Index := 2#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v66 : Index := Scalar.indexCast v22
  let c0_47 : Index := 0#32
  ![0, 2, v66.toNat, 0]
def k0_off4 (i : grid0.Coords) (c0_i32_8 : BitVec 32) (c0_i32_9 : BitVec 32) : Fin 4 → Nat :=
  let c0_63 : Index := 0#32
  let c3 : Index := 3#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v87 : Index := Scalar.indexCast v22
  let c0_64 : Index := 0#32
  ![0, 3, v87.toNat, 0]
def k0_off5 (i : grid0.Coords) (c0_i32_8 : BitVec 32) (c0_i32_9 : BitVec 32) : Fin 4 → Nat :=
  let c0_80 : Index := 0#32
  let c4 : Index := 4#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v108 : Index := Scalar.indexCast v22
  let c0_81 : Index := 0#32
  ![0, 4, v108.toNat, 0]
def k0_off6 (i : grid0.Coords) (c0_i32_8 : BitVec 32) (c0_i32_9 : BitVec 32) : Fin 4 → Nat :=
  let c0_97 : Index := 0#32
  let c5 : Index := 5#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v129 : Index := Scalar.indexCast v22
  let c0_98 : Index := 0#32
  ![0, 5, v129.toNat, 0]
def k0_off7 (i : grid0.Coords) (c0_i32_8 : BitVec 32) (c0_i32_9 : BitVec 32) : Fin 4 → Nat :=
  let c0_114 : Index := 0#32
  let c6 : Index := 6#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v150 : Index := Scalar.indexCast v22
  let c0_115 : Index := 0#32
  ![0, 6, v150.toNat, 0]
def k0_off8 (i : grid0.Coords) (c0_i32_8 : BitVec 32) (c0_i32_9 : BitVec 32) : Fin 4 → Nat :=
  let c0_131 : Index := 0#32
  let c7 : Index := 7#32
  let arg1 : BitVec 32 := BitVec.ofNat 32 (i 1).val
  let c16_i32 : BitVec 32 := 16#32
  let v20 : BitVec 32 := Scalar.muli arg1 c16_i32
  let v21 : BitVec 32 := Scalar.addi v20 c0_i32_8
  let v22 : BitVec 32 := Scalar.addi v21 c0_i32_9
  let v171 : Index := Scalar.indexCast v22
  let c0_132 : Index := 0#32
  ![0, 7, v171.toNat, 0]
def k0_cond2 (i : grid0.Coords) : BitVec 1 :=
  let arg1 : BitVec 32 := BitVec.ofNat 32 (i 1).val
  let c7_i32_2380 : BitVec 32 := 7#32
  let v2810 : BitVec 1 := Scalar.cmpi .eq arg1 c7_i32_2380
  let v2811 : BitVec 32 := Scalar.extui v2810
  let c0_i32_2381 : BitVec 32 := 0#32
  let v2812 : BitVec 1 := Scalar.cmpi .ne v2811 c0_i32_2381
  v2812

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Proof.Block.lean ====
/- What one grid point of the attention kernel writes, as a recursion over the key blocks.
   For each of the two heads of the point the kernel keeps three scratch arrays: the running row maxima, the
   running row sums and the running weighted values.  A full key block takes them through `step`, the block on the
   diagonal through `dstep`; the output is the last weighted values over the last sums (`OUT`). -/
module

public import proofs.«01_k».proof.Proof.Gen.KernelIdeal.Value
public import Idealize.ShloMosaic.Lib.VecWindow

@[expose] public section

set_option synthInstance.maxSize 4096

noncomputable section

namespace Cert.KernelIdeal.Fox

open Cert.KernelIdeal Cert.KernelIdeal.Gen Idealize.ShloMosaic Idealize.SL.Sem

variable {F : FTy → Type} [FloatOps F]

/-- The three scratch arrays: row maxima, row sums, weighted values. -/
abbrev St (F : FTy → Type) [FloatOps F] : Type :=
  Vec F S512x1 .f32 × Vec F S512x1 .f32 × Vec F S512x128 .f32

/-- The scratch arrays before the first key block. -/
def start : St F := (k0_pay39, k0_pay40, k0_pay41)

/-- One full key block. -/
def step (q : FVec F S512x128 .bf16) (cq : FVec F S1x1 .f32) (kb : Vec F S1x1x512x128 .bf16)
    (vb : Vec F S1x512x128 .bf16) (cb : Vec F S1x1x1x128 .f32) (st : St F) : St F :=
  (k0_pay43 (k0_pay8 q cq kb cb st.1), k0_pay11 q cq kb cb st.1 st.2.1,
    k0_pay42 (k0_pay5 vb) (k0_pay9 q cq kb cb st.1) (k0_pay12 q cq kb cb st.1 st.2.2))

/-- The row numbers and the column numbers of a block of scores. -/
abbrev rowNo : IVec S512x512 32 := iota .tc S512x512 32 [0] iota_S512x512_d0_w32
abbrev colNo : IVec S512x512 32 := iota .tc S512x512 32 [1] iota_S512x512_d1_w32

/-- The key block on the diagonal. -/
def dstep (q : FVec F S512x128 .bf16) (cq : FVec F S1x1 .f32) (kb : Vec F S1x1x512x128 .bf16)
    (vb : Vec F S1x512x128 .bf16) (cb : Vec F S1x1x1x128 .f32) (st : St F) : St F :=
  (k0_pay55 (k0_pay48 rowNo colNo q cq kb cb st.1), k0_pay51 rowNo colNo q cq kb cb st.1 st.2.1,
    k0_pay54 (k0_pay52 rowNo colNo q cq kb cb st.1 st.2.2) (k0_pay53 rowNo colNo q cq kb vb cb st.1))

/-- What the three scratch memrefs read. -/
abbrev rd (arg8 arg9 : Memref sig .tc .vmem S512x1 .f32) (arg10 : Memref sig .tc .vmem S512x128 .f32)
    (f8 : BufTy.Contents (Elt F) arg8.view.ty) (f9 : BufTy.Contents (Elt F) arg9.view.ty)
    (f10 : BufTy.Contents (Elt F) arg10.view.ty) : St F :=
  (arg8.view.read (Elt F) f8, arg9.view.read (Elt F) f9, arg10.view.read (Elt F) f10)

/-- Trip `k` of head 0's loop: the key block, the value block and the offset it loads, taken through `step`. -/
def step0 (i : grid0.Coords) (q : FVec F S512x128 .bf16) (cq : FVec F S1x1 .f32)
    (x1 : Vec F S1x2x16384x128 .bf16) (x2 : Vec F S1x16384x128 .bf16) (x3 : Vec F S1x2x32x128 .f32)
    (k : Fin (k0_t1_loop i).trips) (st : St F) : St F :=
  step q cq
    (View.ld x1 (Rect.unit (s := S1x2x16384x128) (k0_off2 i k) S1x1x512x128.size (k0_off2_inb i k)))
    (View.ld x2 (Rect.unit (s := S1x16384x128) (k0_off3 i k) S1x512x128.size (k0_off3_inb i k)))
    (View.ld x3 (Rect.unit (s := S1x2x32x128) (k0_off4 i k) S1x1x1x128.size (k0_off4_inb i k))) st

/-- Head 0's scratch arrays after `k` trips. -/
def iter0 (i : grid0.Coords) (q : FVec F S512x128 .bf16) (cq : FVec F S1x1 .f32)
    (x1 : Vec F S1x2x16384x128 .bf16) (x2 : Vec F S1x16384x128 .bf16) (x3 : Vec F S1x2x32x128 .f32) (st : St F) : ℕ → St F
  | 0 => st
  | k + 1 => if h : k < (k0_t1_loop i).trips then step0 i q cq x1 x2 x3 ⟨k, h⟩ (iter0 i q cq x1 x2 x3 st k)
      else iter0 i q cq x1 x2 x3 st k

theorem trip1_read (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32)
    (x1 : Vec F S1x2x16384x128 .bf16) (x2 : Vec F S1x16384x128 .bf16) (x3 : Vec F S1x2x32x128 .f32)
    (k : Fin (k0_t1_loop i).trips)
    (f8 g8 : BufTy.Contents (Elt F) arg8.view.ty) (f9 g9 : BufTy.Contents (Elt F) arg9.view.ty)
    (f10 g10 : BufTy.Contents (Elt F) arg10.view.ty) (L8 L9 L10) :
    rd arg8 arg9 arg10
      (arg8.view.writes (Elt F) g8 ((tripL_k0_t1 (F := F) Variants.none c none i arg3 harg3 arg4 harg4 arg5 harg5 arg6 harg6 arg7 harg7 arg8 harg8 arg9 harg9 arg10 harg10 v2 v5 (harg4.unread x1) (harg5.unread x2) (harg6.unread x3) k f8 f9 f10).1 ++ L8))
      (arg9.view.writes (Elt F) g9 ((tripL_k0_t1 (F := F) Variants.none c none i arg3 harg3 arg4 harg4 arg5 harg5 arg6 harg6 arg7 harg7 arg8 harg8 arg9 harg9 arg10 harg10 v2 v5 (harg4.unread x1) (harg5.unread x2) (harg6.unread x3) k f8 f9 f10).2.1 ++ L9))
      (arg10.view.writes (Elt F) g10 ((tripL_k0_t1 (F := F) Variants.none c none i arg3 harg3 arg4 harg4 arg5 harg5 arg6 harg6 arg7 harg7 arg8 harg8 arg9 harg9 arg10 harg10 v2 v5 (harg4.unread x1) (harg5.unread x2) (harg6.unread x3) k f8 f9 f10).2.2 ++ L10))
      = step0 i (k0_pay37 v2) (k0_pay38 v5) x1 x2 x3 k (rd arg8 arg9 arg10 f8 f9 f10) := by
  unfold tripL_k0_t1 trip_k0_t1
  dsimp only
  sl_unfold_words
  have e1 := View.readAt_full arg8.view f8 inb_S512x1_S512x1_0_0
  have e2 := View.readAt_full arg9.view f9 inb_S512x1_S512x1_0_0
  have e3 := View.readAt_full arg10.view f10 inb_S512x128_S512x128_0_0
  refine Prod.ext ((View.read_writes_full _ _ _ _ _).trans ?_) (Prod.ext ((View.read_writes_full _ _ _ _ _).trans ?_)
    ((View.read_writes_full _ _ _ _ _).trans ?_))
  all_goals
    simp only [View.readAt_eq_ld, Memref.IsWhole.read_unread] at e1 e2 e3 ⊢
    simp only [e1, e2, e3]
    rfl

theorem loop1_read (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32)
    (x1 : Vec F S1x2x16384x128 .bf16) (x2 : Vec F S1x16384x128 .bf16) (x3 : Vec F S1x2x32x128 .f32)
    (G8 : BufTy.Contents (Elt F) arg8.view.ty) (G9 : BufTy.Contents (Elt F) arg9.view.ty)
    (G10 : BufTy.Contents (Elt F) arg10.view.ty) (k : ℕ) (hk : k ≤ (k0_t1_loop i).trips) :
    rd arg8 arg9 arg10
      (arg8.view.writes (Elt F) G8 (pb_k0_t1 (F := F) Variants.none c none i arg3 harg3 arg4 harg4 arg5 harg5 arg6 harg6 arg7 harg7 arg8 harg8 arg9 harg9 arg10 harg10 v2 v5 (harg4.unread x1) (harg5.unread x2) (harg6.unread x3) G8 G9 G10 k).1)
      (arg9.view.writes (Elt F) G9 (pb_k0_t1 (F := F) Variants.none c none i arg3 harg3 arg4 harg4 arg5 harg5 arg6 harg6 arg7 harg7 arg8 harg8 arg9 harg9 arg10 harg10 v2 v5 (harg4.unread x1) (harg5.unread x2) (harg6.unread x3) G8 G9 G10 k).2.1)
      (arg10.view.writes (Elt F) G10 (pb_k0_t1 (F := F) Variants.none c none i arg3 harg3 arg4 harg4 arg5 harg5 arg6 harg6 arg7 harg7 arg8 harg8 arg9 harg9 arg10 harg10 v2 v5 (harg4.unread x1) (harg5.unread x2) (harg6.unread x3) G8 G9 G10 k).2.2)
      = iter0 i (k0_pay37 v2) (k0_pay38 v5) x1 x2 x3 (rd arg8 arg9 arg10 G8 G9 G10) k := by
  induction k with
  | zero => rfl
  | succ k ih =>
    have hlt : k < (k0_t1_loop i).trips := hk
    have e := pb_k0_t1_succ (F := F) Variants.none c none i arg3 harg3 arg4 harg4 arg5 harg5 arg6 harg6 arg7 harg7 arg8 harg8 arg9 harg9 arg10 harg10 v2 v5 (harg4.unread x1) (harg5.unread x2) (harg6.unread x3) G8 G9 G10 ⟨k, hlt⟩
    rw [show pb_k0_t1 (F := F) Variants.none c none i arg3 harg3 arg4 harg4 arg5 harg5 arg6 harg6 arg7 harg7 arg8 harg8 arg9 harg9 arg10 harg10 v2 v5 (harg4.unread x1) (harg5.unread x2) (harg6.unread x3) G8 G9 G10 (k+1) = _ from e]
    rw [iter0, dif_pos hlt, ← ih (Nat.le_of_lt hlt)]
    exact trip1_read c i arg3 harg3 arg4 harg4 arg5 harg5 arg6 harg6 arg7 harg7 arg8 harg8 arg9 harg9 arg10 harg10 v2 v5 x1 x2 x3 ⟨k, hlt⟩ _ _ _ _ _ _ _ _ _

/-- Trip `k` of head 1's loop: the key block, the value block and the offset it loads, taken through `step`. -/
def step1 (i : grid0.Coords) (q : FVec F S512x128 .bf16) (cq : FVec F S1x1 .f32)
    (x1 : Vec F S1x2x16384x128 .bf16) (x2 : Vec F S1x16384x128 .bf16) (x3 : Vec F S1x2x32x128 .f32)
    (k : Fin (k0_t3_loop i).trips) (st : St F) : St F :=
  step q cq
    (View.ld x1 (Rect.unit (s := S1x2x16384x128) (k0_off11 i k) S1x1x512x128.size (k0_off11_inb i k)))
    (View.ld x2 (Rect.unit (s := S1x16384x128) (k0_off12 i k) S1x512x128.size (k0_off12_inb i k)))
    (View.ld x3 (Rect.unit (s := S1x2x32x128) (k0_off13 i k) S1x1x1x128.size (k0_off13_inb i k))) st

/-- Head 1's scratch arrays after `k` trips. -/
def iter1 (i : grid0.Coords) (q : FVec F S512x128 .bf16) (cq : FVec F S1x1 .f32)
    (x1 : Vec F S1x2x16384x128 .bf16) (x2 : Vec F S1x16384x128 .bf16) (x3 : Vec F S1x2x32x128 .f32) (st : St F) : ℕ → St F
  | 0 => st
  | k + 1 => if h : k < (k0_t3_loop i).trips then step1 i q cq x1 x2 x3 ⟨k, h⟩ (iter1 i q cq x1 x2 x3 st k)
      else iter1 i q cq x1 x2 x3 st k

theorem trip3_read (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z : BitVec 32)
    (x1 : Vec F S1x2x16384x128 .bf16) (x2 : Vec F S1x16384x128 .bf16) (x3 : Vec F S1x2x32x128 .f32)
    (k : Fin (k0_t3_loop i).trips)
    (f8 g8 : BufTy.Contents (Elt F) arg8.view.ty) (f9 g9 : BufTy.Contents (Elt F) arg9.view.ty)
    (f10 g10 : BufTy.Contents (Elt F) arg10.view.ty) (L8 L9 L10) :
    rd arg8 arg9 arg10
      (arg8.view.writes (Elt F) g8 ((tripL_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) k f8 f9 f10).1 ++ L8))
      (arg9.view.writes (Elt F) g9 ((tripL_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) k f8 f9 f10).2.1 ++ L9))
      (arg10.view.writes (Elt F) g10 ((tripL_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) k f8 f9 f10).2.2 ++ L10))
      = step1 i q cq x1 x2 x3 k (rd arg8 arg9 arg10 f8 f9 f10) := by
  unfold tripL_k0_t3 trip_k0_t3
  dsimp only
  sl_unfold_words
  have e1 := View.readAt_full arg8.view f8 inb_S512x1_S512x1_0_0
  have e2 := View.readAt_full arg9.view f9 inb_S512x1_S512x1_0_0
  have e3 := View.readAt_full arg10.view f10 inb_S512x128_S512x128_0_0
  refine Prod.ext ((View.read_writes_full _ _ _ _ _).trans ?_) (Prod.ext ((View.read_writes_full _ _ _ _ _).trans ?_)
    ((View.read_writes_full _ _ _ _ _).trans ?_))
  all_goals
    simp only [View.readAt_eq_ld, Memref.IsWhole.read_unread] at e1 e2 e3 ⊢
    simp only [e1, e2, e3]
    rfl

theorem loop3_read (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z : BitVec 32)
    (x1 : Vec F S1x2x16384x128 .bf16) (x2 : Vec F S1x16384x128 .bf16) (x3 : Vec F S1x2x32x128 .f32)
    (G8 : BufTy.Contents (Elt F) arg8.view.ty) (G9 : BufTy.Contents (Elt F) arg9.view.ty)
    (G10 : BufTy.Contents (Elt F) arg10.view.ty) (k : ℕ) (hk : k ≤ (k0_t3_loop i).trips) :
    rd arg8 arg9 arg10
      (arg8.view.writes (Elt F) G8 (pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) G8 G9 G10 k).1)
      (arg9.view.writes (Elt F) G9 (pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) G8 G9 G10 k).2.1)
      (arg10.view.writes (Elt F) G10 (pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) G8 G9 G10 k).2.2)
      = iter1 i q cq x1 x2 x3 (rd arg8 arg9 arg10 G8 G9 G10) k := by
  induction k with
  | zero => rfl
  | succ k ih =>
    have hlt : k < (k0_t3_loop i).trips := hk
    have e := pb_k0_t3_succ (F := F) Variants.none c none i arg3 harg3 arg4 harg4 arg5 harg5 arg6 harg6 arg7 harg7 arg8 harg8 arg9 harg9 arg10 harg10 a2 w0 w1 q cq z (harg4.unread x1) (harg5.unread x2) (harg6.unread x3) G8 G9 G10 ⟨k, hlt⟩
    rw [show pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) G8 G9 G10 (k+1) = _ from e]
    rw [iter1, dif_pos hlt, ← ih (Nat.le_of_lt hlt)]
    exact trip3_read c i arg3 harg3 arg4 harg4 arg5 harg5 arg6 harg6 arg7 harg7 arg8 harg8 arg9 harg9 arg10 harg10 a2 w0 w1 q cq z x1 x2 x3 ⟨k, hlt⟩ _ _ _ _ _ _ _ _ _

/-- The second loop of each head runs no trip. -/
theorem trips2 (i : grid0.Coords) : Scf.trips (k0_t2_loop i).lb (k0_t2_loop i).ub (k0_t2_loop i).st = 0 := by
  have h : ∀ j : Fin 32, Scf.trips (Scalar.addi 0#32 (Scalar.muli (Scalar.divsi (Scalar.subi (BitVec.ofNat 32 j.val) 0#32) 1#32) 1#32))
    (Scalar.addi 0#32 (Scalar.subi (BitVec.ofNat 32 j.val) 0#32)) 1#32 = 0 := by decide
  exact h (i 2)

theorem trips4 (i : grid0.Coords) : Scf.trips (k0_t4_loop i).lb (k0_t4_loop i).ub (k0_t4_loop i).st = 0 := trips2 i

/-- The first loop of each head runs one trip per key block below the diagonal. -/
theorem trips1 (i : grid0.Coords) : (k0_t1_loop i).trips = (i 2).val := by
  have h : ∀ j : Fin 32, Scf.trips 0#32 (Scalar.addi 0#32 (Scalar.muli (Scalar.divsi (Scalar.subi (BitVec.ofNat 32 j.val) 0#32) 1#32) 1#32)) 1#32
    = j.val := by decide
  exact h (i 2)

theorem trips3 (i : grid0.Coords) : (k0_t3_loop i).trips = (i 2).val := trips1 i

theorem pieces2 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32) (v24 : BitVec 32) (X4 : BufTy.Contents (Elt F) arg4.view.ty) (X5 : BufTy.Contents (Elt F) arg5.view.ty) (X6 : BufTy.Contents (Elt F) arg6.view.ty)
    (G8 : BufTy.Contents (Elt F) arg8.view.ty) (G9 : BufTy.Contents (Elt F) arg9.view.ty) (G10 : BufTy.Contents (Elt F) arg10.view.ty) :
    pb_k0_t2 (F := F) Variants.none c none i arg3 harg3 arg4 harg4 arg5 harg5 arg6 harg6 arg7 harg7 arg8 harg8 arg9 harg9 arg10 harg10 v2 v5 v24 X4 X5 X6 G8 G9 G10
      (Scf.trips (k0_t2_loop i).lb (k0_t2_loop i).ub (k0_t2_loop i).st) = ([], [], []) := by
  rw [trips2]; rfl

theorem pieces4 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z v101 : BitVec 32) (X4 : BufTy.Contents (Elt F) arg4.view.ty) (X5 : BufTy.Contents (Elt F) arg5.view.ty) (X6 : BufTy.Contents (Elt F) arg6.view.ty)
    (G8 : BufTy.Contents (Elt F) arg8.view.ty) (G9 : BufTy.Contents (Elt F) arg9.view.ty) (G10 : BufTy.Contents (Elt F) arg10.view.ty) :
    pb_k0_t4 (F := F) Variants.none c none i arg3 harg3 arg4 harg4 arg5 harg5 arg6 harg6 arg7 harg7 arg8 harg8 arg9 harg9 arg10 harg10 a2 w0 w1 q cq z v101 X4 X5 X6 G8 G9 G10
      (Scf.trips (k0_t4_loop i).lb (k0_t4_loop i).ub (k0_t4_loop i).st) = ([], [], []) := by
  rw [trips4]; rfl

theorem after1_arg8 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32)
    (x1 : Vec F S1x2x16384x128 .bf16) (x2 : Vec F S1x16384x128 .bf16) (x3 : Vec F S1x2x32x128 .f32) (L8 L9 L10) :
    arg8.view.readCov ((pb_k0_t1 (F := F) Variants.none c none i arg3 harg3 arg4 harg4 arg5 harg5 arg6 harg6 arg7 harg7 arg8 harg8 arg9 harg9 arg10 harg10 v2 v5 (harg4.unread x1) (harg5.unread x2) (harg6.unread x3) (arg8.view.writes (Elt F) arg8.view.junk L8) (arg9.view.writes (Elt F) arg9.view.junk L9) (arg10.view.writes (Elt F) arg10.view.junk L10) (Scf.trips (k0_t1_loop i).lb (k0_t1_loop i).ub (k0_t1_loop i).st)).1 ++ L8) (Rect.unit ![0, 0] S512x1.size inb_S512x1_S512x1_0_0).toLoadRect
      = (iter0 i (k0_pay37 v2) (k0_pay38 v5) x1 x2 x3 (rd arg8 arg9 arg10 (arg8.view.writes (Elt F) arg8.view.junk L8) (arg9.view.writes (Elt F) arg9.view.junk L9) (arg10.view.writes (Elt F) arg10.view.junk L10)) (k0_t1_loop i).trips).1 := by
  have h := loop1_read c i arg3 harg3 arg4 harg4 arg5 harg5 arg6 harg6 arg7 harg7 arg8 harg8 arg9 harg9 arg10 harg10 v2 v5 x1 x2 x3 (arg8.view.writes (Elt F) arg8.view.junk L8) (arg9.view.writes (Elt F) arg9.view.junk L9) (arg10.view.writes (Elt F) arg10.view.junk L10) _ (Nat.le_refl (k0_t1_loop i).trips)
  rw [← h]
  show View.readAt (Elt F) arg8.view _ _ = _
  rw [View.readAt_full, View.writes_append]

theorem after1_arg9 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32)
    (x1 : Vec F S1x2x16384x128 .bf16) (x2 : Vec F S1x16384x128 .bf16) (x3 : Vec F S1x2x32x128 .f32) (L8 L9 L10) :
    arg9.view.readCov ((pb_k0_t1 (F := F) Variants.none c none i arg3 harg3 arg4 harg4 arg5 harg5 arg6 harg6 arg7 harg7 arg8 harg8 arg9 harg9 arg10 harg10 v2 v5 (harg4.unread x1) (harg5.unread x2) (harg6.unread x3) (arg8.view.writes (Elt F) arg8.view.junk L8) (arg9.view.writes (Elt F) arg9.view.junk L9) (arg10.view.writes (Elt F) arg10.view.junk L10) (Scf.trips (k0_t1_loop i).lb (k0_t1_loop i).ub (k0_t1_loop i).st)).2.1 ++ L9) (Rect.unit ![0, 0] S512x1.size inb_S512x1_S512x1_0_0).toLoadRect
      = (iter0 i (k0_pay37 v2) (k0_pay38 v5) x1 x2 x3 (rd arg8 arg9 arg10 (arg8.view.writes (Elt F) arg8.view.junk L8) (arg9.view.writes (Elt F) arg9.view.junk L9) (arg10.view.writes (Elt F) arg10.view.junk L10)) (k0_t1_loop i).trips).2.1 := by
  have h := loop1_read c i arg3 harg3 arg4 harg4 arg5 harg5 arg6 harg6 arg7 harg7 arg8 harg8 arg9 harg9 arg10 harg10 v2 v5 x1 x2 x3 (arg8.view.writes (Elt F) arg8.view.junk L8) (arg9.view.writes (Elt F) arg9.view.junk L9) (arg10.view.writes (Elt F) arg10.view.junk L10) _ (Nat.le_refl (k0_t1_loop i).trips)
  rw [← h]
  show View.readAt (Elt F) arg9.view _ _ = _
  rw [View.readAt_full, View.writes_append]

theorem after1_arg10 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (v2 : Vec F S1x1x512x128 .bf16) (v5 : Vec F S1x1x1x128 .f32)
    (x1 : Vec F S1x2x16384x128 .bf16) (x2 : Vec F S1x16384x128 .bf16) (x3 : Vec F S1x2x32x128 .f32) (L8 L9 L10) :
    arg10.view.readCov ((pb_k0_t1 (F := F) Variants.none c none i arg3 harg3 arg4 harg4 arg5 harg5 arg6 harg6 arg7 harg7 arg8 harg8 arg9 harg9 arg10 harg10 v2 v5 (harg4.unread x1) (harg5.unread x2) (harg6.unread x3) (arg8.view.writes (Elt F) arg8.view.junk L8) (arg9.view.writes (Elt F) arg9.view.junk L9) (arg10.view.writes (Elt F) arg10.view.junk L10) (Scf.trips (k0_t1_loop i).lb (k0_t1_loop i).ub (k0_t1_loop i).st)).2.2 ++ L10) (Rect.unit ![0, 0] S512x128.size inb_S512x128_S512x128_0_0).toLoadRect
      = (iter0 i (k0_pay37 v2) (k0_pay38 v5) x1 x2 x3 (rd arg8 arg9 arg10 (arg8.view.writes (Elt F) arg8.view.junk L8) (arg9.view.writes (Elt F) arg9.view.junk L9) (arg10.view.writes (Elt F) arg10.view.junk L10)) (k0_t1_loop i).trips).2.2 := by
  have h := loop1_read c i arg3 harg3 arg4 harg4 arg5 harg5 arg6 harg6 arg7 harg7 arg8 harg8 arg9 harg9 arg10 harg10 v2 v5 x1 x2 x3 (arg8.view.writes (Elt F) arg8.view.junk L8) (arg9.view.writes (Elt F) arg9.view.junk L9) (arg10.view.writes (Elt F) arg10.view.junk L10) _ (Nat.le_refl (k0_t1_loop i).trips)
  rw [← h]
  show View.readAt (Elt F) arg10.view _ _ = _
  rw [View.readAt_full, View.writes_append]

theorem after3_arg8 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z : BitVec 32)
    (x1 : Vec F S1x2x16384x128 .bf16) (x2 : Vec F S1x16384x128 .bf16) (x3 : Vec F S1x2x32x128 .f32) (L8 L9 L10) :
    arg8.view.readCov ((pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) (arg8.view.writes (Elt F) arg8.view.junk L8) (arg9.view.writes (Elt F) arg9.view.junk L9) (arg10.view.writes (Elt F) arg10.view.junk L10) (Scf.trips (k0_t3_loop i).lb (k0_t3_loop i).ub (k0_t3_loop i).st)).1 ++ L8) (Rect.unit ![0, 0] S512x1.size inb_S512x1_S512x1_0_0).toLoadRect
      = (iter1 i q cq x1 x2 x3 (rd arg8 arg9 arg10 (arg8.view.writes (Elt F) arg8.view.junk L8) (arg9.view.writes (Elt F) arg9.view.junk L9) (arg10.view.writes (Elt F) arg10.view.junk L10)) (k0_t3_loop i).trips).1 := by
  have h := loop3_read c i arg3 harg3 arg4 harg4 arg5 harg5 arg6 harg6 arg7 harg7 arg8 harg8 arg9 harg9 arg10 harg10 a2 w0 w1 q cq z x1 x2 x3 (arg8.view.writes (Elt F) arg8.view.junk L8) (arg9.view.writes (Elt F) arg9.view.junk L9) (arg10.view.writes (Elt F) arg10.view.junk L10) _ (Nat.le_refl (k0_t3_loop i).trips)
  rw [← h]
  show View.readAt (Elt F) arg8.view _ _ = _
  rw [View.readAt_full, View.writes_append]

theorem after3_arg9 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z : BitVec 32)
    (x1 : Vec F S1x2x16384x128 .bf16) (x2 : Vec F S1x16384x128 .bf16) (x3 : Vec F S1x2x32x128 .f32) (L8 L9 L10) :
    arg9.view.readCov ((pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) (arg8.view.writes (Elt F) arg8.view.junk L8) (arg9.view.writes (Elt F) arg9.view.junk L9) (arg10.view.writes (Elt F) arg10.view.junk L10) (Scf.trips (k0_t3_loop i).lb (k0_t3_loop i).ub (k0_t3_loop i).st)).2.1 ++ L9) (Rect.unit ![0, 0] S512x1.size inb_S512x1_S512x1_0_0).toLoadRect
      = (iter1 i q cq x1 x2 x3 (rd arg8 arg9 arg10 (arg8.view.writes (Elt F) arg8.view.junk L8) (arg9.view.writes (Elt F) arg9.view.junk L9) (arg10.view.writes (Elt F) arg10.view.junk L10)) (k0_t3_loop i).trips).2.1 := by
  have h := loop3_read c i arg3 harg3 arg4 harg4 arg5 harg5 arg6 harg6 arg7 harg7 arg8 harg8 arg9 harg9 arg10 harg10 a2 w0 w1 q cq z x1 x2 x3 (arg8.view.writes (Elt F) arg8.view.junk L8) (arg9.view.writes (Elt F) arg9.view.junk L9) (arg10.view.writes (Elt F) arg10.view.junk L10) _ (Nat.le_refl (k0_t3_loop i).trips)
  rw [← h]
  show View.readAt (Elt F) arg9.view _ _ = _
  rw [View.readAt_full, View.writes_append]

theorem after3_arg10 (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (a2 : BitVec 32) (w0 w1 : IVec S512x512 32) (q : FVec F S512x128 .bf16) (cq : FVec F S1x1 .f32) (z : BitVec 32)
    (x1 : Vec F S1x2x16384x128 .bf16) (x2 : Vec F S1x16384x128 .bf16) (x3 : Vec F S1x2x32x128 .f32) (L8 L9 L10) :
    arg10.view.readCov ((pb_k0_t3 (F := F) Variants.none c none i arg3 harg3 arg4 harg4 arg5 harg5 arg6 harg6 arg7 harg7 arg8 harg8 arg9 harg9 arg10 harg10 a2 w0 w1 q cq z (harg4.unread x1) (harg5.unread x2) (harg6.unread x3) (arg8.view.writes (Elt F) arg8.view.junk L8) (arg9.view.writes (Elt F) arg9.view.junk L9) (arg10.view.writes (Elt F) arg10.view.junk L10) (Scf.trips (k0_t3_loop i).lb (k0_t3_loop i).ub (k0_t3_loop i).st)).2.2 ++ L10) (Rect.unit ![0, 0] S512x128.size inb_S512x128_S512x128_0_0).toLoadRect
      = (iter1 i q cq x1 x2 x3 (rd arg8 arg9 arg10 (arg8.view.writes (Elt F) arg8.view.junk L8) (arg9.view.writes (Elt F) arg9.view.junk L9) (arg10.view.writes (Elt F) arg10.view.junk L10)) (k0_t3_loop i).trips).2.2 := by
  have h := loop3_read c i arg3 harg3 arg4 harg4 arg5 harg5 arg6 harg6 arg7 harg7 arg8 harg8 arg9 harg9 arg10 harg10 a2 w0 w1 q cq z x1 x2 x3 (arg8.view.writes (Elt F) arg8.view.junk L8) (arg9.view.writes (Elt F) arg9.view.junk L9) (arg10.view.writes (Elt F) arg10.view.junk L10) _ (Nat.le_refl (k0_t3_loop i).trips)
  rw [← h]
  show View.readAt (Elt F) arg10.view _ _ = _
  rw [View.readAt_full, View.writes_append]

/-- Head 0's scratch arrays before the diagonal block. -/
def pre0 (i : grid0.Coords) (x0 : Vec F S1x2x512x128 .bf16) (x1 : Vec F S1x2x16384x128 .bf16)
    (x2 : Vec F S1x16384x128 .bf16) (x3 : Vec F S1x2x32x128 .f32) : St F :=
  iter0 i (k0_pay37 (View.ld x0 (Rect.unit (s := S1x2x512x128) ![0, 0, 0, 0] S1x1x512x128.size inb_S1x2x512x128_S1x1x512x128_0_0_0_0)))
      (k0_pay38 (View.ld x3 (Rect.unit (s := S1x2x32x128) (k0_off1 i) S1x1x1x128.size (k0_off1_inb i)))) x1 x2 x3 start
      (k0_t1_loop i).trips

/-- Head 1's scratch arrays before the diagonal block. -/
def pre1 (i : grid0.Coords) (x0 : Vec F S1x2x512x128 .bf16) (x1 : Vec F S1x2x16384x128 .bf16)
    (x2 : Vec F S1x16384x128 .bf16) (x3 : Vec F S1x2x32x128 .f32) : St F :=
  iter1 i (k0_pay37 (View.ld x0 (Rect.unit (s := S1x2x512x128) ![0, 1, 0, 0] S1x1x512x128.size inb_S1x2x512x128_S1x1x512x128_0_1_0_0)))
      (k0_pay38 (View.ld x3 (Rect.unit (s := S1x2x32x128) (k0_off10 i) S1x1x1x128.size (k0_off10_inb i)))) x1 x2 x3 start
      (k0_t3_loop i).trips

/-- Head 0's scratch arrays at the end of the point. -/
def last0 (i : grid0.Coords) (x0 : Vec F S1x2x512x128 .bf16) (x1 : Vec F S1x2x16384x128 .bf16)
    (x2 : Vec F S1x16384x128 .bf16) (x3 : Vec F S1x2x32x128 .f32) : St F :=
  dstep (k0_pay37 (View.ld x0 (Rect.unit (s := S1x2x512x128) ![0, 0, 0, 0] S1x1x512x128.size inb_S1x2x512x128_S1x1x512x128_0_0_0_0)))
    (k0_pay38 (View.ld x3 (Rect.unit (s := S1x2x32x128) (k0_off1 i) S1x1x1x128.size (k0_off1_inb i))))
    (View.ld x1 (Rect.unit (s := S1x2x16384x128) (k0_off8 i) S1x1x512x128.size (k0_off8_inb i)))
    (View.ld x2 (Rect.unit (s := S1x16384x128) (k0_off9 i) S1x512x128.size (k0_off9_inb i)))
    (View.ld x3 (Rect.unit (s := S1x2x32x128) (k0_off1 i) S1x1x1x128.size (k0_off1_inb i)))
    (pre0 i x0 x1 x2 x3)

/-- Head 1's scratch arrays at the end of the point. -/
def last1 (i : grid0.Coords) (x0 : Vec F S1x2x512x128 .bf16) (x1 : Vec F S1x2x16384x128 .bf16)
    (x2 : Vec F S1x16384x128 .bf16) (x3 : Vec F S1x2x32x128 .f32) : St F :=
  dstep (k0_pay37 (View.ld x0 (Rect.unit (s := S1x2x512x128) ![0, 1, 0, 0] S1x1x512x128.size inb_S1x2x512x128_S1x1x512x128_0_1_0_0)))
    (k0_pay38 (View.ld x3 (Rect.unit (s := S1x2x32x128) (k0_off10 i) S1x1x1x128.size (k0_off10_inb i))))
    (View.ld x1 (Rect.unit (s := S1x2x16384x128) (k0_off17 i) S1x1x512x128.size (k0_off17_inb i)))
    (View.ld x2 (Rect.unit (s := S1x16384x128) (k0_off9 i) S1x512x128.size (k0_off9_inb i)))
    (View.ld x3 (Rect.unit (s := S1x2x32x128) (k0_off10 i) S1x1x1x128.size (k0_off10_inb i)))
    (pre1 i x0 x1 x2 x3)

/-- The block the point stores. -/
def OUT (i : grid0.Coords) (x0 : Vec F S1x2x512x128 .bf16) (x1 : Vec F S1x2x16384x128 .bf16)
    (x2 : Vec F S1x16384x128 .bf16) (x3 : Vec F S1x2x32x128 .f32) : Vec F S1x512x128 .f32 :=
  k0_pay4 (k0_pay56 (last0 i x0 x1 x2 x3).2.2 (last0 i x0 x1 x2 x3).2.1) (last1 i x0 x1 x2 x3).2.2 (last1 i x0 x1 x2 x3).2.1

theorem start_eq (arg8 arg9 : Memref sig .tc .vmem S512x1 .f32) (arg10 : Memref sig .tc .vmem S512x128 .f32) (g8 g9 g10) (L8 L9 L10) :
    rd arg8 arg9 arg10
      (arg8.view.writes (Elt F) g8 (⟨Rect.unit ![0, 0] S512x1.size inb_S512x1_S512x1_0_0, k0_pay39⟩ :: L8))
      (arg9.view.writes (Elt F) g9 (⟨Rect.unit ![0, 0] S512x1.size inb_S512x1_S512x1_0_0, k0_pay40⟩ :: L9))
      (arg10.view.writes (Elt F) g10 (⟨Rect.unit ![0, 0] S512x128.size inb_S512x128_S512x128_0_0, k0_pay41⟩ :: L10)) = start :=
  Prod.ext (View.read_writes_full _ _ _ _ _) (Prod.ext (View.read_writes_full _ _ _ _ _) (View.read_writes_full _ _ _ _ _))

set_option maxRecDepth 65536 in
theorem out_eq (c : Dev nD) (i : grid0.Coords) (arg3 : Memref sig .tc .vmem S1x2x512x128 .bf16) (harg3 : arg3.IsWhole)
    (arg4 : Memref sig .tc .vmem S1x2x16384x128 .bf16) (harg4 : arg4.IsWhole)
    (arg5 : Memref sig .tc .vmem S1x16384x128 .bf16) (harg5 : arg5.IsWhole)
    (arg6 : Memref sig .tc .vmem S1x2x32x128 .f32) (harg6 : arg6.IsWhole)
    (arg7 : Memref sig .tc .vmem S1x512x128 .f32) (harg7 : arg7.IsWhole)
    (arg8 : Memref sig .tc .vmem S512x1 .f32) (harg8 : arg8.IsWhole)
    (arg9 : Memref sig .tc .vmem S512x1 .f32) (harg9 : arg9.IsWhole)
    (arg10 : Memref sig .tc .vmem S512x128 .f32) (harg10 : arg10.IsWhole)
    (x0 : Vec F S1x2x512x128 .bf16) (x1 : Vec F S1x2x16384x128 .bf16) (x2 : Vec F S1x16384x128 .bf16) (x3 : Vec F S1x2x32x128 .f32) :
    out0_A_4 c i arg3 harg3 arg4 harg4 arg5 harg5 arg6 harg6 arg7 harg7 arg8 harg8 arg9 harg9 arg10 harg10 x0 x1 x2 x3 = OUT i x0 x1 x2 x3 := by
  unfold out0_A_4 kernelRun0_A
  dsimp only
  refine (View.read_writes_full _ _ _ _ _).trans ?_
  have v42 : kernelRun0_A.sl.v42 c i arg3 harg3 arg4 harg4 arg5 harg5 arg6 harg6 arg7 harg7 arg8 harg8 arg9 harg9 arg10 harg10 x0 x1 x2 x3 = (pre0 i x0 x1 x2 x3).1 := by
    unfold kernelRun0_A.sl.v42 kernelRun0_A.sl.HS0_1 kernelRun0_A.sl.HS1_1 kernelRun0_A.sl.HS2_1
    rw [pieces2, List.nil_append, after1_arg8, start_eq]
    simp only [View.readAt_eq_ld, Memref.IsWhole.read_unread]
    rfl
  have v55 : kernelRun0_A.sl.v55 c i arg3 harg3 arg4 harg4 arg5 harg5 arg6 harg6 arg7 harg7 arg8 harg8 arg9 harg9 arg10 harg10 x0 x1 x2 x3 = (pre0 i x0 x1 x2 x3).2.1 := by
    unfold kernelRun0_A.sl.v55 kernelRun0_A.sl.HS0_1 kernelRun0_A.sl.HS1_1 kernelRun0_A.sl.HS2_1
    rw [pieces2, List.nil_append, after1_arg9, start_eq]
    simp only [View.readAt_eq_ld, Memref.IsWhole.read_unread]
    rfl
  have v63 : kernelRun0_A.sl.v63 c i arg3 harg3 arg4 harg4 arg5 harg5 arg6 harg6 arg7 harg7 arg8 harg8 arg9 harg9 arg10 harg10 x0 x1 x2 x3 = (pre0 i x0 x1 x2 x3).2.2 := by
    unfold kernelRun0_A.sl.v63 kernelRun0_A.sl.HS0_1 kernelRun0_A.sl.HS1_1 kernelRun0_A.sl.HS2_1
    rw [pieces2, List.nil_append, after1_arg10, start_eq]
    simp only [View.readAt_eq_ld, Memref.IsWhole.read_unread]
    rfl
  have v119 : kernelRun0_A.sl.v119 c i arg3 harg3 arg4 harg4 arg5 harg5 arg6 harg6 arg7 harg7 arg8 harg8 arg9 harg9 arg10 harg10 x0 x1 x2 x3 = (pre1 i x0 x1 x2 x3).1 := by
    unfold kernelRun0_A.sl.v119
    rw [pieces4, List.nil_append, after3_arg8]
    simp only [kernelRun0_A.sl.r_6, kernelRun0_A.sl.r_7, View.readAt_eq_ld, Memref.IsWhole.read_unread]
    exact congrArg (fun s => (iter1 i _ _ x1 x2 x3 s _).1) (start_eq ..)
  have v132 : kernelRun0_A.sl.v132 c i arg3 harg3 arg4 harg4 arg5 harg5 arg6 harg6 arg7 harg7 arg8 harg8 arg9 harg9 arg10 harg10 x0 x1 x2 x3 = (pre1 i x0 x1 x2 x3).2.1 := by
    unfold kernelRun0_A.sl.v132
    rw [pieces4, List.nil_append, after3_arg9]
    simp only [kernelRun0_A.sl.r_6, kernelRun0_A.sl.r_7, View.readAt_eq_ld, Memref.IsWhole.read_unread]
    exact congrArg (fun s => (iter1 i _ _ x1 x2 x3 s _).2.1) (start_eq ..)
  have v140 : kernelRun0_A.sl.v140 c i arg3 harg3 arg4 harg4 arg5 harg5 arg6 harg6 arg7 harg7 arg8 harg8 arg9 harg9 arg10 harg10 x0 x1 x2 x3 = (pre1 i x0 x1 x2 x3).2.2 := by
    unfold kernelRun0_A.sl.v140
    rw [pieces4, List.nil_append, after3_arg10]
    simp only [kernelRun0_A.sl.r_6, kernelRun0_A.sl.r_7, View.readAt_eq_ld, Memref.IsWhole.read_unread]
    exact congrArg (fun s => (iter1 i _ _ x1 x2 x3 s _).2.2) (start_eq ..)
  have v75 : kernelRun0_A.sl.v75 c i arg3 harg3 arg4 harg4 arg5 harg5 arg6 harg6 arg7 harg7 arg8 harg8 arg9 harg9 arg10 harg10 x0 x1 x2 x3 = (last0 i x0 x1 x2 x3).2.2 := by
    unfold kernelRun0_A.sl.v75 kernelRun0_A.sl.HS2_1_1
    rw [View.readCov_full]
    unfold kernelRun0_A.sl.r_3 kernelRun0_A.sl.r_4
    rw [v42, v63]
    simp only [kernelRun0_A.sl.r, kernelRun0_A.sl.r_1, View.readAt_eq_ld, Memref.IsWhole.read_unread]
    rfl
  have v76 : kernelRun0_A.sl.v76 c i arg3 harg3 arg4 harg4 arg5 harg5 arg6 harg6 arg7 harg7 arg8 harg8 arg9 harg9 arg10 harg10 x0 x1 x2 x3 = (last0 i x0 x1 x2 x3).2.1 := by
    unfold kernelRun0_A.sl.v76 kernelRun0_A.sl.HS1_1_1
    rw [View.readCov_full]
    rw [v42, v55]
    simp only [kernelRun0_A.sl.r, kernelRun0_A.sl.r_1, View.readAt_eq_ld, Memref.IsWhole.read_unread]
    rfl
  have v152 : kernelRun0_A.sl.v152 c i arg3 harg3 arg4 harg4 arg5 harg5 arg6 harg6 arg7 harg7 arg8 harg8 arg9 harg9 arg10 harg10 x0 x1 x2 x3 = (last1 i x0 x1 x2 x3).2.2 := by
    unfold kernelRun0_A.sl.v152 kernelRun0_A.sl.HS2_1_2
    refine (View.readCov_full (s := S512x128) arg10.view inb_S512x128_S512x128_0_0 inb_S512x128_S512x128_0_0 _ _).trans ?_
    unfold kernelRun0_A.sl.r_8 kernelRun0_A.sl.r_10 kernelRun0_A.sl.r_11
    rw [v119, v140]
    simp only [kernelRun0_A.sl.r_6, kernelRun0_A.sl.r_7, View.readAt_eq_ld, Memref.IsWhole.read_unread]
    rfl
  have v153 : kernelRun0_A.sl.v153 c i arg3 harg3 arg4 harg4 arg5 harg5 arg6 harg6 arg7 harg7 arg8 harg8 arg9 harg9 arg10 harg10 x0 x1 x2 x3 = (last1 i x0 x1 x2 x3).2.1 := by
    unfold kernelRun0_A.sl.v153 kernelRun0_A.sl.HS1_1_2
    refine (View.readCov_full (s := S512x1) arg9.view inb_S512x1_S512x1_0_0 inb_S512x1_S512x1_0_0 _ _).trans ?_
    unfold kernelRun0_A.sl.r_12 kernelRun0_A.sl.r_13
    rw [v119, v132]
    simp only [kernelRun0_A.sl.r_6, kernelRun0_A.sl.r_7, View.readAt_eq_ld, Memref.IsWhole.read_unread]
    rfl
  unfold kernelRun0_A.sl.r_5
  rw [v75, v76, v152, v153]
  rfl

end Cert.KernelIdeal.Fox

end
-- ==== Proof.Online.lean ====
/- The online softmax over the extended reals: no program here.
   A row is processed in pieces; after each piece the state holds the greatest logit so far, the sum of the
   exponentials against it, and the weighted sum of the values.  The state at the end, weighted sum over sum,
   is the softmax-weighted sum of the values, where the masked logits are −∞. -/
module

public import Idealize.ShloMosaic.PureOps.Ideal.Laws

@[expose] public section

noncomputable section

namespace Cert.Softmax

open Idealize.ShloMosaic

/-- The exponential is nonnegative. -/
theorem exp_nonneg (x : EReal) : 0 ≤ Ideal.exp x := by
  induction x using EReal.rec with
  | bot => simp
  | coe r => rw [Ideal.exp_coe]; exact_mod_cast (Real.exp_pos r).le
  | top => simp

/-- The exponential of a nonpositive number is at most one. -/
theorem exp_le_one {x : EReal} (h : x ≤ 0) : Ideal.exp x ≤ 1 := by
  induction x using EReal.rec with
  | bot => simp
  | coe r =>
    rw [Ideal.exp_coe]
    have : r ≤ 0 := by exact_mod_cast h
    exact_mod_cast Real.exp_le_one_iff.mpr this
  | top => exact absurd h (by simp)

theorem sub_nonpos {x m : EReal} (h : x ≤ m) (hm : m ≠ ⊤) : x - m ≤ 0 := by
  induction m using EReal.rec with
  | bot => rw [le_bot_iff.mp h]; simp
  | coe r =>
    induction x using EReal.rec with
    | bot => simp
    | coe s =>
      have : s ≤ r := by exact_mod_cast h
      rw [← EReal.coe_sub]; exact_mod_cast sub_nonpos_of_le this
    | top => exact absurd h (by simp)
  | top => exact absurd rfl hm

/-- The exponentials against two maxima in turn. -/
theorem exp_chain {x m m' : EReal} (h : x ≤ m) (h' : m ≤ m') (hm : m' ≠ ⊤) :
    Ideal.exp (m - m') * Ideal.exp (x - m) = Ideal.exp (x - m') := by
  induction x using EReal.rec with
  | bot => simp
  | top => rw [top_le_iff.mp h] at h'; exact absurd (top_le_iff.mp h') hm
  | coe x =>
    induction m using EReal.rec with
    | bot => exact absurd h (by simp)
    | top => exact absurd (top_le_iff.mp h') hm
    | coe m =>
      induction m' using EReal.rec with
      | bot => exact absurd h' (by simp)
      | top => exact absurd rfl hm
      | coe m' =>
        rw [← EReal.coe_sub, ← EReal.coe_sub, ← EReal.coe_sub, Ideal.exp_coe, Ideal.exp_coe, Ideal.exp_coe, ← EReal.coe_mul,
          ← Real.exp_add]
        congr 2
        ring

/-- A nonnegative real factor goes under a finite sum. -/
theorem mul_sum {ι : Type*} (s : Finset ι) (f : ι → EReal) {a : EReal} (h0 : 0 ≤ a) (ht : a ≠ ⊤) :
    a * ∑ p ∈ s, f p = ∑ p ∈ s, a * f p := by
  classical
  induction s using Finset.induction_on with
  | empty => simp
  | insert p s hp ih =>
    rw [Finset.sum_insert hp, Finset.sum_insert hp, EReal.left_distrib_of_nonneg_of_ne_top h0 ht, ih]

/-- The greatest of a piece's scores, each moved by the same offset. -/
theorem fold_add {n : ℕ} (s : Fin n → EReal) (δ : EReal) :
    Finset.univ.fold max ⊥ s + δ = Finset.univ.sup fun k => s k + δ :=
  Finset.comp_sup_eq_sup_comp (s := Finset.univ) (f := s) (fun y : EReal => y + δ) (fun a b => max_add_add_right a b δ |>.symm)
    (EReal.bot_add δ)

theorem sup_range_add {n k : ℕ} (x : ℕ → EReal) :
    (Finset.range (n + k)).sup x = max ((Finset.range n).sup x) (Finset.univ.sup fun j : Fin k => x (n + j.val)) := by
  apply le_antisymm
  · refine Finset.sup_le fun p hp => ?_
    rcases lt_or_ge p n with h | h
    · exact le_max_of_le_left (Finset.le_sup (f := x) (Finset.mem_range.mpr h))
    · have hk : p - n < k := by have := Finset.mem_range.mp hp; omega
      refine le_max_of_le_right ?_
      have := Finset.le_sup (f := fun j : Fin k => x (n + j.val)) (Finset.mem_univ ⟨p - n, hk⟩)
      simpa [Nat.add_sub_cancel' h] using this
  · refine max_le (Finset.sup_mono fun p hp => ?_) (Finset.sup_le fun j _ => ?_)
    · exact Finset.mem_range.mpr (lt_of_lt_of_le (Finset.mem_range.mp hp) (Nat.le_add_right _ _))
    · exact Finset.le_sup (f := x) (Finset.mem_range.mpr (Nat.add_lt_add_left j.isLt n))

theorem sum_range_add {n k : ℕ} (f : ℕ → EReal) :
    ∑ p ∈ Finset.range (n + k), f p = ∑ p ∈ Finset.range n, f p + ∑ j : Fin k, f (n + j.val) := by
  rw [Finset.sum_range_add, Finset.sum_range (fun j => f (n + j))]

/-- The greatest logit after a piece. -/
def rmax {n : ℕ} (s : Fin n → EReal) (δ m : EReal) : EReal := max m (Finset.univ.fold max ⊥ s + δ)

/-- One piece: the scores `s`, their common offset `δ`, the values `v`; the state is the greatest logit, the sum and the
    weighted sum. -/
def rstep {n : ℕ} (s : Fin n → EReal) (δ : EReal) (v : Fin n → EReal) (t : EReal × EReal × EReal) : EReal × EReal × EReal :=
  (rmax s δ t.1,
   Ideal.exp (t.1 - rmax s δ t.1) * t.2.1 + ∑ k, Ideal.exp (s k + (δ - rmax s δ t.1)),
   Ideal.exp (t.1 - rmax s δ t.1) * t.2.2 + ∑ k, Ideal.exp (s k + (δ - rmax s δ t.1)) * v k)

/-- The state of the first `n` logits `x` with values `v`. -/
structure Upto (x v : ℕ → EReal) (n : ℕ) (t : EReal × EReal × EReal) : Prop where
  top : t.1 = (Finset.range n).sup x
  sum : t.2.1 = ∑ p ∈ Finset.range n, Ideal.exp (x p - t.1)
  wsum : t.2.2 = ∑ p ∈ Finset.range n, Ideal.exp (x p - t.1) * v p

theorem upto_zero (x v : ℕ → EReal) : Upto x v 0 (⊥, 0, 0) := ⟨by simp, by simp, by simp⟩

theorem sup_ne_top (x : ℕ → EReal) (hx : ∀ p, x p ≠ ⊤) (n : ℕ) : (Finset.range n).sup x ≠ ⊤ := by
  refine ne_of_lt ((Finset.sup_lt_iff (by simp)).mpr fun p _ => lt_top_iff_ne_top.mpr (hx p))

theorem Upto.step {x v : ℕ → EReal} {n k : ℕ} {t : EReal × EReal × EReal} (h : Upto x v n t) (hx : ∀ p, x p ≠ ⊤)
    (s : Fin k → EReal) (δ : EReal) (w : Fin k → EReal) (hs : ∀ j, x (n + j.val) = s j + δ) (hw : ∀ j, v (n + j.val) = w j) :
    Upto x v (n + k) (rstep s δ w t) := by
  have hmax : rmax s δ t.1 = (Finset.range (n + k)).sup x := by
    rw [rmax, fold_add, sup_range_add, ← h.top]
    simp only [hs]
  have htop : rmax s δ t.1 ≠ ⊤ := by rw [hmax]; exact sup_ne_top x hx _
  have hle : t.1 ≤ rmax s δ t.1 := le_max_left _ _
  have hxle : ∀ p ∈ Finset.range n, x p ≤ t.1 := fun p hp => by rw [h.top]; exact Finset.le_sup (f := x) hp
  have ha0 := exp_nonneg (t.1 - rmax s δ t.1)
  have hat : Ideal.exp (t.1 - rmax s δ t.1) ≠ ⊤ :=
    ne_of_lt (lt_of_le_of_lt (exp_le_one (sub_nonpos hle htop)) (EReal.coe_lt_top 1))
  have hnew : ∀ j : Fin k, Ideal.exp (s j + (δ - rmax s δ t.1)) = Ideal.exp (x (n + j.val) - rmax s δ t.1) := fun j => by
    rw [hs, sub_eq_add_neg, sub_eq_add_neg, add_assoc]
  refine ⟨hmax, ?_, ?_⟩
  · show Ideal.exp (t.1 - rmax s δ t.1) * t.2.1 + _ = ∑ p ∈ _, Ideal.exp (x p - rmax s δ t.1)
    rw [sum_range_add, h.sum, mul_sum _ _ ha0 hat]
    congr 1
    · exact Finset.sum_congr rfl fun p hp => exp_chain (hxle p hp) hle htop
    · exact Finset.sum_congr rfl fun j _ => hnew j
  · show Ideal.exp (t.1 - rmax s δ t.1) * t.2.2 + _ = ∑ p ∈ _, Ideal.exp (x p - rmax s δ t.1) * v p
    rw [sum_range_add, h.wsum, mul_sum _ _ ha0 hat]
    congr 1
    · exact Finset.sum_congr rfl fun p hp => by rw [← mul_assoc, exp_chain (hxle p hp) hle htop]
    · exact Finset.sum_congr rfl fun j _ => by rw [hnew, hw]

/-- A sum of exponentials of which one is of a real number and all are at most one is a positive real. -/
theorem sum_exp_real {ι : Type*} (A : Finset ι) (y : ι → EReal) (hy : ∀ p ∈ A, y p ≤ 0) (i : ι) (hi : i ∈ A) (hr : y i ≠ ⊥) :
    ∃ L : ℝ, 0 < L ∧ ∑ p ∈ A, Ideal.exp (y p) = (L : EReal) := by
  have hpos : 0 < Ideal.exp (y i) := by
    have := hy i hi
    generalize y i = z at *
    induction z using EReal.rec with
    | bot => exact absurd rfl hr
    | coe r => rw [Ideal.exp_coe]; exact_mod_cast Real.exp_pos r
    | top => simp
  have h1 : Ideal.exp (y i) ≤ ∑ p ∈ A, Ideal.exp (y p) :=
    Finset.single_le_sum (f := fun p => Ideal.exp (y p)) (fun p _ => exp_nonneg _) hi
  have h2 : ∑ p ∈ A, Ideal.exp (y p) ≠ ⊤ := by
    have : ∀ B : Finset ι, B ⊆ A → ∑ p ∈ B, Ideal.exp (y p) ≠ ⊤ := by
      classical
      intro B
      induction B using Finset.induction_on with
      | empty => simp
      | insert p B hp ih =>
        intro hB
        rw [Finset.sum_insert hp]
        refine EReal.add_ne_top (ne_of_lt (lt_of_le_of_lt (exp_le_one (hy p (hB (Finset.mem_insert_self _ _)))) (EReal.coe_lt_top 1)))
          (ih fun q hq => hB (Finset.mem_insert_of_mem hq))
    exact this A (Finset.Subset.refl _)
  have h3 : ∑ p ∈ A, Ideal.exp (y p) ≠ ⊥ := ne_of_gt (lt_of_lt_of_le (lt_of_le_of_lt bot_le hpos) h1)
  refine ⟨(∑ p ∈ A, Ideal.exp (y p)).toReal, ?_, (EReal.coe_toReal h2 h3).symm⟩
  have := lt_of_lt_of_le hpos h1
  rw [← EReal.coe_toReal h2 h3] at this
  exact_mod_cast this

/-- The weighted sum over the sum is the sum of the values with normalized weights. -/
theorem div_sum {ι : Type*} (A : Finset ι) (e v : ι → EReal) {L : ℝ} (hL : 0 < L) :
    Ideal.div (∑ p ∈ A, e p * v p) (L : EReal) = ∑ p ∈ A, Ideal.div (e p) (L : EReal) * v p := by
  have h0 : (0 : EReal) ≤ ((1 / L : ℝ) : EReal) := by exact_mod_cast (by positivity : (0 : ℝ) ≤ 1 / L)
  rw [Ideal.div_coe hL.ne', mul_comm, mul_sum _ _ h0 (EReal.coe_ne_top _)]
  refine Finset.sum_congr rfl fun p _ => ?_
  rw [Ideal.div_coe hL.ne', ← mul_assoc, mul_comm (((1 / L : ℝ) : EReal))]

/-- THE END OF A ROW: the state after the first `n` of `N` logits, the rest of which are −∞, gives the softmax-weighted
    sum of the values as it is written over all `N`. -/
theorem Upto.final {x v : ℕ → EReal} {n N R : ℕ} {t : EReal × EReal × EReal} (h : Upto x v n t) (hx : ∀ p, x p ≠ ⊤)
    (hN : n ≤ N) (hR : R < n) (hxR : x R ≠ ⊥) (hout : ∀ p, n ≤ p → x p = ⊥) :
    Ideal.div t.2.2 t.2.1 =
      ∑ p : Fin N, Ideal.div (Ideal.exp (x p.val - max ⊥ (Finset.univ.fold max ⊥ fun q : Fin N => x q.val)))
        (∑ p : Fin N, Ideal.exp (x p.val - max ⊥ (Finset.univ.fold max ⊥ fun q : Fin N => x q.val))) * v p.val := by
  have hM : (max ⊥ (Finset.univ.fold max ⊥ fun q : Fin N => x q.val)) = t.1 := by
    rw [max_eq_right bot_le, h.top]
    apply le_antisymm
    · refine Finset.sup_le (f := fun q : Fin N => x q.val) fun q _ => ?_
      rcases lt_or_ge q.val n with hq | hq
      · exact Finset.le_sup (f := x) (Finset.mem_range.mpr hq)
      · rw [hout _ hq]; exact bot_le
    · refine Finset.sup_le fun p hp => ?_
      exact Finset.le_sup (f := fun q : Fin N => x q.val) (Finset.mem_univ ⟨p, lt_of_lt_of_le (Finset.mem_range.mp hp) hN⟩)
  rw [hM]
  have hres : ∀ f : ℕ → EReal, (∀ p, n ≤ p → f p = 0) → ∑ p : Fin N, f p.val = ∑ p ∈ Finset.range n, f p := fun f hf => by
    rw [← Finset.sum_range (fun p => f p)]
    refine (Finset.sum_subset (fun p hp => Finset.mem_range.mpr (lt_of_lt_of_le (Finset.mem_range.mp hp) hN)) fun p _ hp => ?_).symm
    exact hf p (not_lt.mp fun hlt => hp (Finset.mem_range.mpr hlt))
  have hz : ∀ p, n ≤ p → Ideal.exp (x p - t.1) = 0 := fun p hp => by rw [hout p hp]; simp
  have hsum := hres (fun p => Ideal.exp (x p - t.1)) hz
  rw [hsum]
  have htop : t.1 ≠ ⊤ := by rw [h.top]; exact sup_ne_top x hx n
  have hle : ∀ p ∈ Finset.range n, x p ≤ t.1 := fun p hp => by rw [h.top]; exact Finset.le_sup (f := x) hp
  have hRm := Finset.mem_range.mpr hR
  have hRb : x R - t.1 ≠ ⊥ := by
    have h1 := hle R hRm
    have h2 := hx R
    generalize x R = a at *
    generalize t.1 = b at *
    induction a using EReal.rec with
    | bot => exact absurd rfl hxR
    | top => exact absurd rfl h2
    | coe a =>
      induction b using EReal.rec with
      | bot => exact absurd h1 (by simp)
      | top => exact absurd rfl htop
      | coe b => rw [← EReal.coe_sub]; exact EReal.coe_ne_bot _
  obtain ⟨L, hL, hLe⟩ := sum_exp_real (Finset.range n) (fun p => x p - t.1) (fun p hp => sub_nonpos (hle p hp) htop) R hRm hRb
  rw [h.wsum, h.sum]
  rw [hLe, div_sum _ _ _ hL]
  refine (hres (fun p => Ideal.div (Ideal.exp (x p - t.1)) (L : EReal) * v p) fun p hp => ?_).symm
  rw [hz p hp, Ideal.div_coe hL.ne', zero_mul, zero_mul]

end Cert.Softmax

end
-- ==== Proof.BlockIdx.lean ====
/- One key block of the attention kernel, one row and one value column at a time: `Softmax.rstep` of the row's scores. -/
module

public import proofs.«01_k».proof.Proof.Block
public import proofs.«01_k».proof.Proof.Online
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen Idealize.ShloMosaic Cert.Softmax

/-- Row `r` of the row statistics, and value column `d` of row `r` of the weighted values. -/
def atRow (st : St Ideal) (r : Fin 512) (d : Fin 128) : EReal × EReal × EReal :=
  (st.1 (ix2 r 0), st.2.1 (ix2 r 0), st.2.2 (ix2 r d))

theorem ninf : Ideal.ofBits FTy.f32 4286578688#32 = (⊥ : EReal) := by
  simp [Ideal.ofBits, Ideal.ieee]

/-- The score of key `k` in row `r` of a block. -/
def sc (q : FVec Ideal S512x128 .bf16) (kb : Vec Ideal S1x1x512x128 .bf16) (r k : Fin 512) : EReal :=
  ∑ x : Fin 128, q (ix2 r x) * kb (ix4 0 0 k x)

theorem start_at (r : Fin 512) (d : Fin 128) : atRow start r d = (⊥, 0, 0) := by
  have h1 : k0_pay39 (F := Ideal) (ix2 r 0) = ⊥ := by pointwise [k0_pay39]; exact ninf
  have h2 : k0_pay40 (F := Ideal) (ix2 r 0) = 0 := by pointwise [k0_pay40]
  have h3 : k0_pay41 (F := Ideal) (ix2 r d) = 0 := by pointwise [k0_pay41]
  exact Prod.ext h1 (Prod.ext h2 h3)

section Full
variable (q : FVec Ideal S512x128 .bf16) (cq : FVec Ideal S1x1 .f32) (kb : Vec Ideal S1x1x512x128 .bf16)
  (vb : Vec Ideal S1x512x128 .bf16) (cb : Vec Ideal S1x1x1x128 .f32)

theorem pay6_at (r k : Fin 512) : k0_pay6 q kb (ix2 r k) = sc q kb r k := by
  unfold sc; pointwise [k0_pay6]

theorem pay7_at : k0_pay7 cq cb (ix2 0 0) = cq (ix2 0 0) - cb (ix4 0 0 0 0) := by
  pointwise [k0_pay7]

theorem pay8_at (m : Vec Ideal S512x1 .f32) (r : Fin 512) :
    k0_pay8 q cq kb cb m (ix2 r 0) = rmax (fun k => sc q kb r k) (cq (ix2 0 0) - cb (ix4 0 0 0 0)) (m (ix2 r 0)) := by
  rw [← pay7_at]
  simp only [← pay6_at]
  unfold rmax
  rw [← ninf]
  pointwise [k0_pay8]

theorem step_at (st : St Ideal) (r : Fin 512) (d : Fin 128) :
    atRow (step q cq kb vb cb st) r d =
      rstep (fun k => sc q kb r k) (cq (ix2 0 0) - cb (ix4 0 0 0 0)) (fun k => vb (ix3 0 k d)) (atRow st r d) := by
  have h1 : (step q cq kb vb cb st).1 (ix2 r 0) = k0_pay8 q cq kb cb st.1 (ix2 r 0) := by
    unfold step; dsimp only; pointwise [k0_pay43]
  have h2 : (step q cq kb vb cb st).2.1 (ix2 r 0) =
      Ideal.exp (st.1 (ix2 r 0) - k0_pay8 q cq kb cb st.1 (ix2 r 0)) * st.2.1 (ix2 r 0) +
        ∑ x, Ideal.exp (k0_pay6 q kb (ix2 r x) + (k0_pay7 cq cb (ix2 0 0) - k0_pay8 q cq kb cb st.1 (ix2 r 0))) := by
    unfold step; dsimp only; pointwise [k0_pay11, k0_pay10, k0_pay9]
  have h3 : (step q cq kb vb cb st).2.2 (ix2 r d) =
      Ideal.exp (st.1 (ix2 r 0) - k0_pay8 q cq kb cb st.1 (ix2 r 0)) * st.2.2 (ix2 r d) +
        ∑ x, Ideal.exp (k0_pay6 q kb (ix2 r x) + (k0_pay7 cq cb (ix2 0 0) - k0_pay8 q cq kb cb st.1 (ix2 r 0))) * vb (ix3 0 x d) := by
    unfold step; dsimp only; pointwise [k0_pay42, k0_pay12, k0_pay10, k0_pay9, k0_pay5]
  simp only [pay6_at, pay7_at, pay8_at] at h1 h2 h3
  exact Prod.ext h1 (Prod.ext h2 h3)

end Full

section Diagonal
variable (q : FVec Ideal S512x128 .bf16) (cq : FVec Ideal S1x1 .f32) (kb : Vec Ideal S1x1x512x128 .bf16)
  (vb : Vec Ideal S1x512x128 .bf16) (cb : Vec Ideal S1x1x1x128 .f32)

/-- The score of key `k` in row `r` of the diagonal block: −∞ for a key after the row. -/
def dsc (r k : Fin 512) : EReal := if k.val ≤ r.val then sc q kb r k else ⊥

theorem pay46_at (r k : Fin 512) : k0_pay46 rowNo colNo q kb (ix2 r k) = dsc q kb r k := by
  have h : k0_pay46 rowNo colNo q kb (ix2 r k) = Scalar.select (IntOp.cmpi CmpIPredicate.sle (BitVec.ofNat 32 k.val) (BitVec.ofNat 32 r.val))
      (∑ x, q (ix2 r x) * kb (ix4 0 0 k x)) (Ideal.ofBits FTy.f32 4286578688#32) := by
    pointwise [k0_pay46]
  have hr : (BitVec.ofNat 32 r.val).toInt = r.val := WordCmp.toInt_ofNat_of_lt (by omega)
  have hk : (BitVec.ofNat 32 k.val).toInt = k.val := WordCmp.toInt_ofNat_of_lt (by omega)
  rw [h, ninf]
  simp only [IntOp.cmpi, BitVec.sle_eq_decide]
  rw [hr, hk]
  simp only [Int.ofNat_le]
  unfold dsc sc
  by_cases hh : k.val ≤ r.val <;> simp [hh, Scalar.select]

theorem pay47_at : k0_pay47 cq cb (ix2 0 0) = cq (ix2 0 0) - cb (ix4 0 0 0 0) := by
  pointwise [k0_pay47]

theorem pay48_at (m : Vec Ideal S512x1 .f32) (r : Fin 512) :
    k0_pay48 rowNo colNo q cq kb cb m (ix2 r 0) =
      rmax (fun k => dsc q kb r k) (cq (ix2 0 0) - cb (ix4 0 0 0 0)) (m (ix2 r 0)) := by
  rw [← pay47_at]
  simp only [← pay46_at]
  unfold rmax
  rw [← ninf]
  pointwise [k0_pay48]

theorem dstep_at (st : St Ideal) (r : Fin 512) (d : Fin 128) :
    atRow (dstep q cq kb vb cb st) r d =
      rstep (fun k => dsc q kb r k) (cq (ix2 0 0) - cb (ix4 0 0 0 0)) (fun k => vb (ix3 0 k d)) (atRow st r d) := by
  have h1 : (dstep q cq kb vb cb st).1 (ix2 r 0) = k0_pay48 rowNo colNo q cq kb cb st.1 (ix2 r 0) := by
    unfold dstep; dsimp only; pointwise [k0_pay55]
  have h2 : (dstep q cq kb vb cb st).2.1 (ix2 r 0) =
      Ideal.exp (st.1 (ix2 r 0) - k0_pay48 rowNo colNo q cq kb cb st.1 (ix2 r 0)) * st.2.1 (ix2 r 0) +
        ∑ x, Ideal.exp (k0_pay46 rowNo colNo q kb (ix2 r x) + (k0_pay47 cq cb (ix2 0 0) - k0_pay48 rowNo colNo q cq kb cb st.1 (ix2 r 0))) := by
    unfold dstep; dsimp only; pointwise [k0_pay51, k0_pay50, k0_pay49]
  have h3 : (dstep q cq kb vb cb st).2.2 (ix2 r d) =
      Ideal.exp (st.1 (ix2 r 0) - k0_pay48 rowNo colNo q cq kb cb st.1 (ix2 r 0)) * st.2.2 (ix2 r d) +
        ∑ x, Ideal.exp (k0_pay46 rowNo colNo q kb (ix2 r x) + (k0_pay47 cq cb (ix2 0 0) - k0_pay48 rowNo colNo q cq kb cb st.1 (ix2 r 0))) * vb (ix3 0 x d) := by
    unfold dstep; dsimp only; pointwise [k0_pay54, k0_pay53, k0_pay52, k0_pay50, k0_pay49]
  simp only [pay46_at, pay47_at, pay48_at] at h1 h2 h3
  exact Prod.ext h1 (Prod.ext h2 h3)

end Diagonal

/-- An element of the output block: the weighted values of the element's head over its sums. -/
theorem OUT_at (i : grid0.Coords) (x0 : Vec Ideal S1x2x512x128 .bf16) (x1 : Vec Ideal S1x2x16384x128 .bf16)
    (x2 : Vec Ideal S1x16384x128 .bf16) (x3 : Vec Ideal S1x2x32x128 .f32) (r : Fin 512) (d : Fin 128) :
    OUT i x0 x1 x2 x3 (ix3 0 r d) = if d.val < 64 then
        Ideal.div (atRow (last0 i x0 x1 x2 x3) r d).2.2 (atRow (last0 i x0 x1 x2 x3) r d).2.1
      else Ideal.div (atRow (last1 i x0 x1 x2 x3) r d).2.2 (atRow (last1 i x0 x1 x2 x3) r d).2.1 := by
  unfold OUT atRow
  generalize last0 i x0 x1 x2 x3 = a
  generalize last1 i x0 x1 x2 x3 = b
  pointwise [k0_pay4, k0_pay56]
  have hd : (BitVec.ofNat 32 d.val).toInt = d.val := WordCmp.toInt_ofNat_of_lt (by omega)
  simp only [IntOp.cmpi, BitVec.slt_eq_decide]
  rw [hd]
  by_cases hh : d.val < 64
  · have h2 : (d.val : Int) < 64 := by omega
    simp [hh, h2, Scalar.select]
  · have h2 : ¬ (d.val : Int) < 64 := by omega
    simp [hh, h2, Scalar.select]

end Cert.KernelIdeal.Fox

end
-- ==== Proof.BlockVal.lean ====
/- What one grid point writes, one element at a time.  A row of one head goes through the key blocks before its own and
   the diagonal one; by `Softmax.Upto` the state then holds the row's greatest logit, sum and weighted sum, so the
   output is the softmax-weighted sum of the values over all positions. -/
module

public import proofs.«01_k».proof.Proof.BlockIdx
public import Idealize.ShloMosaic.Lib.Pipeline.ValueKit.Tiles

@[expose] public section

set_option maxRecDepth 16384

noncomputable section

namespace Cert.KernelIdeal.Fox

open Cert.KernelIdeal Cert.KernelIdeal.Gen Idealize.ShloMosaic Cert.Softmax

variable (i : grid0.Coords) (x0 : Vec Ideal S1x2x512x128 .bf16) (x1 : Vec Ideal S1x2x16384x128 .bf16)
    (x2 : Vec Ideal S1x16384x128 .bf16) (x3 : Vec Ideal S1x2x32x128 .f32)

/-- A load through a rectangle at offsets `off'`, at an index. -/
theorem ld_at {Val : EltTy → Type} {S : Shape} {e : EltTy} (X : S.Idx → Val e) {off off' size : Fin S.rank → Nat} (h : off = off')
    (inb) (x : (Rect.unit off size inb).shape.Idx) (i : S.Idx) (hi : ∀ a, (i a : Nat) = off' a + x a) :
    View.ld X (Rect.unit off size inb) x = X i := by
  subst h; exact View.ld_unit_apply_of _ _ _ _ _ _ hi

/-- The block row of the point. -/
def qrow : Fin 32 := i 2

theorem trips1q : (k0_t1_loop i).trips = (qrow i).val := trips1 i
theorem trips3q : (k0_t3_loop i).trips = (qrow i).val := trips3 i

/-- The logits of row `r` of head `h`: −∞ after the row's own position. -/
def bx (h : Fin 2) (r : Fin 512) (p : ℕ) : EReal :=
  if hp : p < 16384 then
    if p ≤ 512 * (qrow i).val + r.val then
      (∑ x : Fin 128, x0 (ix4 0 h r x) * x1 (ix4 0 h ⟨p, hp⟩ x)) +
        (x3 (ix4 0 h (qrow i) 0) - x3 (ix4 0 h ⟨p / 512, by omega⟩ 0))
    else ⊥
  else ⊥

/-- Value column `d`. -/
def bv (d : Fin 128) (p : ℕ) : EReal := if hp : p < 16384 then x2 (ix3 0 ⟨p, hp⟩ d) else 0

/-! ### Head 0 -/

theorem q0_at (r : Fin 512) (x : Fin 128) :
    k0_pay37 (View.ld x0 (Rect.unit (s := S1x2x512x128) ![0, 0, 0, 0] S1x1x512x128.size inb_S1x2x512x128_S1x1x512x128_0_0_0_0)) (ix2 r x)
      = x0 (ix4 0 0 r x) := by
  have h : ∀ y : Vec Ideal S1x1x512x128 .bf16, k0_pay37 y (ix2 r x) = y (ix4 0 0 r x) := fun y => by pointwise [k0_pay37]
  rw [h]
  exact View.ld_unit_apply_of _ _ _ _ _ _ (fun a => by
    match a with
    | ⟨0, _⟩ => rfl
    | ⟨1, _⟩ => rfl
    | ⟨2, _⟩ => show r.val = 0 + r.val; omega
    | ⟨3, _⟩ => show x.val = 0 + x.val; omega)

theorem cb0_at : View.ld x3 (Rect.unit (s := S1x2x32x128) (k0_off1 i) S1x1x1x128.size (k0_off1_inb i)) (ix4 0 0 0 0)
      = x3 (ix4 0 0 (qrow i) 0) :=
  ld_at _ (k0_off1_eq i) _ _ _ (fun a => by
    match a with
    | ⟨0, _⟩ => rfl
    | ⟨1, _⟩ => rfl
    | ⟨2, _⟩ => rfl
    | ⟨3, _⟩ => rfl)

theorem cq0_at : k0_pay38 (View.ld x3 (Rect.unit (s := S1x2x32x128) (k0_off1 i) S1x1x1x128.size (k0_off1_inb i))) (ix2 0 0)
      = x3 (ix4 0 0 (qrow i) 0) := by
  have h : ∀ y : Vec Ideal S1x1x1x128 .f32, k0_pay38 y (ix2 0 0) = y (ix4 0 0 0 0) := fun y => by pointwise [k0_pay38]
  rw [h]
  exact cb0_at i x3

theorem k0_at (k : Fin (k0_t1_loop i).trips) (j : Fin 512) (x : Fin 128) (hk : 512 * k.val + j.val < 16384) :
    View.ld x1 (Rect.unit (s := S1x2x16384x128) (k0_off2 i k) S1x1x512x128.size (k0_off2_inb i k)) (ix4 0 0 j x)
      = x1 (ix4 0 0 ⟨512 * k.val + j.val, hk⟩ x) :=
  ld_at _ (k0_off2_eq i k) _ _ _ (fun a => by
    match a with
    | ⟨0, _⟩ => rfl
    | ⟨1, _⟩ => rfl
    | ⟨2, _⟩ => rfl
    | ⟨3, _⟩ => show x.val = 0 + x.val; omega)

theorem v0_at (k : Fin (k0_t1_loop i).trips) (j : Fin 512) (d : Fin 128) (hk : 512 * k.val + j.val < 16384) :
    View.ld x2 (Rect.unit (s := S1x16384x128) (k0_off3 i k) S1x512x128.size (k0_off3_inb i k)) (ix3 0 j d)
      = x2 (ix3 0 ⟨512 * k.val + j.val, hk⟩ d) :=
  ld_at _ (k0_off3_eq i k) _ _ _ (fun a => by
    match a with
    | ⟨0, _⟩ => rfl
    | ⟨1, _⟩ => rfl
    | ⟨2, _⟩ => show d.val = 0 + d.val; omega)

theorem c0_at (k : Fin (k0_t1_loop i).trips) (hk : k.val < 32) :
    View.ld x3 (Rect.unit (s := S1x2x32x128) (k0_off4 i k) S1x1x1x128.size (k0_off4_inb i k)) (ix4 0 0 0 0)
      = x3 (ix4 0 0 ⟨k.val, hk⟩ 0) :=
  ld_at _ (k0_off4_eq i k) _ _ _ (fun a => by
    match a with
    | ⟨0, _⟩ => rfl
    | ⟨1, _⟩ => rfl
    | ⟨2, _⟩ => rfl
    | ⟨3, _⟩ => rfl)

theorem kd0_at (j : Fin 512) (x : Fin 128) (hk : 512 * (qrow i).val + j.val < 16384) :
    View.ld x1 (Rect.unit (s := S1x2x16384x128) (k0_off8 i) S1x1x512x128.size (k0_off8_inb i)) (ix4 0 0 j x)
      = x1 (ix4 0 0 ⟨512 * (qrow i).val + j.val, hk⟩ x) :=
  ld_at _ (k0_off8_eq i) _ _ _ (fun a => by
    match a with
    | ⟨0, _⟩ => rfl
    | ⟨1, _⟩ => rfl
    | ⟨2, _⟩ => rfl
    | ⟨3, _⟩ => show x.val = 0 + x.val; omega)

/-- Head 0's state before the diagonal block, row `r`. -/
theorem iter0_upto (q : FVec Ideal S512x128 .bf16) (cq : FVec Ideal S1x1 .f32) (r : Fin 512) (d : Fin 128)
    (hq : ∀ x, q (ix2 r x) = x0 (ix4 0 0 r x)) (hcq : cq (ix2 0 0) = x3 (ix4 0 0 (qrow i) 0))
    (hx : ∀ p, bx i x0 x1 x3 0 r p ≠ ⊤) (k : ℕ) (hk : k ≤ (k0_t1_loop i).trips) :
    Upto (bx i x0 x1 x3 0 r) (bv x2 d) (512 * k) (atRow (iter0 i q cq x1 x2 x3 start k) r d) := by
  induction k with
  | zero => rw [iter0, start_at]; exact upto_zero _ _
  | succ k ih =>
    have hlt : k < (k0_t1_loop i).trips := hk
    have hn : k < (qrow i).val := by have := trips1q i; omega
    have hn2 : (qrow i).val < 32 := (qrow i).isLt
    rw [iter0, dif_pos hlt, step0, step_at, Nat.mul_succ]
    refine (ih hlt.le).step hx _ _ _ (fun j => ?_) (fun j => ?_)
    · have hp : 512 * k + j.val < 16384 := by omega
      have hdiv : (512 * k + j.val) / 512 = k := by omega
      rw [bx, dif_pos hp, if_pos (by omega), sc, c0_at i x3 ⟨k, hlt⟩ (by show k < 32; omega), hcq]
      simp only [hq, hdiv]
      refine congrArg (· + _) (Finset.sum_congr rfl fun x _ => congrArg (_ * ·) ?_)
      exact (k0_at i x1 ⟨k, hlt⟩ j x hp).symm
    · have hp : 512 * k + j.val < 16384 := by omega
      rw [bv, dif_pos hp]
      exact (v0_at i x2 ⟨k, hlt⟩ j d hp).symm

/-- Head 0's state at the end of the point, row `r`. -/
theorem last0_upto (r : Fin 512) (d : Fin 128) (hx : ∀ p, bx i x0 x1 x3 0 r p ≠ ⊤) :
    Upto (bx i x0 x1 x3 0 r) (bv x2 d) (512 * (qrow i).val + 512) (atRow (last0 i x0 x1 x2 x3) r d) := by
  have hn2 : (qrow i).val < 32 := (qrow i).isLt
  have h := iter0_upto i x0 x1 x2 x3 _ _ r d (q0_at x0 r) (cq0_at i x3) hx (k0_t1_loop i).trips le_rfl
  rw [trips1q] at h
  rw [last0, dstep_at]
  rw [pre0, trips1q]
  refine h.step hx _ _ _ (fun j => ?_) (fun j => ?_)
  · have hp : 512 * (qrow i).val + j.val < 16384 := by omega
    have hdiv : (512 * (qrow i).val + j.val) / 512 = (qrow i).val := by omega
    rw [bx, dif_pos hp, dsc, cb0_at, cq0_at]
    by_cases hj : j.val ≤ r.val
    · rw [if_pos (by omega), if_pos hj, sc]
      simp only [q0_at, hdiv]
      refine congrArg (· + _) (Finset.sum_congr rfl fun x _ => congrArg (_ * ·) ?_)
      exact (kd0_at i x1 j x hp).symm
    · rw [if_neg (by omega), if_neg hj, EReal.bot_add]
  · have hp : 512 * (qrow i).val + j.val < 16384 := by omega
    rw [bv, dif_pos hp]
    refine Eq.symm (ld_at _ (k0_off9_eq i) _ _ _ (fun a => ?_))
    match a with
    | ⟨0, _⟩ => rfl
    | ⟨1, _⟩ => rfl
    | ⟨2, _⟩ => show d.val = 0 + d.val; omega

/-! ### Head 1 -/

theorem q1_at (r : Fin 512) (x : Fin 128) :
    k0_pay37 (View.ld x0 (Rect.unit (s := S1x2x512x128) ![0, 1, 0, 0] S1x1x512x128.size inb_S1x2x512x128_S1x1x512x128_0_1_0_0)) (ix2 r x)
      = x0 (ix4 0 1 r x) := by
  have h : ∀ y : Vec Ideal S1x1x512x128 .bf16, k0_pay37 y (ix2 r x) = y (ix4 0 0 r x) := fun y => by pointwise [k0_pay37]
  rw [h]
  exact View.ld_unit_apply_of _ _ _ _ _ _ (fun a => by
    match a with
    | ⟨0, _⟩ => rfl
    | ⟨1, _⟩ => rfl
    | ⟨2, _⟩ => show r.val = 0 + r.val; omega
    | ⟨3, _⟩ => show x.val = 0 + x.val; omega)

theorem cb1_at : View.ld x3 (Rect.unit (s := S1x2x32x128) (k0_off10 i) S1x1x1x128.size (k0_off10_inb i)) (ix4 0 0 0 0)
      = x3 (ix4 0 1 (qrow i) 0) :=
  ld_at _ (k0_off10_eq i) _ _ _ (fun a => by
    match a with
    | ⟨0, _⟩ => rfl
    | ⟨1, _⟩ => rfl
    | ⟨2, _⟩ => rfl
    | ⟨3, _⟩ => rfl)

theorem cq1_at : k0_pay38 (View.ld x3 (Rect.unit (s := S1x2x32x128) (k0_off10 i) S1x1x1x128.size (k0_off10_inb i))) (ix2 0 0)
      = x3 (ix4 0 1 (qrow i) 0) := by
  have h : ∀ y : Vec Ideal S1x1x1x128 .f32, k0_pay38 y (ix2 0 0) = y (ix4 0 0 0 0) := fun y => by pointwise [k0_pay38]
  rw [h]
  exact cb1_at i x3

theorem k1_at (k : Fin (k0_t3_loop i).trips) (j : Fin 512) (x : Fin 128) (hk : 512 * k.val + j.val < 16384) :
    View.ld x1 (Rect.unit (s := S1x2x16384x128) (k0_off11 i k) S1x1x512x128.size (k0_off11_inb i k)) (ix4 0 0 j x)
      = x1 (ix4 0 1 ⟨512 * k.val + j.val, hk⟩ x) :=
  ld_at _ (k0_off11_eq i k) _ _ _ (fun a => by
    match a with
    | ⟨0, _⟩ => rfl
    | ⟨1, _⟩ => rfl
    | ⟨2, _⟩ => rfl
    | ⟨3, _⟩ => show x.val = 0 + x.val; omega)

theorem v1_at (k : Fin (k0_t3_loop i).trips) (j : Fin 512) (d : Fin 128) (hk : 512 * k.val + j.val < 16384) :
    View.ld x2 (Rect.unit (s := S1x16384x128) (k0_off12 i k) S1x512x128.size (k0_off12_inb i k)) (ix3 0 j d)
      = x2 (ix3 0 ⟨512 * k.val + j.val, hk⟩ d) :=
  ld_at _ (k0_off12_eq i k) _ _ _ (fun a => by
    match a with
    | ⟨0, _⟩ => rfl
    | ⟨1, _⟩ => rfl
    | ⟨2, _⟩ => show d.val = 0 + d.val; omega)

theorem c1_at (k : Fin (k0_t3_loop i).trips) (hk : k.val < 32) :
    View.ld x3 (Rect.unit (s := S1x2x32x128) (k0_off13 i k) S1x1x1x128.size (k0_off13_inb i k)) (ix4 0 0 0 0)
      = x3 (ix4 0 1 ⟨k.val, hk⟩ 0) :=
  ld_at _ (k0_off13_eq i k) _ _ _ (fun a => by
    match a with
    | ⟨0, _⟩ => rfl
    | ⟨1, _⟩ => rfl
    | ⟨2, _⟩ => rfl
    | ⟨3, _⟩ => rfl)

theorem kd1_at (j : Fin 512) (x : Fin 128) (hk : 512 * (qrow i).val + j.val < 16384) :
    View.ld x1 (Rect.unit (s := S1x2x16384x128) (k0_off17 i) S1x1x512x128.size (k0_off17_inb i)) (ix4 0 0 j x)
      = x1 (ix4 0 1 ⟨512 * (qrow i).val + j.val, hk⟩ x) :=
  ld_at _ (k0_off17_eq i) _ _ _ (fun a => by
    match a with
    | ⟨0, _⟩ => rfl
    | ⟨1, _⟩ => rfl
    | ⟨2, _⟩ => rfl
    | ⟨3, _⟩ => show x.val = 0 + x.val; omega)

/-- Head 1's state before the diagonal block, row `r`. -/
theorem iter1_upto (q : FVec Ideal S512x128 .bf16) (cq : FVec Ideal S1x1 .f32) (r : Fin 512) (d : Fin 128)
    (hq : ∀ x, q (ix2 r x) = x0 (ix4 0 1 r x)) (hcq : cq (ix2 0 0) = x3 (ix4 0 1 (qrow i) 0))
    (hx : ∀ p, bx i x0 x1 x3 1 r p ≠ ⊤) (k : ℕ) (hk : k ≤ (k0_t3_loop i).trips) :
    Upto (bx i x0 x1 x3 1 r) (bv x2 d) (512 * k) (atRow (iter1 i q cq x1 x2 x3 start k) r d) := by
  induction k with
  | zero => rw [iter1, start_at]; exact upto_zero _ _
  | succ k ih =>
    have hlt : k < (k0_t3_loop i).trips := hk
    have hn : k < (qrow i).val := by have := trips3q i; omega
    have hn2 : (qrow i).val < 32 := (qrow i).isLt
    rw [iter1, dif_pos hlt, step1, step_at, Nat.mul_succ]
    refine (ih hlt.le).step hx _ _ _ (fun j => ?_) (fun j => ?_)
    · have hp : 512 * k + j.val < 16384 := by omega
      have hdiv : (512 * k + j.val) / 512 = k := by omega
      rw [bx, dif_pos hp, if_pos (by omega), sc, c1_at i x3 ⟨k, hlt⟩ (by show k < 32; omega), hcq]
      simp only [hq, hdiv]
      refine congrArg (· + _) (Finset.sum_congr rfl fun x _ => congrArg (_ * ·) ?_)
      exact (k1_at i x1 ⟨k, hlt⟩ j x hp).symm
    · have hp : 512 * k + j.val < 16384 := by omega
      rw [bv, dif_pos hp]
      exact (v1_at i x2 ⟨k, hlt⟩ j d hp).symm

/-- Head 1's state at the end of the point, row `r`. -/
theorem last1_upto (r : Fin 512) (d : Fin 128) (hx : ∀ p, bx i x0 x1 x3 1 r p ≠ ⊤) :
    Upto (bx i x0 x1 x3 1 r) (bv x2 d) (512 * (qrow i).val + 512) (atRow (last1 i x0 x1 x2 x3) r d) := by
  have hn2 : (qrow i).val < 32 := (qrow i).isLt
  have h := iter1_upto i x0 x1 x2 x3 _ _ r d (q1_at x0 r) (cq1_at i x3) hx (k0_t3_loop i).trips le_rfl
  rw [trips3q] at h
  rw [last1, dstep_at]
  rw [pre1, trips3q]
  refine h.step hx _ _ _ (fun j => ?_) (fun j => ?_)
  · have hp : 512 * (qrow i).val + j.val < 16384 := by omega
    have hdiv : (512 * (qrow i).val + j.val) / 512 = (qrow i).val := by omega
    rw [bx, dif_pos hp, dsc, cb1_at, cq1_at]
    by_cases hj : j.val ≤ r.val
    · rw [if_pos (by omega), if_pos hj, sc]
      simp only [q1_at, hdiv]
      refine congrArg (· + _) (Finset.sum_congr rfl fun x _ => congrArg (_ * ·) ?_)
      exact (kd1_at i x1 j x hp).symm
    · rw [if_neg (by omega), if_neg hj, EReal.bot_add]
  · have hp : 512 * (qrow i).val + j.val < 16384 := by omega
    rw [bv, dif_pos hp]
    refine Eq.symm (ld_at _ (k0_off9_eq i) _ _ _ (fun a => ?_))
    match a with
    | ⟨0, _⟩ => rfl
    | ⟨1, _⟩ => rfl
    | ⟨2, _⟩ => show d.val = 0 + d.val; omega

/-- The head of an output column. -/
def hd (d : Fin 128) : Fin 2 := if d.val < 64 then 0 else 1

/-- WHAT A POINT WRITES: the softmax-weighted sum of the values. -/
theorem OUT_softmax (r : Fin 512) (d : Fin 128) (hx : ∀ h p, bx i x0 x1 x3 h r p ≠ ⊤)
    (hb : bx i x0 x1 x3 (hd d) r (512 * (qrow i).val + r.val) ≠ ⊥) :
    OUT i x0 x1 x2 x3 (ix3 0 r d) =
      ∑ p : Fin 16384, Ideal.div (Ideal.exp (bx i x0 x1 x3 (hd d) r p.val -
          max ⊥ (Finset.univ.fold max ⊥ fun q : Fin 16384 => bx i x0 x1 x3 (hd d) r q.val)))
        (∑ p : Fin 16384, Ideal.exp (bx i x0 x1 x3 (hd d) r p.val -
          max ⊥ (Finset.univ.fold max ⊥ fun q : Fin 16384 => bx i x0 x1 x3 (hd d) r q.val))) * bv x2 d p.val := by
  have hn2 : (qrow i).val < 32 := (qrow i).isLt
  have hout : ∀ h p, 512 * (qrow i).val + 512 ≤ p → bx i x0 x1 x3 h r p = ⊥ := fun h p hp => by
    rw [bx]
    split_ifs with h1 h2
    · omega
    · rfl
    · rfl
  rw [OUT_at]
  by_cases hh : d.val < 64
  · have e : hd d = 0 := if_pos hh
    rw [e] at hb ⊢
    rw [if_pos hh]
    exact (last0_upto i x0 x1 x2 x3 r d (hx 0)).final (hx 0) (by omega) (R := 512 * (qrow i).val + r.val) (by omega) hb (hout 0)
  · have e : hd d = 1 := if_neg hh
    rw [e] at hb ⊢
    rw [if_neg hh]
    exact (last1_upto i x0 x1 x2 x3 r d (hx 1)).final (hx 1) (by omega) (R := 512 * (qrow i).val + r.val) (by omega) hb (hout 1)

end Cert.KernelIdeal.Fox

end
-- ==== Proof.Ref.lean ====
/- What the reference computes, one element at a time: a softmax over all positions of the logits, the future ones
   masked by −∞, and the values weighted by it. -/
module

public import proofs.«01_k».proof.Proof.Gen.ReferenceIdeal.Read
public import proofs.«01_k».proof.Proof.Online
public import Idealize.ShloMosaic.Lib.Pointwise
public import Idealize.ShloMosaic.Lib.WordCmp

@[expose] public section

set_option maxRecDepth 16384

noncomputable section

namespace Cert.Fox

open Idealize.ShloMosaic Cert.ReferenceIdeal Cert.ReferenceIdeal.Gen Cert.ReferenceIdeal.Read

/-- The offset of the 512 positions that hold position `p`. -/
abbrev blockOf (p : Fin 16384) : Fin 32 := ⟨p.val / 512, by omega⟩

/-- The logit of key position `p` in query row `r` of head `h`, before the mask. -/
def raw (x0 x1 : FVec Ideal S2x8x16384x128 .bf16) (x3 : FVec Ideal S2x8x32x128 .f32) (b : Fin 2) (h : Fin 8)
    (r p : Fin 16384) : EReal :=
  (∑ d : Fin 128, x0 (ix4 b h r d) * x1 (ix4 b h p d)) + x3 (ix4 b h (blockOf r) 0) - x3 (ix4 b h (blockOf p) 0)

theorem neg_inf : Ideal.ofBits FTy.f32 4286578688#32 = (⊥ : EReal) := by
  simp [Ideal.ofBits, Ideal.ieee]

abbrev QK := FVec Ideal S2x8x16384x128 .bf16
abbrev Val := FVec Ideal S2x16384x512 .bf16
abbrev CB := FVec Ideal S2x8x32x128 .f32

theorem v16_apply (x0 x1 : QK) (x3 : CB) (b : Fin 2) (h : Fin 8) (r p : Fin 16384) :
    val_main_v16 (F := Ideal) x0 x1 x3 (ix4 b h r p) = raw x0 x1 x3 b h r p := by
  pointwise [val_main_v16, val_main_v15, val_main_v14, val_main_v13, val_main_v12, val_main_v11, val_main_v10, val_main_v9, val_main_v8, val_main_v7, val_main_v6, val_main_v5, val_main_v1, val_main_v0]
  rfl

theorem v21_apply (b : Fin 2) (h : Fin 8) (r p : Fin 16384) :
    val_main_call0_v1 (F := Ideal) (ix4 b h r p) = BitVec.ofBool (decide (p.val ≤ r.val)) := by
  pointwise [val_main_call0_v1, val_main_v21, val_main_v20, val_main_v19, val_main_v18, val_main_v17, val_main_v9]
  have hr : (BitVec.ofNat 32 r.val).toInt = r.val := WordCmp.toInt_ofNat_of_lt (by omega)
  have hp : (BitVec.ofNat 32 p.val).toInt = p.val := WordCmp.toInt_ofNat_of_lt (by omega)
  simp only [IntOp.cmpi, BitVec.sle_eq_decide]
  rw [hr, hp]
  simp only [Int.ofNat_le]

theorem masked_apply (i : S2x8x16384x16384.Idx) : val_main_call0_v2 (F := Ideal) i = (⊥ : EReal) := by
  rw [val_main_call0_v2_apply, val_main_call0_v0_apply, val_main_cst_apply]
  exact neg_inf

theorem v22_apply (x0 x1 : QK) (x3 : CB) (b : Fin 2) (h : Fin 8) (r p : Fin 16384) :
    val_main_v22 (F := Ideal) x0 x1 x3 (ix4 b h r p) = if p.val ≤ r.val then raw x0 x1 x3 b h r p else ⊥ := by
  rw [val_main_v22_apply, v16_apply, v21_apply, masked_apply]
  by_cases hh : p.val ≤ r.val <;> simp [hh, Scalar.select]

theorem hmax_apply (y : FVec Ideal S2x8x16384x16384 .f32) (w : FVec Ideal S_ .f32) (b : Fin 2) (h : Fin 8) (r : Fin 16384) :
    Host.reduce FloatOps.maximumf y w reducesTo_S2x8x16384x16384_S2x8x16384_d3 h_S_ (ix3 b h r) =
      Finset.univ.fold max (w ix0) (fun k : Fin 16384 => y (ix4 b h r k)) := by
  pointwise
  exact congrArg (fun i => Finset.fold max (w i) (fun x => y (ix4 b h r x)) Finset.univ) (funext fun a => a.elim0)

/-- The largest masked logit of a row, as the reference takes it. -/
theorem v25_apply (x0 x1 : QK) (x3 : CB) (b : Fin 2) (h : Fin 8) (r : Fin 16384) :
    val_main_v25 (F := Ideal) x0 x1 x3 (ix3 b h r) =
      max (⊥ : EReal) (Finset.univ.fold max (⊥ : EReal) fun k : Fin 16384 => val_main_v22 (F := Ideal) x0 x1 x3 (ix4 b h r k)) := by
  rw [val_main_v25_apply, val_main_v24_apply, val_main_cst_1_apply]
  unfold val_main_v23
  generalize val_main_v22 (F := Ideal) x0 x1 x3 = y
  refine congrArg₂ max neg_inf ((hmax_apply y _ b h r).trans ?_)
  rw [val_main_cst_0_apply]
  exact congrArg (fun z => Finset.univ.fold max z (fun k : Fin 16384 => y (ix4 b h r k))) neg_inf

/-- A row's largest masked logit. -/
def top (x0 x1 : QK) (x3 : CB) (b : Fin 2) (h : Fin 8) (r : Fin 16384) : EReal :=
  max (⊥ : EReal) (Finset.univ.fold max (⊥ : EReal) fun k : Fin 16384 => if k.val ≤ r.val then raw x0 x1 x3 b h r k else ⊥)

/-- The weight of key position `p` in query row `r`, before the division. -/
def weight (x0 x1 : QK) (x3 : CB) (b : Fin 2) (h : Fin 8) (r p : Fin 16384) : EReal :=
  Ideal.exp ((if p.val ≤ r.val then raw x0 x1 x3 b h r p else ⊥) - top x0 x1 x3 b h r)

theorem v29_apply (x0 x1 : QK) (x3 : CB) (b : Fin 2) (h : Fin 8) (r p : Fin 16384) :
    val_main_v29 (F := Ideal) x0 x1 x3 (ix4 b h r p) = weight x0 x1 x3 b h r p := by
  have hi : idx_main_v26 (idx_main_v27 (ix4 b h r p)) = ix3 b h r :=
    funext fun a => Fin.ext (by match a with | ⟨0, _⟩ => rfl | ⟨1, _⟩ => rfl | ⟨2, _⟩ => rfl)
  rw [val_main_v29_apply, val_main_v28_apply, val_main_v27_apply, val_main_v26_apply, hi, v25_apply, v22_apply]
  simp only [v22_apply]
  rfl

theorem v33_apply (x0 x1 : QK) (x3 : CB) (b : Fin 2) (h : Fin 8) (r p : Fin 16384) :
    val_main_v33 (F := Ideal) x0 x1 x3 (ix4 b h r p) =
      Ideal.div (weight x0 x1 x3 b h r p) (∑ k : Fin 16384, weight x0 x1 x3 b h r k) := by
  have hi : idx_main_v31 (idx_main_v32 (ix4 b h r p)) = ix3 b h r :=
    funext fun a => Fin.ext (by match a with | ⟨0, _⟩ => rfl | ⟨1, _⟩ => rfl | ⟨2, _⟩ => rfl)
  have hk : ∀ k : Fin 16384, idx_main_v30 (ix3 b h r) k = ix4 b h r k := fun k =>
    funext fun a => Fin.ext (by match a with | ⟨0, _⟩ => rfl | ⟨1, _⟩ => rfl | ⟨2, _⟩ => rfl | ⟨3, _⟩ => rfl)
  rw [val_main_v33_apply, val_main_v32_apply, val_main_v31_apply, hi, val_main_v30_apply, v29_apply, val_main_cst_2_apply]
  simp only [hk, v29_apply]
  show Ideal.div _ (Ideal.ofBits FTy.f32 0#32 + _) = _
  rw [Ideal.ofBits_zero, zero_add]

/-- The reference, one element at a time: column `d` of the output belongs to head `d / 64`. -/
theorem reference_apply (x0 x1 : QK) (x2 : Val) (x3 : CB) (b : Fin 2) (r : Fin 16384) (d : Fin 512) :
    val_main_v36 (F := Ideal) x0 x1 x2 x3 (ix3 b r d) =
      ∑ p : Fin 16384, Ideal.div (weight x0 x1 x3 b ⟨d.val / 64, by omega⟩ r p)
        (∑ k : Fin 16384, weight x0 x1 x3 b ⟨d.val / 64, by omega⟩ r k) * x2 (ix3 b p d) := by
  have hi : idx_main_v35 (idx_main_v36 (ix3 b r d)) = ix4 b ⟨d.val / 64, by omega⟩ r ⟨d.val % 64, by omega⟩ :=
    funext fun a => Fin.ext (by
      have := b.isLt; have := r.isLt; have := d.isLt
      match a with
      | ⟨0, _⟩ => show ((b.val * 16384 + r.val) * 512 + d.val) / 8388608 = b.val; omega
      | ⟨1, _⟩ => show ((b.val * 16384 + r.val) * 512 + d.val) / 64 % 8 = d.val / 64; omega
      | ⟨2, _⟩ => show ((b.val * 16384 + r.val) * 512 + d.val) / 512 % 16384 = r.val; omega
      | ⟨3, _⟩ => show ((b.val * 16384 + r.val) * 512 + d.val) % 64 = d.val % 64; omega)
  rw [val_main_v36_apply, val_main_v35_apply, hi, val_main_v34_apply]
  refine Finset.sum_congr rfl fun p _ => ?_
  have hl : lidx_main_v34 (ix4 b ⟨d.val / 64, by omega⟩ r ⟨d.val % 64, by omega⟩) p = ix4 b ⟨d.val / 64, by omega⟩ r p :=
    funext fun a => Fin.ext (by match a with | ⟨0, _⟩ => rfl | ⟨1, _⟩ => rfl | ⟨2, _⟩ => rfl | ⟨3, _⟩ => rfl)
  have hv : idx_main_v3 (idx_main_v4 (ridx_main_v34 (ix4 b ⟨d.val / 64, by omega⟩ r ⟨d.val % 64, by omega⟩) p)) = ix3 b p d :=
    funext fun a => Fin.ext (by
      have := b.isLt; have := p.isLt; have := d.isLt
      match a with
      | ⟨0, _⟩ => show (((b.val * 16384 + p.val) * 8 + d.val / 64) * 64 + d.val % 64) / 8388608 = b.val; omega
      | ⟨1, _⟩ => show (((b.val * 16384 + p.val) * 8 + d.val / 64) * 64 + d.val % 64) / 512 % 16384 = p.val; omega
      | ⟨2, _⟩ => show (((b.val * 16384 + p.val) * 8 + d.val / 64) * 64 + d.val % 64) % 512 = d.val; omega)
  rw [hl, v33_apply, val_main_v4_apply, val_main_v3_apply, hv, val_main_v2_apply]
  rfl

end Cert.Fox

end
-- ==== Proof.Arr.lean ====
/- The output array of the attention kernel: the reference's value of the launched arguments. -/
module

public import proofs.«01_k».proof.Proof.BlockVal
public import proofs.«01_k».proof.Proof.Ref

@[expose] public section

set_option maxRecDepth 16384

noncomputable section

namespace Cert.KernelIdeal.Fox

open Cert.KernelIdeal Cert.KernelIdeal.Gen Idealize.ShloMosaic Idealize.ShloMosaic.TcCoe Idealize.SL.Sem Cert.Softmax Cert.Fox

variable (m : (ℓ : Loc nD τ sig) → Buf (Elt Ideal) ℓ) (c : Dev nD)

/-- The grid point's coordinates: batch entry, head pair, block row. -/
def gb (t : Fin cfg0.N) : Fin 2 := grid0.coords t 0
def gp (t : Fin cfg0.N) : Fin 4 := grid0.coords t 1
def gn (t : Fin cfg0.N) : Fin 32 := grid0.coords t 2

theorem idx0 : ∀ t : Fin cfg0.N, win0_0.index t (0 : Fin 4) = (gb t).val ∧ win0_0.index t (1 : Fin 4) = (gp t).val ∧
    win0_0.index t (2 : Fin 4) = (gn t).val ∧ win0_0.index t (3 : Fin 4) = 0 := (by decide +kernel : ∀ t : Fin grid0.N, _)
theorem idx1 : ∀ t : Fin cfg0.N, win0_1.index t (0 : Fin 4) = (gb t).val ∧ win0_1.index t (1 : Fin 4) = (gp t).val ∧
    win0_1.index t (2 : Fin 4) = 0 ∧ win0_1.index t (3 : Fin 4) = 0 := (by decide +kernel : ∀ t : Fin grid0.N, _)
theorem idx2 : ∀ t : Fin cfg0.N, win0_2.index t (0 : Fin 3) = (gb t).val ∧ win0_2.index t (1 : Fin 3) = 0 ∧
    win0_2.index t (2 : Fin 3) = (gp t).val := (by decide +kernel : ∀ t : Fin grid0.N, _)
theorem idx3 : ∀ t : Fin cfg0.N, win0_3.index t (0 : Fin 4) = (gb t).val ∧ win0_3.index t (1 : Fin 4) = (gp t).val ∧
    win0_3.index t (2 : Fin 4) = 0 ∧ win0_3.index t (3 : Fin 4) = 0 := (by decide +kernel : ∀ t : Fin grid0.N, _)
theorem idx4 : ∀ t : Fin cfg0.N, win0_4.index t (0 : Fin 3) = (gb t).val ∧ win0_4.index t (1 : Fin 3) = (gn t).val ∧
    win0_4.index t (2 : Fin 3) = (gp t).val := (by decide +kernel : ∀ t : Fin grid0.N, _)
theorem onto : ∀ (b : Fin 2) (p : Fin 4) (n : Fin 32), ∃ t : Fin cfg0.N, gb t = b ∧ gp t = p ∧ gn t = n :=
  (by decide +kernel : ∀ (b : Fin 2) (p : Fin 4) (n : Fin 32), ∃ t : Fin grid0.N, _)

/-- Head `h` of the point's pair, and row `r` of its block row. -/
abbrev ghead (t : Fin cfg0.N) (h : Fin 2) : Fin 8 := ⟨(gp t).val * 2 + h.val, by have := (gp t).isLt; omega⟩
abbrev gpos (t : Fin cfg0.N) (r : Fin 512) : Fin 16384 := ⟨(gn t).val * 512 + r.val, by have := (gn t).isLt; omega⟩
abbrev gcol (t : Fin cfg0.N) (d : Fin 128) : Fin 512 := ⟨(gp t).val * 128 + d.val, by have := (gp t).isLt; omega⟩

theorem iblk0 (t : Fin cfg0.N) (h : Fin 2) (r : Fin 512) (x : Fin 128) :
    iblk m c 0 t (ix4 0 h r x) = (V m c main_arg0 : QK) (ix4 (gb t) (ghead t h) (gpos t r) x) := by
  obtain ⟨e0, e1, e2, e3⟩ := idx0 t
  show (V m c main_arg0 : QK) (((cfg0.win 0).blk t).view.emb (ix4 0 h r x)) = _
  refine congrArg (V m c main_arg0 : QK) (funext fun a => Fin.ext ?_)
  match a with
  | ⟨0, _⟩ => show win0_0.index t (0 : Fin 4) * 1 + 1 * 0 = (gb t).val; omega
  | ⟨1, _⟩ => show win0_0.index t (1 : Fin 4) * 2 + 1 * h.val = (gp t).val * 2 + h.val; omega
  | ⟨2, _⟩ => show win0_0.index t (2 : Fin 4) * 512 + 1 * r.val = (gn t).val * 512 + r.val; omega
  | ⟨3, _⟩ => show win0_0.index t (3 : Fin 4) * 128 + 1 * x.val = x.val; omega

theorem iblk1 (t : Fin cfg0.N) (h : Fin 2) (r : Fin 16384) (x : Fin 128) :
    iblk m c 1 t (ix4 0 h r x) = (V m c main_arg1 : QK) (ix4 (gb t) (ghead t h) r x) := by
  obtain ⟨e0, e1, e2, e3⟩ := idx1 t
  show (V m c main_arg1 : QK) (((cfg0.win 1).blk t).view.emb (ix4 0 h r x)) = _
  refine congrArg (V m c main_arg1 : QK) (funext fun a => Fin.ext ?_)
  match a with
  | ⟨0, _⟩ => show win0_1.index t (0 : Fin 4) * 1 + 1 * 0 = (gb t).val; omega
  | ⟨1, _⟩ => show win0_1.index t (1 : Fin 4) * 2 + 1 * h.val = (gp t).val * 2 + h.val; omega
  | ⟨2, _⟩ => show win0_1.index t (2 : Fin 4) * 16384 + 1 * r.val = r.val; omega
  | ⟨3, _⟩ => show win0_1.index t (3 : Fin 4) * 128 + 1 * x.val = x.val; omega

theorem iblk2 (t : Fin cfg0.N) (r : Fin 16384) (d : Fin 128) :
    iblk m c 2 t (ix3 0 r d) = (V m c main_arg2 : Val) (ix3 (gb t) r (gcol t d)) := by
  obtain ⟨e0, e1, e2⟩ := idx2 t
  show (V m c main_arg2 : Val) (((cfg0.win 2).blk t).view.emb (ix3 0 r d)) = _
  refine congrArg (V m c main_arg2 : Val) (funext fun a => Fin.ext ?_)
  match a with
  | ⟨0, _⟩ => show win0_2.index t (0 : Fin 3) * 1 + 1 * 0 = (gb t).val; omega
  | ⟨1, _⟩ => show win0_2.index t (1 : Fin 3) * 16384 + 1 * r.val = r.val; omega
  | ⟨2, _⟩ => show win0_2.index t (2 : Fin 3) * 128 + 1 * d.val = (gp t).val * 128 + d.val; omega

theorem iblk3 (t : Fin cfg0.N) (h : Fin 2) (r : Fin 32) (x : Fin 128) :
    iblk m c 3 t (ix4 0 h r x) = (V m c main_arg3 : CB) (ix4 (gb t) (ghead t h) r x) := by
  obtain ⟨e0, e1, e2, e3⟩ := idx3 t
  show (V m c main_arg3 : CB) (((cfg0.win 3).blk t).view.emb (ix4 0 h r x)) = _
  refine congrArg (V m c main_arg3 : CB) (funext fun a => Fin.ext ?_)
  match a with
  | ⟨0, _⟩ => show win0_3.index t (0 : Fin 4) * 1 + 1 * 0 = (gb t).val; omega
  | ⟨1, _⟩ => show win0_3.index t (1 : Fin 4) * 2 + 1 * h.val = (gp t).val * 2 + h.val; omega
  | ⟨2, _⟩ => show win0_3.index t (2 : Fin 4) * 32 + 1 * r.val = r.val; omega
  | ⟨3, _⟩ => show win0_3.index t (3 : Fin 4) * 128 + 1 * x.val = x.val; omega

/-- The point's logits are the reference's. -/
theorem bx_eq (t : Fin cfg0.N) (h : Fin 2) (r : Fin 512) (p : Fin 16384) :
    bx (grid0.coords t) (iblk m c 0 t) (iblk m c 1 t) (iblk m c 3 t) h r p.val =
      if p.val ≤ (gpos t r).val then raw (V m c main_arg0) (V m c main_arg1) (V m c main_arg3) (gb t) (ghead t h) (gpos t r) p
      else ⊥ := by
  have hg : qrow (grid0.coords t) = gn t := rfl
  have hb : blockOf (gpos t r) = gn t := Fin.ext (by show ((gn t).val * 512 + r.val) / 512 = _; omega)
  rw [bx, dif_pos p.isLt, hg]
  have e : 512 * (gn t).val + r.val = (gpos t r).val := by show _ = (gn t).val * 512 + r.val; omega
  rw [e]
  refine if_congr Iff.rfl ?_ rfl
  simp only [iblk0, iblk1, iblk3]
  rw [raw, hb, sub_eq_add_neg, sub_eq_add_neg, add_assoc]

theorem bx_out (t : Fin cfg0.N) (h : Fin 2) (r : Fin 512) (p : ℕ) (hp : ¬ p < 16384) :
    bx (grid0.coords t) (iblk m c 0 t) (iblk m c 1 t) (iblk m c 3 t) h r p = ⊥ := by
  rw [bx, dif_neg hp]

/-- With real arguments the logits are real before the mask. -/
theorem raw_real (x0 x1 : QK) (x3 : CB) (h0 : ∀ i, ∃ a : ℝ, x0 i = (a : EReal)) (h1 : ∀ i, ∃ a : ℝ, x1 i = (a : EReal))
    (h3 : ∀ i, ∃ a : ℝ, x3 i = (a : EReal)) (b : Fin 2) (h : Fin 8) (r p : Fin 16384) :
    ∃ a : ℝ, raw x0 x1 x3 b h r p = (a : EReal) := by
  choose f0 e0 using h0
  choose f1 e1 using h1
  choose f3 e3 using h3
  refine ⟨(∑ d : Fin 128, f0 (ix4 b h r d) * f1 (ix4 b h p d)) + f3 (ix4 b h (blockOf r) 0) - f3 (ix4 b h (blockOf p) 0), ?_⟩
  rw [raw]
  simp only [e0, e1, e3]
  rw [EReal.coe_sub, EReal.coe_add]
  have hs : ((∑ d : Fin 128, f0 (ix4 b h r d) * f1 (ix4 b h p d) : ℝ) : EReal)
      = ∑ d : Fin 128, (f0 (ix4 b h r d) : EReal) * (f1 (ix4 b h p d) : EReal) :=
    (map_sum (⟨⟨Real.toEReal, EReal.coe_zero⟩, EReal.coe_add⟩ : ℝ →+ EReal) _ _).trans
      (Finset.sum_congr rfl fun d _ => EReal.coe_mul _ _)
  rw [hs]

/-- The array the kernel is to leave. -/
def G : FVec Ideal ReferenceIdeal.S2x16384x512 .f32 :=
  ReferenceIdeal.Read.val_main_v36 (F := Ideal) (V m c main_arg0) (V m c main_arg1) (V m c main_arg2) (V m c main_arg3)

variable (h0 : ∀ i, ∃ a : ℝ, (V m c main_arg0 : QK) i = (a : EReal)) (h1 : ∀ i, ∃ a : ℝ, (V m c main_arg1 : QK) i = (a : EReal))
    (h3 : ∀ i, ∃ a : ℝ, (V m c main_arg3 : CB) i = (a : EReal))
include h0 h1 h3

theorem out_at (t : Fin cfg0.N) (r : Fin 512) (d : Fin 128) :
    OUT (grid0.coords t) (iblk m c 0 t) (iblk m c 1 t) (iblk m c 2 t) (iblk m c 3 t) (ix3 0 r d) =
      G m c (ix3 (gb t) (gpos t r) (gcol t d)) := by
  have hg : qrow (grid0.coords t) = gn t := rfl
  have hreal := raw_real (V m c main_arg0) (V m c main_arg1) (V m c main_arg3) h0 h1 h3
  have hx : ∀ h p, bx (grid0.coords t) (iblk m c 0 t) (iblk m c 1 t) (iblk m c 3 t) h r p ≠ ⊤ := fun h p => by
    by_cases hp : p < 16384
    · rw [bx_eq m c t h r ⟨p, hp⟩]
      split_ifs
      · obtain ⟨a, e⟩ := hreal (gb t) (ghead t h) (gpos t r) ⟨p, hp⟩
        rw [e]; exact EReal.coe_ne_top a
      · exact bot_ne_top
    · rw [bx_out m c t h r p hp]; exact bot_ne_top
  have hb : bx (grid0.coords t) (iblk m c 0 t) (iblk m c 1 t) (iblk m c 3 t) (hd d) r (512 * (qrow (grid0.coords t)).val + r.val) ≠ ⊥ := by
    have e : 512 * (qrow (grid0.coords t)).val + r.val = (gpos t r).val := by rw [hg]; show _ = (gn t).val * 512 + r.val; omega
    rw [e, bx_eq, if_pos le_rfl]
    obtain ⟨a, e⟩ := hreal (gb t) (ghead t (hd d)) (gpos t r) (gpos t r)
    rw [e]; exact EReal.coe_ne_bot a
  have hh : (⟨(gcol t d).val / 64, by omega⟩ : Fin 8) = ghead t (hd d) := Fin.ext (by
    show ((gp t).val * 128 + d.val) / 64 = (gp t).val * 2 + (hd d).val
    rw [hd]
    by_cases h : d.val < 64
    · rw [if_pos h]; show _ = (gp t).val * 2 + 0; omega
    · rw [if_neg h]; show _ = (gp t).val * 2 + 1; have := d.isLt; omega)
  rw [OUT_softmax _ _ _ _ _ r d hx hb, G, reference_apply]
  simp only [hh]
  simp only [bx_eq]
  refine Finset.sum_congr rfl fun p _ => congrArg₂ (· * ·) rfl ?_
  rw [bv, dif_pos p.isLt]
  exact iblk2 m c t p d

omit h0 h1 h3 in
theorem cut_read (t : Fin cfg0.N) (X : Vec Ideal S1x512x128 .f32) (Y : FVec Ideal S2x16384x512 .f32)
    (h : ∀ (r : Fin 512) (d : Fin 128), X (ix3 0 r d) = Y (ix3 (gb t) (gpos t r) (gcol t d))) :
    (cfg0.win 4).cut (grid0.coords t) X = ((cfg0.win 4).blk t).view.read (Elt Ideal) Y := by
  obtain ⟨e0, e1, e2⟩ := idx4 t
  funext j
  obtain ⟨j0, r, d, rfl⟩ : ∃ (j0 : Fin 1) (r : Fin 512) (d : Fin 128), j = ix3 j0 r d := ⟨j 0, j 1, j 2, eq_ix3 j⟩
  obtain rfl : j0 = 0 := Subsingleton.elim _ _
  show X (ix3 0 r d) = Y (((cfg0.win 4).blk t).view.emb (ix3 0 r d))
  rw [h]
  refine congrArg Y (funext fun a => Fin.ext ?_)
  match a with
  | ⟨0, _⟩ => show (gb t).val = win0_4.index t (0 : Fin 3) * 1 + 1 * 0; omega
  | ⟨1, _⟩ => show (gn t).val * 512 + r.val = win0_4.index t (1 : Fin 3) * 512 + 1 * r.val; omega
  | ⟨2, _⟩ => show (gp t).val * 128 + d.val = win0_4.index t (2 : Fin 3) * 128 + 1 * d.val; omega

theorem flushed_eq (t : Fin cfg0.N) : (dats m 0 c).flushed 4 t = ((cfg0.win 4).blk t).view.read (Elt Ideal) (G m c) := by
  rw [Value.flushed4_A, out_eq]
  exact cut_read t _ (G m c) (out_at m c h0 h1 h3 t)

omit h0 h1 h3 in
theorem covered (i : S2x16384x512.Idx) : ∃ t : Fin cfg0.N, (cfg0.win 4).flush t = true ∧ i ∈ ((cfg0.win 4).blk t).view.set := by
  have b0 : (i 0).val < 2 := (i 0).isLt
  have b1 : (i 1).val < 16384 := (i 1).isLt
  have b2 : (i 2).val < 512 := (i 2).isLt
  obtain ⟨t, f0, f1, f2⟩ := onto ⟨(i 0).val, b0⟩ ⟨(i 2).val / 128, by omega⟩ ⟨(i 1).val / 512, by omega⟩
  obtain ⟨e0, e1, e2⟩ := idx4 t
  refine ⟨t, flush0_4 t, ?_⟩
  have h := ((cfg0.win 4).blk t).view.emb_mem_set (ix3 (0 : Fin 1) (⟨(i 1).val % 512, by omega⟩ : Fin 512) (⟨(i 2).val % 128, by omega⟩ : Fin 128))
  rw [f0] at e0; rw [f2] at e1; rw [f1] at e2
  have e : ((cfg0.win 4).blk t).view.emb (ix3 (0 : Fin 1) (⟨(i 1).val % 512, by omega⟩ : Fin 512) (⟨(i 2).val % 128, by omega⟩ : Fin 128)) = i := by
    funext a; apply Fin.ext
    match a with
    | ⟨0, _⟩ => show win0_4.index t (0 : Fin 3) * 1 + 1 * 0 = (i 0).val; rw [e0]; show (i 0).val * 1 + 1 * 0 = _; omega
    | ⟨1, _⟩ => show win0_4.index t (1 : Fin 3) * 512 + 1 * ((i 1).val % 512) = (i 1).val; rw [e1]; show (i 1).val / 512 * 512 + _ = _; omega
    | ⟨2, _⟩ => show win0_4.index t (2 : Fin 3) * 128 + 1 * ((i 2).val % 128) = (i 2).val; rw [e2]; show (i 2).val / 128 * 128 + _ = _; omega
  rwa [e] at h

/-- The output array after the run. -/
theorem arr_eq : (dats m 0 c).arrAt 4 cfg0.N = G m c :=
  (dats m 0 c).arrAt_eq_of_cover 4 (G m c) (fun t _ => flushed_eq m c h0 h1 h3 t) covered

end Cert.KernelIdeal.Fox

end
-- ==== Proof.Finite.lean ====
/- What the precondition says at the ideal values: the queries, the keys and the decays are real numbers. -/
module

public import proofs.«01_k».proof.Pre_finite
public import Idealize.ShloMosaic.Lib.Pointwise

@[expose] public section

set_option maxRecDepth 16384

noncomputable section

namespace Cert.Pre_finite

open Idealize.ShloMosaic

theorem facts : Facts where
  bcast_S_S2x8x16384x128 := by decide
  bcast_S_S2x8x32x128 := by decide

theorem real_of_lt (x : EReal) (h : max x (-x) < ⊤) : ∃ a : ℝ, x = (a : EReal) := by
  induction x using EReal.rec with
  | bot => simp at h
  | coe a => exact ⟨a, rfl⟩
  | top => simp at h

theorem inf16 : Ideal.ofBits FTy.bf16 0x7F80#16 = (⊤ : EReal) := by
  simp [Ideal.ofBits, Ideal.ieee]
theorem inf32 : Ideal.ofBits FTy.f32 0x7F800000#32 = (⊤ : EReal) := by
  simp [Ideal.ofBits, Ideal.ieee]

theorem of_cmp {φ : FTy} (x y : Ideal φ) (hy : y = (⊤ : EReal)) (h : FloatOps.cmpf .olt (FloatOps.hostAbsf x) y = 1#1) :
    ∃ a : ℝ, x = (a : EReal) := by
  subst hy
  refine real_of_lt x ?_
  by_contra hn
  have : FloatOps.cmpf (F := Ideal) (φ := φ) .olt (FloatOps.hostAbsf x) (⊤ : EReal) = BitVec.ofBool (decide (max x (-x) < (⊤ : EReal))) := by
    rfl
  rw [this, decide_eq_false hn] at h
  exact absurd h (by decide)

theorem real [Facts] (x0 x1 : FVec Ideal S2x8x16384x128 .bf16) (x2 : FVec Ideal S2x16384x512 .bf16)
    (x3 : FVec Ideal S2x8x32x128 .f32) (h0 : (fn x0 x1 x2 x3).1 = fun _ => 1#1) (h1 : (fn x0 x1 x2 x3).2.1 = fun _ => 1#1)
    (h3 : (fn x0 x1 x2 x3).2.2 = fun _ => 1#1) :
    (∀ i, ∃ a : ℝ, x0 i = (a : EReal)) ∧ (∀ i, ∃ a : ℝ, x1 i = (a : EReal)) ∧ ∀ i, ∃ a : ℝ, x3 i = (a : EReal) :=
  ⟨fun i => of_cmp (x0 i) _ inf16 (congrFun h0 i), fun i => of_cmp (x1 i) _ inf16 (congrFun h1 i),
    fun i => of_cmp (x3 i) _ inf32 (congrFun h3 i)⟩

end Cert.Pre_finite

end
-- ==== Proof.MemRow.lean ====
/- One token of the output projection and the memory attention, over the extended reals: no program here.
   The token's row takes the two mixers' outputs through the output projection, is normalized, and attends to the
   memory tokens in four heads. -/
module

public import Idealize.ShloMosaic.PureOps.Ideal.Laws
public import proofs.«01_k».proof.Proof.Online

@[expose] public section

noncomputable section

namespace Cert.Mem

open Idealize.ShloMosaic

/-- The number under the square root's mean that keeps it from zero. -/
abbrev eps : EReal := Ideal.ofBits .f32 0x358637BD#32
/-- The row lengths, and the scale of the scores, as the programs write them. -/
abbrev n1024 : EReal := Ideal.ofBits .f32 0x44800000#32
abbrev n256 : EReal := Ideal.ofBits .f32 0x43800000#32
abbrev sixteenth : EReal := Ideal.ofBits .f32 0x3D800000#32

theorem neg_inf : Ideal.ofBits FTy.f32 0xFF800000#32 = (⊥ : EReal) := by
  simp [Ideal.ofBits, Ideal.ieee]

theorem sixteenth_eq : sixteenth = ((1 / 16 : ℝ) : EReal) := by
  simp [sixteenth, Ideal.ofBits, Ideal.ieee]
  rw [← EReal.coe_mul]
  norm_num

/-- A row over its root mean square, times the gain. -/
def rms {n : ℕ} (N : EReal) (x g : Fin n → EReal) (k : Fin n) : EReal :=
  x k * Ideal.rsqrt (Ideal.div (∑ j, x j * x j) N + eps) * g k

/-- The softmax of the scores, applied to the values. -/
def att {n : ℕ} (s v : Fin n → EReal) : EReal :=
  ∑ j, Ideal.div (Ideal.exp (s j - Finset.univ.fold max ⊥ s)) (∑ j, Ideal.exp (s j - Finset.univ.fold max ⊥ s)) * v j

/-- The token after the output projection. -/
def mixed (x : Fin 1024 → EReal) (og of_ : Fin 512 → EReal) (wo : Fin 1024 → Fin 1024 → EReal) (k : Fin 1024) : EReal :=
  x k + ∑ j : Fin 512, og j * wo ⟨j.val, by omega⟩ k + ∑ j : Fin 512, of_ j * wo ⟨512 + j.val, by omega⟩ k

/-- A row through a square matrix. -/
def proj (x : Fin 1024 → EReal) (w : Fin 1024 → Fin 1024 → EReal) (k : Fin 1024) : EReal := ∑ i, x i * w i k

/-- Column `d` of head `h`. -/
abbrev col (h : Fin 4) (d : Fin 256) : Fin 1024 := ⟨h.val * 256 + d.val, by omega⟩

/-- One head: the query's part, normalized and scaled, against the memory's keys, then its values at column `d`. -/
def head (q gq : Fin 256 → EReal) (K V : Fin 256 → Fin 256 → EReal) (d : Fin 256) : EReal :=
  att (fun j => ∑ e, rms n256 q gq e * sixteenth * K j e) fun j => V j d

/-- The head and the column of an entry of the four heads side by side. -/
abbrev headOf (k : Fin 1024) : Fin 4 := ⟨k.val / 256, by omega⟩
abbrev colOf (k : Fin 1024) : Fin 256 := ⟨k.val % 256, by omega⟩

/-- The token after the memory attention, from the token `y` after the output projection. -/
def out (y g : Fin 1024 → EReal) (wq : Fin 1024 → Fin 1024 → EReal) (gq : Fin 256 → EReal)
    (K V : Fin 4 → Fin 256 → Fin 256 → EReal) (wo : Fin 1024 → Fin 1024 → EReal) (k : Fin 1024) : EReal :=
  y k + ∑ j : Fin 1024, head (fun d => proj (rms n1024 y g) wq (col (headOf j) d)) gq (K (headOf j)) (V (headOf j)) (colOf j) * wo j k

/-- A score is the same whether the query or the product is scaled. -/
theorem scale_out {n : ℕ} (x y : Fin n → EReal) : ∑ e, x e * sixteenth * y e = (∑ e, x e * y e) * sixteenth := by
  have h0 : (0 : EReal) ≤ sixteenth := by rw [sixteenth_eq]; exact_mod_cast (by norm_num : (0 : ℝ) ≤ 1 / 16)
  have ht : sixteenth ≠ ⊤ := by rw [sixteenth_eq]; exact EReal.coe_ne_top _
  rw [mul_comm (∑ e, x e * y e), Softmax.mul_sum _ _ h0 ht]
  exact Finset.sum_congr rfl fun e _ => by rw [mul_right_comm, mul_comm]

end Cert.Mem

end
-- ==== Proof.MemBlock.lean ====
/- What one grid point of the memory attention kernel writes, one element at a time. -/
module

public import proofs.«01_k».proof.Proof.Gen.Kernel2Ideal.Value
public import proofs.«01_k».proof.Proof.MemRow
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Kernel2Ideal.Mem

open Cert.Kernel2Ideal Cert.Kernel2Ideal.Gen Idealize.ShloMosaic Cert.Mem

/-- The token after the output projection, in the block. -/
theorem pay2_at (x : Vec Ideal S1x512x1024 .f32) (og : Vec Ideal S1x512x512 .f32) (wa : Vec Ideal S512x1024 .bf16)
    (of_ : Vec Ideal S1x512x512 .f32) (wb : Vec Ideal S512x1024 .bf16) (r : Fin 512) (k : Fin 1024) :
    k0_pay2 x og wa of_ wb (ix2 r k) =
      x (ix3 0 r k) + ∑ j : Fin 512, og (ix3 0 r j) * wa (ix2 j k) + ∑ j : Fin 512, of_ (ix3 0 r j) * wb (ix2 j k) := by
  pointwise [k0_pay2]

/-- The normalized token's projection. -/
theorem pay3_at (x : Vec Ideal S1x512x1024 .f32) (og : Vec Ideal S1x512x512 .f32) (wa : Vec Ideal S512x1024 .bf16)
    (of_ : Vec Ideal S1x512x512 .f32) (wb : Vec Ideal S512x1024 .bf16) (g : Vec Ideal S1x1024 .f32)
    (wq : Vec Ideal S1024x1024 .bf16) (r : Fin 512) (k : Fin 1024) :
    k0_pay3 x og wa of_ wb g wq (ix2 r k) =
      proj (rms n1024 (fun k => k0_pay2 x og wa of_ wb (ix2 r k)) fun k => g (ix2 0 k)) (fun i k => wq (ix2 i k)) k := by
  unfold proj rms
  pointwise [k0_pay3]

/-- One head of the block. -/
theorem pay5_at (q : FVec Ideal S512x256 .f32) (g : Vec Ideal S1x256 .f32) (kb vb : Vec Ideal S1x1x256x256 .bf16)
    (r : Fin 512) (d : Fin 256) :
    k0_pay5 q g kb vb (ix2 r d) =
      head (fun e => q (ix2 r e)) (fun e => g (ix2 0 e)) (fun j e => kb (ix4 0 0 j e)) (fun j e => vb (ix4 0 0 j e)) d := by
  unfold head att rms
  rw [← neg_inf]
  pointwise [k0_pay5]

/-- Four heads side by side, one element at a time. -/
theorem cat_at (f : Fin 4 → FVec Ideal S512x256 .bf16) (r : Fin 512) (k : Fin 1024) :
    concatenate S512x1024 1 [⟨S512x256, f 0⟩, ⟨S512x256, f 1⟩, ⟨S512x256, f 2⟩, ⟨S512x256, f 3⟩]
      concatenates_S512x256_S512x256_S512x256_S512x256_S512x1024_d1 (ix2 r k) = f (headOf k) (ix2 r (colOf k)) :=
  concatenate_ofFn_apply (t := S512x1024) (s₁ := S512x256) 1 f concatenates_S512x256_S512x256_S512x256_S512x256_S512x1024_d1
    rfl 256 rfl (ix2 r k) (headOf k) rfl (ix2 r (colOf k)) rfl (fun b hb => by
      match b with
      | ⟨0, _⟩ => rfl
      | ⟨1, _⟩ => exact absurd rfl hb)

/-- The block's last product and its sum with the token. -/
def finish (y : FVec Ideal S512x1024 .f32) (a : FVec Ideal S512x1024 .bf16) (w : Vec Ideal S1024x1024 .bf16) :
    FVec Ideal S1x512x1024 .f32 :=
  shapeCast S1x512x1024 (addf y (matmul dot_S512x1024_S1024x1024_S512x1024_1_0_0_1_n_n none a
    (shapeCast S1024x1024 w shapeCasts_S1024x1024_S1024x1024 : FVec Ideal S1024x1024 .bf16)
    (constant S512x1024 .f32 0x00000000#32 : FVec Ideal S512x1024 .f32))) shapeCasts_S512x1024_S1x512x1024

theorem finish_at (y : FVec Ideal S512x1024 .f32) (a : FVec Ideal S512x1024 .bf16) (w : Vec Ideal S1024x1024 .bf16)
    (r : Fin 512) (k : Fin 1024) :
    finish y a w (ix3 0 r k) = y (ix2 r k) + ∑ j : Fin 1024, a (ix2 r j) * w (ix2 j k) := by
  pointwise [finish]

/-- The last head's columns. -/
def pay_last (v : FVec Ideal S512x1024 .f32) : FVec Ideal S512x256 .f32 :=
  extractStridedSlice S512x256 ![0, 768] v slices_S512x1024_o0_768_S512x256

/-- The four heads of the block, from the projection `v`. -/
def heads (v : FVec Ideal S512x1024 .f32) (v0 : FVec Ideal S512x256 .f32) (g : Vec Ideal S1x256 .f32)
    (K V : Fin 4 → Vec Ideal S1x1x256x256 .bf16) (h : Fin 4) : FVec Ideal S512x256 .bf16 :=
  match h with
  | ⟨0, _⟩ => k0_pay5 v0 g (K 0) (V 0)
  | ⟨1, _⟩ => k0_pay5 (k0_pay6 v) g (K 1) (V 1)
  | ⟨2, _⟩ => k0_pay5 (k0_pay10 v) g (K 2) (V 2)
  | ⟨3, _⟩ => k0_pay5 (pay_last v) g (K 3) (V 3)

theorem pay1_eq (y v : FVec Ideal S512x1024 .f32) (v0 : FVec Ideal S512x256 .f32) (g : Vec Ideal S1x256 .f32)
    (K V : Fin 4 → Vec Ideal S1x1x256x256 .bf16) (w : Vec Ideal S1024x1024 .bf16) :
    k0_pay1 y (k0_pay5 v0 g (K 0) (V 0)) (k0_pay9 (k0_pay6 v) (k0_pay7 g) (k0_pay8 v) (K 1) (V 1))
      (k0_pay13 (k0_pay10 v) (k0_pay11 g) (k0_pay12 v) (K 2) (V 2)) (k0_pay14 v g) (k0_pay15 (F := Ideal)) (K 3) (V 3) w =
      finish y (concatenate S512x1024 1 [⟨S512x256, heads v v0 g K V 0⟩, ⟨S512x256, heads v v0 g K V 1⟩,
        ⟨S512x256, heads v v0 g K V 2⟩, ⟨S512x256, heads v v0 g K V 3⟩]
        concatenates_S512x256_S512x256_S512x256_S512x256_S512x1024_d1) w := rfl

/-- A head of the block reads its own columns of the projection. -/
theorem heads_at (v : FVec Ideal S512x1024 .f32) (v0 : FVec Ideal S512x256 .f32)
    (hv : ∀ r e, v0 (ix2 r e) = v (ix2 r (col 0 e))) (g : Vec Ideal S1x256 .f32)
    (K V : Fin 4 → Vec Ideal S1x1x256x256 .bf16) (h : Fin 4) (r : Fin 512) (d : Fin 256) :
    heads v v0 g K V h (ix2 r d) = head (fun e => v (ix2 r (col h e))) (fun e => g (ix2 0 e))
      (fun j e => K h (ix4 0 0 j e)) (fun j e => V h (ix4 0 0 j e)) d := by
  have s1 : ∀ e, k0_pay6 v (ix2 r e) = v (ix2 r (col 1 e)) := fun e => by
    pointwise [k0_pay6]
    exact congrArg v (funext fun a => Fin.ext (by
      match a with
      | ⟨0, _⟩ => rfl
      | ⟨1, _⟩ => show 256 + e.val = 1 * 256 + e.val; omega))
  have s2 : ∀ e, k0_pay10 v (ix2 r e) = v (ix2 r (col 2 e)) := fun e => by
    pointwise [k0_pay10]
    exact congrArg v (funext fun a => Fin.ext (by
      match a with
      | ⟨0, _⟩ => rfl
      | ⟨1, _⟩ => show 512 + e.val = 2 * 256 + e.val; omega))
  have s3 : ∀ e, pay_last v (ix2 r e) = v (ix2 r (col 3 e)) := fun e => by
    pointwise [pay_last]
    exact congrArg v (funext fun a => Fin.ext (by
      match a with
      | ⟨0, _⟩ => rfl
      | ⟨1, _⟩ => show 768 + e.val = 3 * 256 + e.val; omega))
  match h with
  | ⟨0, _⟩ => exact (pay5_at _ _ _ _ _ _).trans (by simp only [hv]; rfl)
  | ⟨1, _⟩ => exact (pay5_at _ _ _ _ _ _).trans (by simp only [s1]; rfl)
  | ⟨2, _⟩ => exact (pay5_at _ _ _ _ _ _).trans (by simp only [s2]; rfl)
  | ⟨3, _⟩ => exact (pay5_at _ _ _ _ _ _).trans (by simp only [s3]; rfl)

/-- The keys or values of one head in the block. -/
def piece (x : Vec Ideal S1x4x256x256 .bf16) (h : Fin 4) : Vec Ideal S1x1x256x256 .bf16 :=
  match h with
  | ⟨0, _⟩ => View.ld x r0_7
  | ⟨1, _⟩ => View.ld x r0_8
  | ⟨2, _⟩ => View.ld x r0_9
  | ⟨3, _⟩ => View.ld x r0_10

theorem piece_at (x : Vec Ideal S1x4x256x256 .bf16) (h : Fin 4) (j e : Fin 256) :
    piece x h (ix4 0 0 j e) = x (ix4 0 h j e) := by
  match h with
  | ⟨0, _⟩ => exact View.ld_unit_apply_of _ _ _ _ _ _ (fun a => by
      match a with
      | ⟨0, _⟩ => rfl
      | ⟨1, _⟩ => rfl
      | ⟨2, _⟩ => show j.val = 0 + j.val; omega
      | ⟨3, _⟩ => show e.val = 0 + e.val; omega)
  | ⟨1, _⟩ => exact View.ld_unit_apply_of _ _ _ _ _ _ (fun a => by
      match a with
      | ⟨0, _⟩ => rfl
      | ⟨1, _⟩ => rfl
      | ⟨2, _⟩ => show j.val = 0 + j.val; omega
      | ⟨3, _⟩ => show e.val = 0 + e.val; omega)
  | ⟨2, _⟩ => exact View.ld_unit_apply_of _ _ _ _ _ _ (fun a => by
      match a with
      | ⟨0, _⟩ => rfl
      | ⟨1, _⟩ => rfl
      | ⟨2, _⟩ => show j.val = 0 + j.val; omega
      | ⟨3, _⟩ => show e.val = 0 + e.val; omega)
  | ⟨3, _⟩ => exact View.ld_unit_apply_of _ _ _ _ _ _ (fun a => by
      match a with
      | ⟨0, _⟩ => rfl
      | ⟨1, _⟩ => rfl
      | ⟨2, _⟩ => show j.val = 0 + j.val; omega
      | ⟨3, _⟩ => show e.val = 0 + e.val; omega)

theorem zero2 : (![0, 0] : Fin 2 → ℕ) = fun _ => 0 := by funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section
variable (x0 : Vec Ideal S1x512x1024 .f32) (x1 x2 : Vec Ideal S1x512x512 .f32) (x3 : Vec Ideal S1024x1024 .bf16)
  (x4 : Vec Ideal S1x1024 .f32) (x5 : Vec Ideal S1024x1024 .bf16) (x6 : Vec Ideal S1x256 .f32)
  (x7 x8 : Vec Ideal S1x4x256x256 .bf16) (x9 : Vec Ideal S1024x1024 .bf16)

/-- The block's rows after the output projection. -/
def tok : FVec Ideal S512x1024 .f32 := k0_pay2 x0 x1 (View.ld x3 r0_2) x2 (View.ld x3 r0_3)
/-- Their projection to the queries. -/
def qry : FVec Ideal S512x1024 .f32 := k0_pay3 x0 x1 (View.ld x3 r0_2) x2 (View.ld x3 r0_3) x4 x5
/-- The first head's columns of it. -/
def qry0 : FVec Ideal S512x256 .f32 := k0_pay4 x0 x1 (View.ld x3 r0_2) x2 (View.ld x3 r0_3) x4 x5

theorem tok_at (r : Fin 512) (k : Fin 1024) :
    tok x0 x1 x2 x3 (ix2 r k) = mixed (fun k => x0 (ix3 0 r k)) (fun k => x1 (ix3 0 r k)) (fun k => x2 (ix3 0 r k))
      (fun i k => x3 (ix2 i k)) k := by
  have h2 : ∀ j : Fin 512, View.ld x3 r0_2 (ix2 j k) = x3 (ix2 ⟨j.val, by omega⟩ k) := fun j =>
    View.ld_unit_apply_of _ _ _ _ _ _ (fun a => by
      match a with
      | ⟨0, _⟩ => show j.val = 0 + j.val; omega
      | ⟨1, _⟩ => show k.val = 0 + k.val; omega)
  have h3 : ∀ j : Fin 512, View.ld x3 r0_3 (ix2 j k) = x3 (ix2 ⟨512 + j.val, by omega⟩ k) := fun j =>
    View.ld_unit_apply_of _ _ _ _ _ _ (fun a => by
      match a with
      | ⟨0, _⟩ => rfl
      | ⟨1, _⟩ => show k.val = 0 + k.val; omega)
  refine (pay2_at _ _ _ _ _ _ _).trans ?_
  simp only [h2, h3]
  rfl

theorem qry0_at (r : Fin 512) (e : Fin 256) : qry0 x0 x1 x2 x3 x4 x5 (ix2 r e) = qry x0 x1 x2 x3 x4 x5 (ix2 r (col 0 e)) := by
  have h : ∀ v : FVec Ideal S512x1024 .f32,
      extractStridedSlice S512x256 ![0, 0] v slices_S512x1024_o0_0_S512x256 (ix2 r e) = v (ix2 r (col 0 e)) := fun v => by
    pointwise
    exact congrArg v (funext fun a => Fin.ext (by
      match a with
      | ⟨0, _⟩ => rfl
      | ⟨1, _⟩ => show e.val = 0 * 256 + e.val; omega))
  exact h (qry x0 x1 x2 x3 x4 x5)

theorem out_eq : out0_10 x0 x1 x2 x3 x4 x5 x6 x7 x8 x9 = finish (tok x0 x1 x2 x3)
    (concatenate S512x1024 1 [⟨S512x256, heads (qry x0 x1 x2 x3 x4 x5) (qry0 x0 x1 x2 x3 x4 x5) x6 (piece x7) (piece x8) 0⟩,
      ⟨S512x256, heads (qry x0 x1 x2 x3 x4 x5) (qry0 x0 x1 x2 x3 x4 x5) x6 (piece x7) (piece x8) 1⟩,
      ⟨S512x256, heads (qry x0 x1 x2 x3 x4 x5) (qry0 x0 x1 x2 x3 x4 x5) x6 (piece x7) (piece x8) 2⟩,
      ⟨S512x256, heads (qry x0 x1 x2 x3 x4 x5) (qry0 x0 x1 x2 x3 x4 x5) x6 (piece x7) (piece x8) 3⟩]
      concatenates_S512x256_S512x256_S512x256_S512x256_S512x1024_d1) x9 := by
  unfold out0_10
  refine (View.canon_unit_zero zero3 _ _).trans ?_
  unfold k0_pay16
  rw [View.ld_unit_zero zero3 _ x0, View.ld_unit_zero zero3 _ x1, View.ld_unit_zero zero3 _ x2, View.ld_unit_zero zero2 _ x4,
    View.ld_unit_zero zero2 _ x5, View.ld_unit_zero zero2 _ x6, View.ld_unit_zero zero2 _ x9]
  exact pay1_eq (tok x0 x1 x2 x3) (qry x0 x1 x2 x3 x4 x5) (qry0 x0 x1 x2 x3 x4 x5) x6 (piece x7) (piece x8) x9

/-- What the grid point writes is the token after the memory attention. -/
theorem out_at (r : Fin 512) (k : Fin 1024) :
    out0_10 x0 x1 x2 x3 x4 x5 x6 x7 x8 x9 (ix3 0 r k) =
      out (mixed (fun k => x0 (ix3 0 r k)) (fun k => x1 (ix3 0 r k)) (fun k => x2 (ix3 0 r k)) (fun i k => x3 (ix2 i k)))
        (fun k => x4 (ix2 0 k)) (fun i k => x5 (ix2 i k)) (fun e => x6 (ix2 0 e)) (fun h j e => x7 (ix4 0 h j e))
        (fun h j e => x8 (ix4 0 h j e)) (fun i k => x9 (ix2 i k)) k := by
  have hq : ∀ k, qry x0 x1 x2 x3 x4 x5 (ix2 r k) =
      proj (rms n1024 (fun k => tok x0 x1 x2 x3 (ix2 r k)) fun k => x4 (ix2 0 k)) (fun i k => x5 (ix2 i k)) k :=
    fun k => pay3_at _ _ _ _ _ _ _ _ _
  rw [out_eq, finish_at, out]
  refine congrArg₂ (· + ·) (tok_at x0 x1 x2 x3 r k) (Finset.sum_congr rfl fun j _ => congrArg₂ (· * ·) ?_ rfl)
  rw [cat_at (heads (qry x0 x1 x2 x3 x4 x5) (qry0 x0 x1 x2 x3 x4 x5) x6 (piece x7) (piece x8)),
    heads_at _ _ (qry0_at x0 x1 x2 x3 x4 x5)]
  simp only [piece_at, hq, tok_at]

end

end Cert.Kernel2Ideal.Mem

end
-- ==== Proof.MemRef.lean ====
/- What the memory attention's reference computes, one element at a time. -/
module

public import proofs.«01_k».proof.Proof.Gen.Reference2Ideal.Read
public import proofs.«01_k».proof.Proof.MemRow
public import Idealize.ShloMosaic.Lib.Pointwise

@[expose] public section

set_option maxRecDepth 16384

noncomputable section

namespace Cert.Reference2Ideal.Mem

open Cert.Reference2Ideal Cert.Reference2Ideal.Gen Cert.Reference2Ideal.Read Idealize.ShloMosaic Cert.Mem

/-- The mixers' outputs side by side. -/
theorem cat_left (x1 x2 : FVec Ideal S2x16384x512 .f32) (b : Fin 2) (r : Fin 16384) (j : Fin 512) :
    val_main_v0 (F := Ideal) x1 x2 (ix3 b r ⟨j.val, by omega⟩) = x1 (ix3 b r j) := by
  unfold val_main_v0
  pointwise
  all_goals first
    | rfl
    | exact (dif_pos j.isLt).trans rfl
    | exact (if_pos j.isLt).trans rfl

theorem cat_right (x1 x2 : FVec Ideal S2x16384x512 .f32) (b : Fin 2) (r : Fin 16384) (j : Fin 512) :
    val_main_v0 (F := Ideal) x1 x2 (ix3 b r ⟨512 + j.val, by omega⟩) = x2 (ix3 b r j) := by
  unfold val_main_v0
  pointwise

theorem hmax_apply (y : FVec Ideal S2x4x16384x256 .f32) (w : FVec Ideal S_ .f32) (b : Fin 2) (h : Fin 4) (r : Fin 16384) :
    Host.reduce FloatOps.maximumf y w reducesTo_S2x4x16384x256_S2x4x16384_d3 h_S_ (ix3 b h r) =
      Finset.univ.fold max (w ix0) (fun k : Fin 256 => y (ix4 b h r k)) := by
  pointwise
  exact congrArg (fun i => Finset.fold max (w i) (fun x => y (ix4 b h r x)) Finset.univ) (funext fun a => a.elim0)

section
variable (x0 : FVec Ideal S2x16384x1024 .f32) (x1 x2 : FVec Ideal S2x16384x512 .f32) (x3 : FVec Ideal S1024x1024 .f32)
  (x4 : FVec Ideal S1024 .f32) (x5 : FVec Ideal S1024x1024 .f32) (x6 : FVec Ideal S256 .f32)
  (x7 x8 : FVec Ideal S2x4x256x256 .bf16) (x9 : FVec Ideal S1024x1024 .f32)

/-- The token after the output projection. -/
def tok (b : Fin 2) (r : Fin 16384) (k : Fin 1024) : EReal :=
  mixed (fun k => x0 (ix3 b r k)) (fun k => x1 (ix3 b r k)) (fun k => x2 (ix3 b r k)) (fun i k => x3 (ix2 i k)) k

theorem v2_at (b : Fin 2) (r : Fin 16384) (k : Fin 1024) : val_main_v2 (F := Ideal) x0 x1 x2 x3 (ix3 b r k) = tok x0 x1 x2 x3 b r k := by
  rw [val_main_v2_apply, val_main_v1_apply, Fin.sum_univ_two_halves 512 512 rfl]
  show x0 (ix3 b r k) + _ = x0 (ix3 b r k) + _ + _
  rw [add_assoc]
  refine congrArg (x0 (ix3 b r k) + ·) (congrArg₂ (· + ·) ?_ ?_)
  · refine Finset.sum_congr rfl fun j _ => congrArg₂ (· * ·) ?_ (congrArg x3 ?_)
    · refine Eq.trans (congrArg (val_main_v0 (F := Ideal) x1 x2) ?_) (cat_left x1 x2 b r j)
      exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · refine Finset.sum_congr rfl fun j _ => congrArg₂ (· * ·) ?_ (congrArg x3 ?_)
    · refine Eq.trans (congrArg (val_main_v0 (F := Ideal) x1 x2) ?_) (cat_right x1 x2 b r j)
      exact funext fun a => Fin.ext (by match a with | ⟨0, _⟩ => rfl | ⟨1, _⟩ => rfl | ⟨2, _⟩ => rfl)
    · exact funext fun a => Fin.ext (by match a with | ⟨0, _⟩ => rfl | ⟨1, _⟩ => rfl)

theorem v15_at (b : Fin 2) (r : Fin 16384) (k : Fin 1024) :
    val_main_v15 (F := Ideal) x0 x1 x2 x3 x4 (ix3 b r k) =
      rms n1024 (tok x0 x1 x2 x3 b r) (fun k => x4 (ix1 k)) k := by
  have hi : idx_main_v5 (idx_main_v11 (ix3 b r k)) = ix2 b r :=
    funext fun a => Fin.ext (by match a with | ⟨0, _⟩ => rfl | ⟨1, _⟩ => rfl)
  have hk : ∀ k : Fin 1024, idx_main_v4 (ix2 b r) k = ix3 b r k := fun k =>
    funext fun a => Fin.ext (by match a with | ⟨0, _⟩ => rfl | ⟨1, _⟩ => rfl | ⟨2, _⟩ => rfl)
  have hg : idx_main_v13 (idx_main_v14 (ix3 b r k)) = ix1 k :=
    funext fun a => Fin.ext (by match a with | ⟨0, _⟩ => rfl)
  rw [val_main_v15_apply, val_main_v14_apply, val_main_v13_apply, hg, val_main_v12_apply, val_main_v11_apply,
    val_main_v10_apply, val_main_v9_apply, val_main_v8_apply, val_main_cst_1_apply, val_main_v7_apply, val_main_v6_apply,
    val_main_cst_0_apply, val_main_v5_apply, hi, val_main_v4_apply, val_main_cst_apply]
  simp only [hk, val_main_v3_apply, v2_at]
  show tok x0 x1 x2 x3 b r k * Ideal.rsqrt (Ideal.div (Ideal.ofBits FTy.f32 0#32 + _) _ + _) * _ = _
  rw [Ideal.ofBits_zero, zero_add]
  rfl

/-- The token's queries. -/
def qry (b : Fin 2) (r : Fin 16384) (k : Fin 1024) : EReal :=
  proj (rms n1024 (tok x0 x1 x2 x3 b r) fun k => x4 (ix1 k)) (fun i k => x5 (ix2 i k)) k

theorem v17_at (b : Fin 2) (r : Fin 16384) (h : Fin 4) (e : Fin 256) :
    val_main_v17 (F := Ideal) x0 x1 x2 x3 x4 x5 (ix4 b r h e) = qry x0 x1 x2 x3 x4 x5 b r (col h e) := by
  have hi : idx_main_v17 (ix4 b r h e) = ix3 b r (col h e) :=
    funext fun a => Fin.ext (by
      have := b.isLt; have := r.isLt; have := h.isLt; have := e.isLt
      match a with
      | ⟨0, _⟩ => show (((b.val * 16384 + r.val) * 4 + h.val) * 256 + e.val) / 16777216 = b.val; omega
      | ⟨1, _⟩ => show (((b.val * 16384 + r.val) * 4 + h.val) * 256 + e.val) / 1024 % 16384 = r.val; omega
      | ⟨2, _⟩ => show (((b.val * 16384 + r.val) * 4 + h.val) * 256 + e.val) % 1024 = h.val * 256 + e.val; omega)
  rw [val_main_v17_apply, hi, val_main_v16_apply, qry, proj]
  refine Finset.sum_congr rfl fun k _ => congrArg₂ (· * ·) ?_ (congrArg x5 ?_)
  · refine Eq.trans (congrArg (val_main_v15 (F := Ideal) x0 x1 x2 x3 x4) ?_) (v15_at x0 x1 x2 x3 x4 b r k)
    exact funext fun a => Fin.ext (by match a with | ⟨0, _⟩ => rfl | ⟨1, _⟩ => rfl | ⟨2, _⟩ => rfl)
  · exact funext fun a => Fin.ext (by match a with | ⟨0, _⟩ => rfl | ⟨1, _⟩ => rfl)

theorem v30_at (b : Fin 2) (r : Fin 16384) (h : Fin 4) (e : Fin 256) :
    val_main_v30 (F := Ideal) x0 x1 x2 x3 x4 x5 x6 (ix4 b r h e) =
      rms n256 (fun e => qry x0 x1 x2 x3 x4 x5 b r (col h e)) (fun e => x6 (ix1 e)) e := by
  have hi : idx_main_v20 (idx_main_v26 (ix4 b r h e)) = ix3 b r h :=
    funext fun a => Fin.ext (by match a with | ⟨0, _⟩ => rfl | ⟨1, _⟩ => rfl | ⟨2, _⟩ => rfl)
  have hk : ∀ k : Fin 256, idx_main_v19 (ix3 b r h) k = ix4 b r h k := fun k =>
    funext fun a => Fin.ext (by match a with | ⟨0, _⟩ => rfl | ⟨1, _⟩ => rfl | ⟨2, _⟩ => rfl | ⟨3, _⟩ => rfl)
  have hg : idx_main_v28 (idx_main_v29 (ix4 b r h e)) = ix1 e :=
    funext fun a => Fin.ext (by match a with | ⟨0, _⟩ => rfl)
  rw [val_main_v30_apply, val_main_v29_apply, val_main_v28_apply, hg, val_main_v27_apply, val_main_v26_apply,
    val_main_v25_apply, val_main_v24_apply, val_main_v23_apply, val_main_cst_4_apply, val_main_v22_apply, val_main_v21_apply,
    val_main_cst_3_apply, val_main_v20_apply, hi, val_main_v19_apply, val_main_cst_2_apply]
  simp only [hk, val_main_v18_apply, v17_at]
  show qry x0 x1 x2 x3 x4 x5 b r (col h e) * Ideal.rsqrt (Ideal.div (Ideal.ofBits FTy.f32 0#32 + _) _ + _) * _ = _
  rw [Ideal.ofBits_zero, zero_add]
  rfl

/-- The score of memory token `j` for a token's head. -/
def score (b : Fin 2) (h : Fin 4) (r : Fin 16384) (j : Fin 256) : EReal :=
  ∑ e, rms n256 (fun e => qry x0 x1 x2 x3 x4 x5 b r (col h e)) (fun e => x6 (ix1 e)) e * sixteenth * x7 (ix4 b h j e)

theorem v34_at (b : Fin 2) (h : Fin 4) (r : Fin 16384) (j : Fin 256) :
    val_main_v34 (F := Ideal) x0 x1 x2 x3 x4 x5 x6 x7 (ix4 b h r j) = score x0 x1 x2 x3 x4 x5 x6 x7 b h r j := by
  rw [score, scale_out, val_main_v34_apply, val_main_v33_apply, val_main_cst_5_apply, val_main_v32_apply]
  refine congrArg₂ (· * ·) (Finset.sum_congr rfl fun e _ => congrArg₂ (· * ·) ?_ ?_) rfl
  · refine Eq.trans (congrArg (val_main_v30 (F := Ideal) x0 x1 x2 x3 x4 x5 x6) ?_) (v30_at x0 x1 x2 x3 x4 x5 x6 b r h e)
    exact funext fun a => Fin.ext (by match a with | ⟨0, _⟩ => rfl | ⟨1, _⟩ => rfl | ⟨2, _⟩ => rfl | ⟨3, _⟩ => rfl)
  · rw [val_main_v31_apply]
    refine congrArg x7 ?_
    exact funext fun a => Fin.ext (by match a with | ⟨0, _⟩ => rfl | ⟨1, _⟩ => rfl | ⟨2, _⟩ => rfl | ⟨3, _⟩ => rfl)

theorem v37_at (b : Fin 2) (h : Fin 4) (r : Fin 16384) :
    val_main_v37 (F := Ideal) x0 x1 x2 x3 x4 x5 x6 x7 (ix3 b h r) =
      Finset.univ.fold max ⊥ (score x0 x1 x2 x3 x4 x5 x6 x7 b h r) := by
  have e : score x0 x1 x2 x3 x4 x5 x6 x7 b h r =
      fun k => val_main_v34 (F := Ideal) x0 x1 x2 x3 x4 x5 x6 x7 (ix4 b h r k) :=
    funext fun k => (v34_at x0 x1 x2 x3 x4 x5 x6 x7 b h r k).symm
  rw [e, val_main_v37_apply, val_main_v36_apply, val_main_cst_7_apply]
  unfold val_main_v35
  generalize val_main_v34 (F := Ideal) x0 x1 x2 x3 x4 x5 x6 x7 = y
  refine (congrArg₂ max neg_inf ((hmax_apply y _ b h r).trans ?_)).trans (max_eq_right bot_le)
  rw [val_main_cst_6_apply]
  exact congrArg (fun z => Finset.univ.fold max z (fun k : Fin 256 => y (ix4 b h r k))) neg_inf

theorem v41_at (b : Fin 2) (h : Fin 4) (r : Fin 16384) (j : Fin 256) :
    val_main_v41 (F := Ideal) x0 x1 x2 x3 x4 x5 x6 x7 (ix4 b h r j) =
      Ideal.exp (score x0 x1 x2 x3 x4 x5 x6 x7 b h r j - Finset.univ.fold max ⊥ (score x0 x1 x2 x3 x4 x5 x6 x7 b h r)) := by
  have hi : idx_main_v38 (idx_main_v39 (ix4 b h r j)) = ix3 b h r :=
    funext fun a => Fin.ext (by match a with | ⟨0, _⟩ => rfl | ⟨1, _⟩ => rfl | ⟨2, _⟩ => rfl)
  rw [val_main_v41_apply, val_main_v40_apply, val_main_v39_apply, val_main_v38_apply, hi, v37_at, v34_at]
  rfl

theorem v45_at (b : Fin 2) (h : Fin 4) (r : Fin 16384) (j : Fin 256) :
    val_main_v45 (F := Ideal) x0 x1 x2 x3 x4 x5 x6 x7 (ix4 b h r j) =
      Ideal.div (Ideal.exp (score x0 x1 x2 x3 x4 x5 x6 x7 b h r j - Finset.univ.fold max ⊥ (score x0 x1 x2 x3 x4 x5 x6 x7 b h r)))
        (∑ j, Ideal.exp (score x0 x1 x2 x3 x4 x5 x6 x7 b h r j - Finset.univ.fold max ⊥ (score x0 x1 x2 x3 x4 x5 x6 x7 b h r))) := by
  have hi : idx_main_v43 (idx_main_v44 (ix4 b h r j)) = ix3 b h r :=
    funext fun a => Fin.ext (by match a with | ⟨0, _⟩ => rfl | ⟨1, _⟩ => rfl | ⟨2, _⟩ => rfl)
  have hk : ∀ k : Fin 256, idx_main_v42 (ix3 b h r) k = ix4 b h r k := fun k =>
    funext fun a => Fin.ext (by match a with | ⟨0, _⟩ => rfl | ⟨1, _⟩ => rfl | ⟨2, _⟩ => rfl | ⟨3, _⟩ => rfl)
  rw [val_main_v45_apply, val_main_v44_apply, val_main_v43_apply, hi, val_main_v42_apply, v41_at, val_main_cst_8_apply]
  simp only [hk, v41_at]
  show Ideal.div _ (Ideal.ofBits FTy.f32 0#32 + _) = _
  rw [Ideal.ofBits_zero, zero_add]

theorem v49_at (b : Fin 2) (r : Fin 16384) (k : Fin 1024) :
    val_main_v49 (F := Ideal) x0 x1 x2 x3 x4 x5 x6 x7 x8 (ix3 b r k) =
      head (fun e => qry x0 x1 x2 x3 x4 x5 b r (col (headOf k) e)) (fun e => x6 (ix1 e)) (fun j e => x7 (ix4 b (headOf k) j e))
        (fun j e => x8 (ix4 b (headOf k) j e)) (colOf k) := by
  have hi : idx_main_v48 (idx_main_v49 (ix3 b r k)) = ix4 b (headOf k) (colOf k) r :=
    funext fun a => Fin.ext (by
      have := b.isLt; have := r.isLt; have := k.isLt
      match a with
      | ⟨0, _⟩ => show ((b.val * 16384 + r.val) * 1024 + k.val) / 16777216 = b.val; omega
      | ⟨1, _⟩ => show ((b.val * 16384 + r.val) * 1024 + k.val) / 256 % 4 = k.val / 256; omega
      | ⟨2, _⟩ => show ((b.val * 16384 + r.val) * 1024 + k.val) % 256 = k.val % 256; omega
      | ⟨3, _⟩ => show ((b.val * 16384 + r.val) * 1024 + k.val) / 1024 % 16384 = r.val; omega)
  rw [val_main_v49_apply, val_main_v48_apply, hi, val_main_v47_apply, head, att]
  refine Finset.sum_congr rfl fun j _ => ?_
  rw [mul_comm]
  refine congrArg₂ (· * ·) ?_ ?_
  · refine Eq.trans (congrArg (val_main_v45 (F := Ideal) x0 x1 x2 x3 x4 x5 x6 x7) ?_)
      (v45_at x0 x1 x2 x3 x4 x5 x6 x7 b (headOf k) r j)
    exact funext fun a => Fin.ext (by match a with | ⟨0, _⟩ => rfl | ⟨1, _⟩ => rfl | ⟨2, _⟩ => rfl | ⟨3, _⟩ => rfl)
  · rw [val_main_v46_apply]
    refine congrArg x8 ?_
    exact funext fun a => Fin.ext (by match a with | ⟨0, _⟩ => rfl | ⟨1, _⟩ => rfl | ⟨2, _⟩ => rfl | ⟨3, _⟩ => rfl)

/-- The reference, one element at a time. -/
theorem reference_apply (b : Fin 2) (r : Fin 16384) (k : Fin 1024) :
    val_main_v51 (F := Ideal) x0 x1 x2 x3 x4 x5 x6 x7 x8 x9 (ix3 b r k) =
      out (tok x0 x1 x2 x3 b r) (fun k => x4 (ix1 k)) (fun i k => x5 (ix2 i k)) (fun e => x6 (ix1 e))
        (fun h j e => x7 (ix4 b h j e)) (fun h j e => x8 (ix4 b h j e)) (fun i k => x9 (ix2 i k)) k := by
  rw [val_main_v51_apply, val_main_v50_apply, v2_at]
  refine congrArg (tok x0 x1 x2 x3 b r k + ·) (Finset.sum_congr rfl fun j _ => congrArg₂ (· * ·) ?_ (congrArg x9 ?_))
  · refine Eq.trans (congrArg (val_main_v49 (F := Ideal) x0 x1 x2 x3 x4 x5 x6 x7 x8) ?_) (v49_at x0 x1 x2 x3 x4 x5 x6 x7 x8 b r j)
    exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end

end Cert.Reference2Ideal.Mem

end
-- ==== Proof.MemArr.lean ====
/- The output array of the memory attention kernel: the reference's value of the launched arguments. -/
module

public import proofs.«01_k».proof.Proof.MemBlock
public import proofs.«01_k».proof.Proof.MemRef

@[expose] public section

set_option maxRecDepth 16384

noncomputable section

namespace Cert.Kernel2Ideal.Mem

open Cert.Kernel2Ideal Cert.Kernel2Ideal.Gen Idealize.ShloMosaic Idealize.ShloMosaic.TcCoe Idealize.SL.Sem Cert.Mem

variable (m : (ℓ : Loc nD τ sig) → Buf (Elt Ideal) ℓ) (c : Dev nD)

abbrev Tok := FVec Ideal S2x16384x1024 .f32
abbrev Mix := FVec Ideal S2x16384x512 .f32
abbrev Sq := FVec Ideal S1024x1024 .f32
abbrev Bank := FVec Ideal S2x4x256x256 .bf16

/-- The launched arguments. -/
abbrev a0 : Tok := m ((c : Thread nD τ).loc main_arg0)
abbrev a1 : Mix := m ((c : Thread nD τ).loc main_arg1)
abbrev a2 : Mix := m ((c : Thread nD τ).loc main_arg2)
abbrev a3 : Sq := m ((c : Thread nD τ).loc main_arg3)
abbrev a4 : FVec Ideal S1024 .f32 := m ((c : Thread nD τ).loc main_arg4)
abbrev a5 : Sq := m ((c : Thread nD τ).loc main_arg5)
abbrev a6 : FVec Ideal S256 .f32 := m ((c : Thread nD τ).loc main_arg6)
abbrev a7 : Bank := m ((c : Thread nD τ).loc main_arg7)
abbrev a8 : Bank := m ((c : Thread nD τ).loc main_arg8)
abbrev a9 : Sq := m ((c : Thread nD τ).loc main_arg9)

/-! The arrays the host prepares: the matrices in the half-width format, the gains as single rows. -/

theorem V0 : (V m c main_v0 : FVec Ideal S1024x1024 .bf16) = truncf .bf16 (a3 m c) bitsLt_bf16_f32 := by
  unfold V
  after_results_simp <;> rfl
theorem V1 : (V m c main_v1 : FVec Ideal S1x1024 .f32) = broadcastInDim S1x1024 ![1] bcast_S1024_S1x1024_1 (a4 m c) := by
  after_results_simp <;> rfl
theorem V2 : (V m c main_v2 : FVec Ideal S1024x1024 .bf16) = truncf .bf16 (a5 m c) bitsLt_bf16_f32 := by
  rfl
theorem V3 : (V m c main_v3 : FVec Ideal S1x256 .f32) = broadcastInDim S1x256 ![1] bcast_S256_S1x256_1 (a6 m c) := by
  after_results_simp <;> rfl
theorem V4 : (V m c main_v4 : FVec Ideal S1024x1024 .bf16) = truncf .bf16 (a9 m c) bitsLt_bf16_f32 := by
  rfl

theorem row1024 (x : FVec Ideal S1024 .f32) (k : Fin 1024) :
    broadcastInDim S1x1024 ![1] bcast_S1024_S1x1024_1 x (ix2 0 k) = x (ix1 k) := by pointwise
theorem row256 (x : FVec Ideal S256 .f32) (k : Fin 256) :
    broadcastInDim S1x256 ![1] bcast_S256_S1x256_1 x (ix2 0 k) = x (ix1 k) := by pointwise

/-- The grid point's coordinates: batch entry, block of rows. -/
def gb (t : Fin cfg0.N) : Fin 2 := grid0.coords t 0
def gn (t : Fin cfg0.N) : Fin 32 := grid0.coords t 1
abbrev gpos (t : Fin cfg0.N) (r : Fin 512) : Fin 16384 := ⟨(gn t).val * 512 + r.val, by have := (gn t).isLt; omega⟩

theorem onto : ∀ (b : Fin 2) (n : Fin 32), ∃ t : Fin cfg0.N, gb t = b ∧ gn t = n :=
  (by decide +kernel : ∀ (b : Fin 2) (n : Fin 32), ∃ t : Fin grid0.N, _)
theorem idx0 : ∀ t : Fin cfg0.N, win0_0.index t (0 : Fin 3) = (gb t).val ∧ win0_0.index t (1 : Fin 3) = (gn t).val ∧ win0_0.index t (2 : Fin 3) = 0 :=
  (by decide +kernel : ∀ t : Fin grid0.N, _)
theorem idx1 : ∀ t : Fin cfg0.N, win0_1.index t (0 : Fin 3) = (gb t).val ∧ win0_1.index t (1 : Fin 3) = (gn t).val ∧ win0_1.index t (2 : Fin 3) = 0 :=
  (by decide +kernel : ∀ t : Fin grid0.N, _)
theorem idx2 : ∀ t : Fin cfg0.N, win0_2.index t (0 : Fin 3) = (gb t).val ∧ win0_2.index t (1 : Fin 3) = (gn t).val ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 4) = (gb t).val ∧ win0_7.index t (1 : Fin 4) = 0 ∧ win0_7.index t (2 : Fin 4) = 0 ∧ win0_7.index t (3 : Fin 4) = 0 :=
  (by decide +kernel : ∀ t : Fin grid0.N, _)
theorem idx8 : ∀ t : Fin cfg0.N, win0_8.index t (0 : Fin 4) = (gb t).val ∧ win0_8.index t (1 : Fin 4) = 0 ∧ win0_8.index t (2 : Fin 4) = 0 ∧ win0_8.index t (3 : Fin 4) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = (gb t).val ∧ win0_10.index t (1 : Fin 3) = (gn t).val ∧ win0_10.index t (2 : Fin 3) = 0 :=
  (by decide +kernel : ∀ t : Fin grid0.N, _)

theorem iblk0 (t : Fin cfg0.N) (r : Fin 512) (k : Fin 1024) :
    iblk m c 0 t (ix3 0 r k) = a0 m c (ix3 (gb t) (gpos t r) k) := by
  obtain ⟨e0, e1, e2⟩ := idx0 t
  show (V m c main_arg0 : Tok) (((cfg0.win 0).blk t).view.emb (ix3 0 r k)) = _
  rw [V_main_arg0]
  refine congrArg (a0 m c) (funext fun a => Fin.ext ?_)
  match a with
  | ⟨0, _⟩ => show win0_0.index t (0 : Fin 3) * 1 + 1 * 0 = (gb t).val; omega
  | ⟨1, _⟩ => show win0_0.index t (1 : Fin 3) * 512 + 1 * r.val = (gn t).val * 512 + r.val; omega
  | ⟨2, _⟩ => show win0_0.index t (2 : Fin 3) * 1024 + 1 * k.val = k.val; omega

theorem iblk1 (t : Fin cfg0.N) (r : Fin 512) (k : Fin 512) :
    iblk m c 1 t (ix3 0 r k) = a1 m c (ix3 (gb t) (gpos t r) k) := by
  obtain ⟨e0, e1, e2⟩ := idx1 t
  show (V m c main_arg1 : Mix) (((cfg0.win 1).blk t).view.emb (ix3 0 r k)) = _
  rw [V_main_arg1]
  refine congrArg (a1 m c) (funext fun a => Fin.ext ?_)
  match a with
  | ⟨0, _⟩ => show win0_1.index t (0 : Fin 3) * 1 + 1 * 0 = (gb t).val; omega
  | ⟨1, _⟩ => show win0_1.index t (1 : Fin 3) * 512 + 1 * r.val = (gn t).val * 512 + r.val; omega
  | ⟨2, _⟩ => show win0_1.index t (2 : Fin 3) * 512 + 1 * k.val = k.val; omega

theorem iblk2 (t : Fin cfg0.N) (r : Fin 512) (k : Fin 512) :
    iblk m c 2 t (ix3 0 r k) = a2 m c (ix3 (gb t) (gpos t r) k) := by
  obtain ⟨e0, e1, e2⟩ := idx2 t
  show (V m c main_arg2 : Mix) (((cfg0.win 2).blk t).view.emb (ix3 0 r k)) = _
  rw [V_main_arg2]
  refine congrArg (a2 m c) (funext fun a => Fin.ext ?_)
  match a with
  | ⟨0, _⟩ => show win0_2.index t (0 : Fin 3) * 1 + 1 * 0 = (gb t).val; omega
  | ⟨1, _⟩ => show win0_2.index t (1 : Fin 3) * 512 + 1 * r.val = (gn t).val * 512 + r.val; omega
  | ⟨2, _⟩ => show win0_2.index t (2 : Fin 3) * 512 + 1 * k.val = k.val; omega

theorem iblk3 (t : Fin cfg0.N) (i k : Fin 1024) : iblk m c 3 t (ix2 i k) = a3 m c (ix2 i k) := by
  obtain ⟨e0, e1⟩ := idx3 t
  show (V m c main_v0 : FVec Ideal S1024x1024 .bf16) (((cfg0.win 3).blk t).view.emb (ix2 i k)) = _
  rw [V0]
  refine congrArg (a3 m c) (funext fun a => Fin.ext ?_)
  match a with
  | ⟨0, _⟩ => show win0_3.index t (0 : Fin 2) * 1024 + 1 * i.val = i.val; omega
  | ⟨1, _⟩ => show win0_3.index t (1 : Fin 2) * 1024 + 1 * k.val = k.val; omega

theorem iblk4 (t : Fin cfg0.N) (k : Fin 1024) : iblk m c 4 t (ix2 0 k) = a4 m c (ix1 k) := by
  obtain ⟨e0, e1⟩ := idx4 t
  show (V m c main_v1 : FVec Ideal S1x1024 .f32) (((cfg0.win 4).blk t).view.emb (ix2 0 k)) = _
  rw [V1, ← row1024 (a4 m c)]
  refine congrArg (broadcastInDim S1x1024 ![1] bcast_S1024_S1x1024_1 (a4 m c)) (funext fun a => Fin.ext ?_)
  match a with
  | ⟨0, _⟩ => show win0_4.index t (0 : Fin 2) * 1 + 1 * 0 = 0; omega
  | ⟨1, _⟩ => show win0_4.index t (1 : Fin 2) * 1024 + 1 * k.val = k.val; omega

theorem iblk5 (t : Fin cfg0.N) (i k : Fin 1024) : iblk m c 5 t (ix2 i k) = a5 m c (ix2 i k) := by
  obtain ⟨e0, e1⟩ := idx5 t
  show (V m c main_v2 : FVec Ideal S1024x1024 .bf16) (((cfg0.win 5).blk t).view.emb (ix2 i k)) = _
  rw [V2]
  refine congrArg (a5 m c) (funext fun a => Fin.ext ?_)
  match a with
  | ⟨0, _⟩ => show win0_5.index t (0 : Fin 2) * 1024 + 1 * i.val = i.val; omega
  | ⟨1, _⟩ => show win0_5.index t (1 : Fin 2) * 1024 + 1 * k.val = k.val; omega

theorem iblk6 (t : Fin cfg0.N) (k : Fin 256) : iblk m c 6 t (ix2 0 k) = a6 m c (ix1 k) := by
  obtain ⟨e0, e1⟩ := idx6 t
  show (V m c main_v3 : FVec Ideal S1x256 .f32) (((cfg0.win 6).blk t).view.emb (ix2 0 k)) = _
  rw [V3, ← row256 (a6 m c)]
  refine congrArg (broadcastInDim S1x256 ![1] bcast_S256_S1x256_1 (a6 m c)) (funext fun a => Fin.ext ?_)
  match a with
  | ⟨0, _⟩ => show win0_6.index t (0 : Fin 2) * 1 + 1 * 0 = 0; omega
  | ⟨1, _⟩ => show win0_6.index t (1 : Fin 2) * 256 + 1 * k.val = k.val; omega

theorem iblk7 (t : Fin cfg0.N) (h : Fin 4) (j e : Fin 256) :
    iblk m c 7 t (ix4 0 h j e) = a7 m c (ix4 (gb t) h j e) := by
  obtain ⟨e0, e1, e2, e3⟩ := idx7 t
  show (V m c main_arg7 : Bank) (((cfg0.win 7).blk t).view.emb (ix4 0 h j e)) = _
  rw [V_main_arg7]
  refine congrArg (a7 m c) (funext fun a => Fin.ext ?_)
  match a with
  | ⟨0, _⟩ => show win0_7.index t (0 : Fin 4) * 1 + 1 * 0 = (gb t).val; omega
  | ⟨1, _⟩ => show win0_7.index t (1 : Fin 4) * 4 + 1 * h.val = h.val; omega
  | ⟨2, _⟩ => show win0_7.index t (2 : Fin 4) * 256 + 1 * j.val = j.val; omega
  | ⟨3, _⟩ => show win0_7.index t (3 : Fin 4) * 256 + 1 * e.val = e.val; omega

theorem iblk8 (t : Fin cfg0.N) (h : Fin 4) (j e : Fin 256) :
    iblk m c 8 t (ix4 0 h j e) = a8 m c (ix4 (gb t) h j e) := by
  obtain ⟨e0, e1, e2, e3⟩ := idx8 t
  show (V m c main_arg8 : Bank) (((cfg0.win 8).blk t).view.emb (ix4 0 h j e)) = _
  rw [V_main_arg8]
  refine congrArg (a8 m c) (funext fun a => Fin.ext ?_)
  match a with
  | ⟨0, _⟩ => show win0_8.index t (0 : Fin 4) * 1 + 1 * 0 = (gb t).val; omega
  | ⟨1, _⟩ => show win0_8.index t (1 : Fin 4) * 4 + 1 * h.val = h.val; omega
  | ⟨2, _⟩ => show win0_8.index t (2 : Fin 4) * 256 + 1 * j.val = j.val; omega
  | ⟨3, _⟩ => show win0_8.index t (3 : Fin 4) * 256 + 1 * e.val = e.val; omega

theorem iblk9 (t : Fin cfg0.N) (i k : Fin 1024) : iblk m c 9 t (ix2 i k) = a9 m c (ix2 i k) := by
  obtain ⟨e0, e1⟩ := idx9 t
  show (V m c main_v4 : FVec Ideal S1024x1024 .bf16) (((cfg0.win 9).blk t).view.emb (ix2 i k)) = _
  rw [V4]
  refine congrArg (a9 m c) (funext fun a => Fin.ext ?_)
  match a with
  | ⟨0, _⟩ => show win0_9.index t (0 : Fin 2) * 1024 + 1 * i.val = i.val; omega
  | ⟨1, _⟩ => show win0_9.index t (1 : Fin 2) * 1024 + 1 * k.val = k.val; omega

/-- The array the kernel is to leave. -/
def G : FVec Ideal Reference2Ideal.S2x16384x1024 .f32 :=
  Reference2Ideal.Read.val_main_v51 (F := Ideal) (a0 m c) (a1 m c) (a2 m c) (a3 m c) (a4 m c) (a5 m c) (a6 m c) (a7 m c)
    (a8 m c) (a9 m c)

theorem block_at (t : Fin cfg0.N) (r : Fin 512) (k : Fin 1024) :
    out0_10 (iblk m c 0 t) (iblk m c 1 t) (iblk m c 2 t) (iblk m c 3 t) (iblk m c 4 t) (iblk m c 5 t) (iblk m c 6 t)
      (iblk m c 7 t) (iblk m c 8 t) (iblk m c 9 t) (ix3 0 r k) = G m c (ix3 (gb t) (gpos t r) k) := by
  rw [out_at, G, Reference2Ideal.Mem.reference_apply]
  simp only [iblk0, iblk1, iblk2, iblk3, iblk4, iblk5, iblk6, iblk7, iblk8, iblk9]
  rfl

theorem cut_read (t : Fin cfg0.N) (X : Vec Ideal S1x512x1024 .f32) (Y : FVec Ideal S2x16384x1024 .f32)
    (h : ∀ (r : Fin 512) (k : Fin 1024), X (ix3 0 r k) = Y (ix3 (gb t) (gpos t r) k)) :
    (cfg0.win 10).cut (grid0.coords t) X = ((cfg0.win 10).blk t).view.read (Elt Ideal) Y := by
  obtain ⟨e0, e1, e2⟩ := idx10 t
  funext j
  obtain ⟨j0, r, k, rfl⟩ : ∃ (j0 : Fin 1) (r : Fin 512) (k : Fin 1024), j = ix3 j0 r k := ⟨j 0, j 1, j 2, eq_ix3 j⟩
  obtain rfl : j0 = 0 := Subsingleton.elim _ _
  show X (ix3 0 r k) = Y (((cfg0.win 10).blk t).view.emb (ix3 0 r k))
  rw [h]
  refine congrArg Y (funext fun a => Fin.ext ?_)
  match a with
  | ⟨0, _⟩ => show (gb t).val = win0_10.index t (0 : Fin 3) * 1 + 1 * 0; omega
  | ⟨1, _⟩ => show (gn t).val * 512 + r.val = win0_10.index t (1 : Fin 3) * 512 + 1 * r.val; omega
  | ⟨2, _⟩ => show k.val = win0_10.index t (2 : Fin 3) * 1024 + 1 * k.val; omega

theorem flushed_eq (t : Fin cfg0.N) : (dats m 0 c).flushed 10 t = ((cfg0.win 10).blk t).view.read (Elt Ideal) (G m c) := by
  rw [Value.flushed10]
  exact cut_read t _ (G m c) (block_at m c t)

theorem covered (i : S2x16384x1024.Idx) : ∃ t : Fin cfg0.N, (cfg0.win 10).flush t = true ∧ i ∈ ((cfg0.win 10).blk t).view.set := by
  have b0 : (i 0).val < 2 := (i 0).isLt
  have b1 : (i 1).val < 16384 := (i 1).isLt
  have b2 : (i 2).val < 1024 := (i 2).isLt
  obtain ⟨t, f0, f1⟩ := onto ⟨(i 0).val, b0⟩ ⟨(i 1).val / 512, by omega⟩
  obtain ⟨e0, e1, e2⟩ := idx10 t
  refine ⟨t, flush0_10 t, ?_⟩
  have h := ((cfg0.win 10).blk t).view.emb_mem_set (ix3 (0 : Fin 1) (⟨(i 1).val % 512, by omega⟩ : Fin 512) (⟨(i 2).val, b2⟩ : Fin 1024))
  rw [f0] at e0; rw [f1] at e1
  have e : ((cfg0.win 10).blk t).view.emb (ix3 (0 : Fin 1) (⟨(i 1).val % 512, by omega⟩ : Fin 512) (⟨(i 2).val, b2⟩ : Fin 1024)) = i := by
    funext a; apply Fin.ext
    match a with
    | ⟨0, _⟩ => show win0_10.index t (0 : Fin 3) * 1 + 1 * 0 = (i 0).val; rw [e0]; show (i 0).val * 1 + 1 * 0 = _; omega
    | ⟨1, _⟩ => show win0_10.index t (1 : Fin 3) * 512 + 1 * ((i 1).val % 512) = (i 1).val; rw [e1]; show (i 1).val / 512 * 512 + _ = _; omega
    | ⟨2, _⟩ => show win0_10.index t (2 : Fin 3) * 1024 + 1 * (i 2).val = (i 2).val; rw [e2]; omega
  rwa [e] at h

/-- The output array after the run. -/
theorem arr_eq : (dats m 0 c).arrAt 10 cfg0.N = G m c :=
  (dats m 0 c).arrAt_eq_of_cover 10 (G m c) (fun t _ => flushed_eq m c t) covered

end Cert.Kernel2Ideal.Mem

end
-- ==== Proof.GdnRow.lean ====
/- One token of the linear mixer's input projection and one of the memory's keys and values, over the extended reals:
   no program here. -/
module

public import proofs.«01_k».proof.Proof.MemRow

@[expose] public section

noncomputable section

namespace Cert.Mem

open Idealize.ShloMosaic

theorem one_eq : Ideal.ofBits .f32 0x3F800000#32 = (1 : EReal) := by
  simp [Ideal.ofBits, Ideal.ieee]
  rw [← EReal.coe_mul]
  norm_num

/-- A row through one column of a matrix. -/
def lin (x w : Fin 1024 → EReal) : EReal := ∑ i, x i * w i

/-- The logistic function, its product with the argument, and the logarithm of one plus the exponential. -/
def sigm (x : EReal) : EReal := Ideal.div 1 (1 + Ideal.exp (-x))
def silu (x : EReal) : EReal := x * sigm x
def softplus (x : EReal) : EReal := max x 0 + Ideal.log (1 + Ideal.exp (-max x (-x)))

/-- The head of one of the 512 lanes. -/
abbrev lane (k : Fin 512) : Fin 4 := ⟨k.val / 128, by omega⟩

end Cert.Mem

end
-- ==== Proof.GdnBlock.lean ====
/- What one grid point of the input projection kernel writes, one element at a time. -/
module

public import proofs.«01_k».proof.Proof.Gen.Kernel3Ideal.Value
public import proofs.«01_k».proof.Proof.GdnRow
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Kernel3Ideal.Gdn

open Cert.Kernel3Ideal Cert.Kernel3Ideal.Gen Idealize.ShloMosaic Cert.Mem

/-- The normalized rows of the block. -/
theorem pay2_at (x : Vec Ideal S1x512x1024 .f32) (g : Vec Ideal S1x1024 .f32) (r : Fin 512) (k : Fin 1024) :
    k0_pay2 x g (ix2 r k) = rms n1024 (fun k => x (ix3 0 r k)) (fun k => g (ix2 0 k)) k := by
  unfold rms
  pointwise [k0_pay2]

theorem pay3_at (x : Vec Ideal S1x512x1024 .f32) (g : Vec Ideal S1x1024 .f32) (w : Vec Ideal S1024x1536 .bf16) (r : Fin 512)
    (k : Fin 1536) :
    k0_pay3 x g w (ix3 0 r k) = lin (fun i => k0_pay2 x g (ix2 r i)) fun i => w (ix2 i k) := by
  unfold lin
  pointwise [k0_pay3]

theorem pay5_at (x : Vec Ideal S1x512x1024 .f32) (g : Vec Ideal S1x1024 .f32) (w : Vec Ideal S1024x512 .bf16) (r k : Fin 512) :
    k0_pay5 (k0_pay4 x g w) (ix3 0 r k) = silu (lin (fun i => k0_pay2 x g (ix2 r i)) fun i => w (ix2 i k)) := by
  unfold lin silu sigm
  pointwise [k0_pay5, k0_pay4]
  rw [zero_sub]

theorem pay6_at (h : FVec Ideal S512x1024 .bf16) (w : Vec Ideal S1024x512 .bf16) (a d : Vec Ideal S1x512 .f32) (r k : Fin 512) :
    k0_pay6 h w a d (ix3 0 r k) =
      a (ix2 0 k) * softplus (lin (fun i => h (ix2 r i)) (fun i => w (ix2 i k)) + d (ix2 0 k)) := by
  unfold lin softplus
  pointwise [k0_pay6]
  rw [zero_sub]
  rfl

theorem pay1_at (h : FVec Ideal S512x1024 .bf16) (w : Vec Ideal S1024x512 .bf16) (r k : Fin 512) :
    k0_pay1 (k0_pay7 h w) (ix3 0 r k) = sigm (lin (fun i => h (ix2 r i)) fun i => w (ix2 i k)) := by
  unfold lin sigm
  pointwise [k0_pay1, k0_pay7]
  rw [zero_sub]

theorem zero2 : (![0, 0] : Fin 2 → ℕ) = fun _ => 0 := by funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

section
variable (x0 : Vec Ideal S1x512x1024 .f32) (x1 : Vec Ideal S1x1024 .f32) (x2 : Vec Ideal S1024x3072 .bf16)
  (x3 x4 : Vec Ideal S1x512 .f32)

/-- A row of the block, normalized. -/
def row (r : Fin 512) : Fin 1024 → EReal := rms n1024 (fun k => x0 (ix3 0 r k)) fun k => x1 (ix2 0 k)

/-- A group of the weights' columns, from `o` on. -/
theorem cols_at (o : ℕ) (n : ℕ) (h : ∀ a, (![0, o] : Fin 2 → ℕ) a + (⟨2, ![1024, n]⟩ : Shape).size a ≤ S1024x3072.size a)
    (i : Fin 1024) (k : Fin n) (hk : o + k.val < 3072) :
    View.ld x2 (Rect.unit (s := S1024x3072) ![0, o] (⟨2, ![1024, n]⟩ : Shape).size h) (ix2 i k) = x2 (ix2 i ⟨o + k.val, hk⟩) :=
  View.ld_unit_apply_of _ _ _ _ _ _ (fun a => by
    match a with
    | ⟨0, _⟩ => show i.val = 0 + i.val; omega
    | ⟨1, _⟩ => rfl)

theorem out5_at (r : Fin 512) (k : Fin 1536) :
    out0_5 x0 x1 x2 x3 x4 (ix3 0 r k) = lin (row x0 x1 r) fun i => x2 (ix2 i ⟨0 + k.val, by omega⟩) := by
  unfold out0_5
  refine (congrFun (View.canon_unit_zero zero3 _ _) _).trans ?_
  rw [pay3_at, View.ld_unit_zero zero3 _ x0, View.ld_unit_zero zero2 _ x1]
  refine congrArg₂ lin (funext fun i => pay2_at _ _ _ _) (funext fun i => ?_)
  exact cols_at x2 0 1536 _ i k _

theorem out6_at (r k : Fin 512) :
    out0_6 x0 x1 x2 x3 x4 (ix3 0 r k) = silu (lin (row x0 x1 r) fun i => x2 (ix2 i ⟨1536 + k.val, by omega⟩)) := by
  unfold out0_6
  refine (congrFun (View.canon_unit_zero zero3 _ _) _).trans ?_
  rw [pay5_at, View.ld_unit_zero zero3 _ x0, View.ld_unit_zero zero2 _ x1]
  refine congrArg silu (congrArg₂ lin (funext fun i => pay2_at _ _ _ _) (funext fun i => ?_))
  exact cols_at x2 1536 512 _ i k _

theorem pay8_at (r : Fin 512) : (fun i => k0_pay8 x0 x1 x2 x3 x4 (ix2 r i)) = row x0 x1 r := by
  unfold k0_pay8
  rw [View.ld_unit_zero zero3 _ x0, View.ld_unit_zero zero2 _ x1]
  exact funext fun i => pay2_at _ _ _ _

theorem out7_at (r k : Fin 512) :
    out0_7 x0 x1 x2 x3 x4 (ix3 0 r k) = x3 (ix2 0 k) *
      softplus (lin (row x0 x1 r) (fun i => x2 (ix2 i ⟨2048 + k.val, by omega⟩)) + x4 (ix2 0 k)) := by
  unfold out0_7
  refine (congrFun (View.canon_unit_zero zero3 _ _) _).trans ?_
  rw [pay6_at, View.ld_unit_zero zero2 _ x3, View.ld_unit_zero zero2 _ x4, pay8_at]
  refine congrArg (fun z => x3 (ix2 0 k) * softplus (lin (row x0 x1 r) z + x4 (ix2 0 k))) (funext fun i => ?_)
  exact cols_at x2 2048 512 _ i k _

theorem out8_at (r k : Fin 512) :
    out0_8 x0 x1 x2 x3 x4 (ix3 0 r k) = sigm (lin (row x0 x1 r) fun i => x2 (ix2 i ⟨2560 + k.val, by omega⟩)) := by
  unfold out0_8
  refine (congrFun (View.canon_unit_zero zero3 _ _) _).trans ?_
  rw [pay1_at, pay8_at]
  refine congrArg (fun z => sigm (lin (row x0 x1 r) z)) (funext fun i => ?_)
  exact cols_at x2 2560 512 _ i k _

end

end Cert.Kernel3Ideal.Gdn

end
-- ==== Proof.GdnRef.lean ====
/- What the input projection's reference computes, one element at a time. -/
module

public import proofs.«01_k».proof.Proof.Gen.Reference3Ideal.Read
public import proofs.«01_k».proof.Proof.GdnRow
public import Idealize.ShloMosaic.Lib.Pointwise

@[expose] public section

set_option maxRecDepth 16384

noncomputable section

namespace Cert.Reference3Ideal.Gdn

open Cert.Reference3Ideal Cert.Reference3Ideal.Gen Cert.Reference3Ideal.Read Idealize.ShloMosaic Cert.Mem

variable (x0 : FVec Ideal S2x16384x1024 .f32) (x1 : FVec Ideal S1024 .f32) (x2 : FVec Ideal S1024x3600 .f32)
  (x3 x4 : FVec Ideal S4 .f32)

/-- A token, normalized. -/
def row (b : Fin 2) (r : Fin 16384) : Fin 1024 → EReal := rms n1024 (fun k => x0 (ix3 b r k)) fun k => x1 (ix1 k)

theorem v12_at (b : Fin 2) (r : Fin 16384) (k : Fin 1024) :
    val_main_v12 (F := Ideal) x0 x1 (ix3 b r k) = row x0 x1 b r k := by
  have hi : idx_main_v2 (idx_main_v8 (ix3 b r k)) = ix2 b r :=
    funext fun a => Fin.ext (by match a with | ⟨0, _⟩ => rfl | ⟨1, _⟩ => rfl)
  have hk : ∀ k : Fin 1024, idx_main_v1 (ix2 b r) k = ix3 b r k := fun k =>
    funext fun a => Fin.ext (by match a with | ⟨0, _⟩ => rfl | ⟨1, _⟩ => rfl | ⟨2, _⟩ => rfl)
  have hg : idx_main_v10 (idx_main_v11 (ix3 b r k)) = ix1 k :=
    funext fun a => Fin.ext (by match a with | ⟨0, _⟩ => rfl)
  rw [val_main_v12_apply, val_main_v11_apply, val_main_v10_apply, hg, val_main_v9_apply, val_main_v8_apply,
    val_main_v7_apply, val_main_v6_apply, val_main_v5_apply, val_main_cst_1_apply, val_main_v4_apply, val_main_v3_apply,
    val_main_cst_0_apply, val_main_v2_apply, hi, val_main_v1_apply, val_main_cst_apply]
  simp only [hk, val_main_v0_apply]
  show x0 (ix3 b r k) * Ideal.rsqrt (Ideal.div (Ideal.ofBits FTy.f32 0#32 + _) _ + _) * _ = _
  rw [Ideal.ofBits_zero, zero_add]
  rfl

/-- One entry of the projection. -/
theorem v13_at (b : Fin 2) (r : Fin 16384) (k : Fin 3600) (i : S2x16384x3600.Idx) (h0 : (i 0).val = b.val)
    (h1 : (i 1).val = r.val) (h2 : (i 2).val = k.val) :
    val_main_v13 (F := Ideal) x0 x1 x2 i = lin (row x0 x1 b r) fun j => x2 (ix2 j k) := by
  rw [val_main_v13_apply, lin]
  refine Finset.sum_congr rfl fun j _ => congrArg₂ (· * ·) ?_ (congrArg x2 ?_)
  · refine Eq.trans (congrArg (val_main_v12 (F := Ideal) x0 x1) ?_) (v12_at x0 x1 b r j)
    exact funext fun a => Fin.ext (by match a with | ⟨0, _⟩ => exact h0 | ⟨1, _⟩ => exact h1 | ⟨2, _⟩ => rfl)
  · exact funext fun a => Fin.ext (by match a with | ⟨0, _⟩ => rfl | ⟨1, _⟩ => exact h2)

theorem qkv_at (b : Fin 2) (r : Fin 16384) (k : Fin 1536) :
    val_main_v31 (F := Ideal) x0 x1 x2 (ix3 b r k) = lin (row x0 x1 b r) fun j => x2 (ix2 j ⟨k.val, by omega⟩) := by
  rw [val_main_v31_apply]
  exact v13_at x0 x1 x2 b r _ _ rfl rfl rfl

theorem gate_at (b : Fin 2) (r : Fin 16384) (k : Fin 512) :
    val_main_v33 (F := Ideal) x0 x1 x2 (ix3 b r k) =
      silu (lin (row x0 x1 b r) fun j => x2 (ix2 j ⟨1536 + k.val, by omega⟩)) := by
  have h : val_main_v32 (F := Ideal) x0 x1 x2 (ix3 b r k) = lin (row x0 x1 b r) fun j => x2 (ix2 j ⟨1536 + k.val, by omega⟩) := by
    rw [val_main_v32_apply]
    exact v13_at x0 x1 x2 b r _ _ rfl rfl rfl
  rw [val_main_v33_apply, val_main_call1_v5_apply, val_main_call1_v4_apply, val_main_call1_cst_0_apply,
    val_main_call1_v3_apply, val_main_call1_v2_apply, val_main_call1_cst_apply, val_main_call1_v1_apply,
    val_main_call1_v0_apply, h]
  show _ * Ideal.div (Ideal.ofBits .f32 0x3F800000#32) (Ideal.ofBits .f32 0x3F800000#32 + Ideal.exp (-_)) = _
  rw [one_eq]
  rfl

/-- Where a lane of the result reads its head. -/
theorem lane_idx (b : Fin 2) (r : Fin 16384) (k : Fin 512) :
    idx_main_v34 (idx_main_v35 (ix3 b r k)) = ix3 b r (lane k) :=
  funext fun a => Fin.ext (by
    have := b.isLt; have := r.isLt; have := k.isLt
    match a with
    | ⟨0, _⟩ => show ((b.val * 16384 + r.val) * 512 + k.val) / 8388608 = b.val; omega
    | ⟨1, _⟩ => show ((b.val * 16384 + r.val) * 512 + k.val) / 512 % 16384 = r.val; omega
    | ⟨2, _⟩ => show ((b.val * 16384 + r.val) * 512 + k.val) / 128 % 4 = k.val / 128; omega)

theorem beta_at (b : Fin 2) (r : Fin 16384) (k : Fin 512) :
    val_main_v37 (F := Ideal) x0 x1 x2 (ix3 b r k) =
      sigm (lin (row x0 x1 b r) fun j => x2 (ix2 j ⟨2052 + (lane k).val, by omega⟩)) := by
  have h : val_main_v24 (F := Ideal) x0 x1 x2 (ix3 b r (lane k)) =
      lin (row x0 x1 b r) fun j => x2 (ix2 j ⟨2052 + (lane k).val, by omega⟩) := by
    rw [val_main_v24_apply]
    exact v13_at x0 x1 x2 b r _ _ rfl rfl rfl
  rw [val_main_v37_apply, val_main_v36_apply]
  refine (congrArg (val_main_v30 (F := Ideal) x0 x1 x2) (lane_idx b r k)).trans ?_
  rw [val_main_v30_apply, val_main_v29_apply, val_main_cst_3_apply, val_main_v28_apply, val_main_v27_apply,
    val_main_cst_2_apply, val_main_v26_apply, val_main_v25_apply, h]
  show Ideal.div (Ideal.ofBits .f32 0x3F800000#32) (Ideal.ofBits .f32 0x3F800000#32 + Ideal.exp (-_)) = _
  rw [one_eq]
  rfl

/-- The reference's softplus asks whether its argument is a number; it always is. -/
theorem v20_at (b : Fin 2) (r : Fin 16384) (k : Fin 4) :
    val_main_v20 (F := Ideal) x0 x1 x2 x4 (ix3 b r k) =
      softplus (lin (row x0 x1 b r) (fun j => x2 (ix2 j ⟨2048 + k.val, by omega⟩)) + x4 (ix1 k)) := by
  have h : val_main_v19 (F := Ideal) x0 x1 x2 x4 (ix3 b r k) =
      lin (row x0 x1 b r) (fun j => x2 (ix2 j ⟨2048 + k.val, by omega⟩)) + x4 (ix1 k) := by
    rw [val_main_v19_apply, val_main_v18_apply, val_main_v17_apply, val_main_v16_apply,
      v13_at x0 x1 x2 b r ⟨2048 + k.val, by omega⟩ _ rfl rfl rfl]
    refine congrArg (fun z => _ + x4 z) ?_
    exact funext fun a => Fin.ext (by match a with | ⟨0, _⟩ => rfl)
  generalize lin (row x0 x1 b r) (fun j => x2 (ix2 j ⟨2048 + k.val, by omega⟩)) + x4 (ix1 k) = z at h ⊢
  have h4 : val_main_call0_v4 (F := Ideal) x0 x1 x2 x4 (ix3 b r k) = 0#1 := by
    rw [val_main_call0_v4_apply]
    show BitVec.ofBool (decide (_ ≠ _)) = _
    simp
  rw [val_main_v20_apply, h4, val_main_call0_v11_apply, val_main_call0_v1_apply, val_main_call0_v0_apply,
    val_main_call0_cst_apply, val_main_call0_v10_apply, val_main_call0_v9_apply, val_main_call0_v8_apply,
    val_main_call0_v7_apply, val_main_call0_v3_apply, val_main_call0_v2_apply, val_main_call0_cst_apply, h]
  show max z (Ideal.ofBits .f32 0#32) +
    Ideal.log (1 + Ideal.exp (-max (z - Ideal.ofBits .f32 0#32) (-(z - Ideal.ofBits .f32 0#32)))) = _
  rw [Ideal.ofBits_zero, sub_zero]
  rfl

theorem la_at (b : Fin 2) (r : Fin 16384) (k : Fin 512) :
    val_main_v35 (F := Ideal) x0 x1 x2 x3 x4 (ix3 b r k) = -Ideal.exp (x3 (ix1 (lane k))) *
      softplus (lin (row x0 x1 b r) (fun j => x2 (ix2 j ⟨2048 + (lane k).val, by omega⟩)) + x4 (ix1 (lane k))) := by
  rw [val_main_v35_apply, val_main_v34_apply]
  refine (congrArg (val_main_v23 (F := Ideal) x0 x1 x2 x3 x4) (lane_idx b r k)).trans ?_
  rw [val_main_v23_apply, v20_at, val_main_v22_apply, val_main_v21_apply, val_main_v15_apply, val_main_v14_apply]
  refine congrArg (fun i => -Ideal.exp (x3 i) * _) ?_
  exact funext fun a => Fin.ext (by match a with | ⟨0, _⟩ => rfl)

end Cert.Reference3Ideal.Gdn

end
-- ==== Proof.GdnArr.lean ====
/- The output arrays of the input projection kernel: the reference's values of the launched arguments. -/
module

public import proofs.«01_k».proof.Proof.GdnBlock
public import proofs.«01_k».proof.Proof.GdnRef

@[expose] public section

set_option maxRecDepth 16384

noncomputable section

namespace Cert.Kernel3Ideal.Gdn

open Cert.Kernel3Ideal Cert.Kernel3Ideal.Gen Idealize.ShloMosaic Idealize.ShloMosaic.TcCoe Idealize.SL.Sem Cert.Mem

variable (m : (ℓ : Loc nD τ sig) → Buf (Elt Ideal) ℓ) (c : Dev nD)

/-- The launched arguments. -/
abbrev a0 : FVec Ideal S2x16384x1024 .f32 := m ((c : Thread nD τ).loc main_arg0)
abbrev a1 : FVec Ideal S1024 .f32 := m ((c : Thread nD τ).loc main_arg1)
abbrev a2 : FVec Ideal S1024x3600 .f32 := m ((c : Thread nD τ).loc main_arg2)
abbrev a3 : FVec Ideal S4 .f32 := m ((c : Thread nD τ).loc main_arg3)
abbrev a4 : FVec Ideal S4 .f32 := m ((c : Thread nD τ).loc main_arg4)

/-! The arrays the host prepares: the weights' columns with those of the heads' numbers repeated, and the gains as rows. -/

/-- A number for each head, repeated over the head's lanes. -/
def lanes (x : FVec Ideal S4 .f32) : FVec Ideal S1x512 .f32 :=
  broadcastInDim S1x512 ![1] bcast_S512_S1x512_1
    (shapeCast S512 (broadcastInDim S4x128 ![0] bcast_S4_S4x128_0 x : FVec Ideal S4x128 .f32) shapeCasts_S4x128_S512 : FVec Ideal S512 .f32)

/-- A column for each head, repeated over the head's lanes. -/
def wlanes (x : FVec Ideal S1024x4 .f32) : FVec Ideal S1024x512 .f32 :=
  shapeCast S1024x512 (broadcastInDim S1024x4x128 ![0, 1] bcast_S1024x4_S1024x4x128_0_1 x : FVec Ideal S1024x4x128 .f32)
    shapeCasts_S1024x4x128_S1024x512

/-- The columns the kernel reads. -/
def wide (w : FVec Ideal S1024x2048 .f32) (a b : FVec Ideal S1024x512 .f32) : FVec Ideal S1024x3072 .f32 :=
  concatenate S1024x3072 1 [⟨S1024x2048, w⟩, ⟨S1024x512, a⟩, ⟨S1024x512, b⟩]
    concatenates_S1024x2048_S1024x512_S1024x512_S1024x3072_d1

theorem V8 : (V m c main_v8 : FVec Ideal S1024x3072 .bf16) = truncf .bf16
    (wide (extractStridedSlice S1024x2048 ![0, 0] (a2 m c) slices_S1024x3600_S1024x2048_0_0)
      (wlanes (extractStridedSlice S1024x4 ![0, 2048] (a2 m c) slices_S1024x3600_S1024x4_0_2048))
      (wlanes (extractStridedSlice S1024x4 ![0, 2052] (a2 m c) slices_S1024x3600_S1024x4_0_2052))) bitsLt_bf16_f32 := by
  rfl
theorem V13 : (V m c main_v13 : FVec Ideal S1x512 .f32) = lanes (Host.negf (Host.exp (a3 m c))) := by
  rfl
theorem V16 : (V m c main_v16 : FVec Ideal S1x512 .f32) = lanes (a4 m c) := by
  rfl
theorem V17 : (V m c main_v17 : FVec Ideal S1x1024 .f32) = broadcastInDim S1x1024 ![1] bcast_S1024_S1x1024_1 (a1 m c) := by
  rfl

theorem row1024 (x : FVec Ideal S1024 .f32) (k : Fin 1024) :
    broadcastInDim S1x1024 ![1] bcast_S1024_S1x1024_1 x (ix2 0 k) = x (ix1 k) := by pointwise
theorem lanes_at (x : FVec Ideal S4 .f32) (k : Fin 512) : lanes x (ix2 0 k) = x (ix1 (lane k)) := by
  pointwise [lanes]
theorem wlanes_at (x : FVec Ideal S1024x4 .f32) (i : Fin 1024) (k : Fin 512) : wlanes x (ix2 i k) = x (ix2 i (lane k)) := by
  pointwise [wlanes]
theorem wide0 (w : FVec Ideal S1024x2048 .f32) (a b : FVec Ideal S1024x512 .f32) (i : Fin 1024) (k : Fin 2048) :
    wide w a b (ix2 i ⟨k.val, by omega⟩) = w (ix2 i k) := by
  pointwise [wide]
theorem wide1 (w : FVec Ideal S1024x2048 .f32) (a b : FVec Ideal S1024x512 .f32) (i : Fin 1024) (k : Fin 512) :
    wide w a b (ix2 i ⟨2048 + k.val, by omega⟩) = a (ix2 i k) := by
  pointwise [wide]
theorem wide2 (w : FVec Ideal S1024x2048 .f32) (a b : FVec Ideal S1024x512 .f32) (i : Fin 1024) (k : Fin 512) :
    wide w a b (ix2 i ⟨2560 + k.val, by omega⟩) = b (ix2 i k) := by
  pointwise [wide]
  rw [dif_neg (by omega), dif_neg (by omega)]
  refine congrArg b (funext fun a => Fin.ext ?_)
  match a with
  | ⟨0, _⟩ => rfl
  | ⟨1, _⟩ => show 2560 + k.val - 2048 - 512 = k.val; omega

/-- Part of the weights' columns, from `o` on. -/
theorem part_at (o n : ℕ) (w : FVec Ideal S1024x3600 .f32) (h : S1024x3600.Slices ![0, o] (⟨2, ![1024, n]⟩ : Shape)) (i : Fin 1024)
    (k : Fin n) (hk : o + k.val < 3600) :
    extractStridedSlice (⟨2, ![1024, n]⟩ : Shape) ![0, o] w h (ix2 i k) = w (ix2 i ⟨o + k.val, hk⟩) :=
  extractStridedSlice_apply ![0, o] w h _ _ (fun a => by
    match a with
    | ⟨0, _⟩ => show i.val = 0 + i.val; omega
    | ⟨1, _⟩ => rfl)

/-- The grid point's coordinates: batch entry, block of rows. -/
def gb (t : Fin cfg0.N) : Fin 2 := grid0.coords t 0
def gn (t : Fin cfg0.N) : Fin 32 := grid0.coords t 1
abbrev gpos (t : Fin cfg0.N) (r : Fin 512) : Fin 16384 := ⟨(gn t).val * 512 + r.val, by have := (gn t).isLt; omega⟩

theorem onto : ∀ (b : Fin 2) (n : Fin 32), ∃ t : Fin cfg0.N, gb t = b ∧ gn t = n :=
  (by decide +kernel : ∀ (b : Fin 2) (n : Fin 32), ∃ t : Fin grid0.N, _)
theorem idx0 : ∀ t : Fin cfg0.N, win0_0.index t (0 : Fin 3) = (gb t).val ∧ win0_0.index t (1 : Fin 3) = (gn t).val ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = (gb t).val ∧ win0_5.index t (1 : Fin 3) = (gn t).val ∧ win0_5.index t (2 : Fin 3) = 0 :=
  (by decide +kernel : ∀ t : Fin grid0.N, _)
theorem idx6 : ∀ t : Fin cfg0.N, win0_6.index t (0 : Fin 3) = (gb t).val ∧ win0_6.index t (1 : Fin 3) = (gn t).val ∧ win0_6.index t (2 : Fin 3) = 0 :=
  (by decide +kernel : ∀ t : Fin grid0.N, _)

theorem iblk0 (t : Fin cfg0.N) (r : Fin 512) (k : Fin 1024) :
    iblk m c 0 t (ix3 0 r k) = a0 m c (ix3 (gb t) (gpos t r) k) := by
  obtain ⟨e0, e1, e2⟩ := idx0 t
  show (V m c main_arg0 : FVec Ideal S2x16384x1024 .f32) (((cfg0.win 0).blk t).view.emb (ix3 0 r k)) = _
  rw [V_main_arg0]
  refine congrArg (a0 m c) (funext fun a => Fin.ext ?_)
  match a with
  | ⟨0, _⟩ => show win0_0.index t (0 : Fin 3) * 1 + 1 * 0 = (gb t).val; omega
  | ⟨1, _⟩ => show win0_0.index t (1 : Fin 3) * 512 + 1 * r.val = (gn t).val * 512 + r.val; omega
  | ⟨2, _⟩ => show win0_0.index t (2 : Fin 3) * 1024 + 1 * k.val = k.val; omega

theorem iblk1 (t : Fin cfg0.N) (k : Fin 1024) : iblk m c 1 t (ix2 0 k) = a1 m c (ix1 k) := by
  obtain ⟨e0, e1⟩ := idx1 t
  show (V m c main_v17 : FVec Ideal S1x1024 .f32) (((cfg0.win 1).blk t).view.emb (ix2 0 k)) = _
  rw [V17, ← row1024 (a1 m c)]
  refine congrArg (broadcastInDim S1x1024 ![1] bcast_S1024_S1x1024_1 (a1 m c)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The columns the kernel reads, from the launched weights. -/
def cols : FVec Ideal S1024x3072 .f32 :=
  wide (extractStridedSlice S1024x2048 ![0, 0] (a2 m c) slices_S1024x3600_S1024x2048_0_0)
    (wlanes (extractStridedSlice S1024x4 ![0, 2048] (a2 m c) slices_S1024x3600_S1024x4_0_2048))
    (wlanes (extractStridedSlice S1024x4 ![0, 2052] (a2 m c) slices_S1024x3600_S1024x4_0_2052))

theorem iblk2 (t : Fin cfg0.N) (i : Fin 1024) (k : Fin 3072) : iblk m c 2 t (ix2 i k) = cols m c (ix2 i k) := by
  obtain ⟨e0, e1⟩ := idx2 t
  show (V m c main_v8 : FVec Ideal S1024x3072 .bf16) (((cfg0.win 2).blk t).view.emb (ix2 i k)) = _
  rw [V8]
  refine congrArg (cols m c) (funext fun a => Fin.ext ?_)
  match a with
  | ⟨0, _⟩ => show win0_2.index t (0 : Fin 2) * 1024 + 1 * i.val = i.val; omega
  | ⟨1, _⟩ => show win0_2.index t (1 : Fin 2) * 3072 + 1 * k.val = k.val; omega

theorem iblk3 (t : Fin cfg0.N) (k : Fin 512) : iblk m c 3 t (ix2 0 k) = -Ideal.exp (a3 m c (ix1 (lane k))) := by
  obtain ⟨e0, e1⟩ := idx3 t
  show (V m c main_v13 : FVec Ideal S1x512 .f32) (((cfg0.win 3).blk t).view.emb (ix2 0 k)) = _
  rw [V13]
  refine Eq.trans (congrArg (lanes (Host.negf (Host.exp (a3 m c)))) (funext fun a => Fin.ext ?_)) (lanes_at _ k)
  match a with
  | ⟨0, _⟩ => show win0_3.index t (0 : Fin 2) * 1 + 1 * 0 = 0; omega
  | ⟨1, _⟩ => show win0_3.index t (1 : Fin 2) * 512 + 1 * k.val = k.val; omega

theorem iblk4 (t : Fin cfg0.N) (k : Fin 512) : iblk m c 4 t (ix2 0 k) = a4 m c (ix1 (lane k)) := by
  obtain ⟨e0, e1⟩ := idx4 t
  show (V m c main_v16 : FVec Ideal S1x512 .f32) (((cfg0.win 4).blk t).view.emb (ix2 0 k)) = _
  rw [V16]
  refine Eq.trans (congrArg (lanes (a4 m c)) (funext fun a => Fin.ext ?_)) (lanes_at _ k)
  match a with
  | ⟨0, _⟩ => show win0_4.index t (0 : Fin 2) * 1 + 1 * 0 = 0; omega
  | ⟨1, _⟩ => show win0_4.index t (1 : Fin 2) * 512 + 1 * k.val = k.val; omega

/-! The groups of columns. -/

theorem cols_lo (i : Fin 1024) (k : Fin 2048) : cols m c (ix2 i ⟨k.val, by omega⟩) = a2 m c (ix2 i ⟨k.val, by omega⟩) := by
  refine (wide0 _ _ _ i k).trans ((part_at 0 2048 (a2 m c) _ i k (by omega)).trans (congrArg (a2 m c) (funext fun a => Fin.ext ?_)))
  match a with
  | ⟨0, _⟩ => rfl
  | ⟨1, _⟩ => show 0 + k.val = k.val; omega
theorem cols_a (i : Fin 1024) (k : Fin 512) :
    cols m c (ix2 i ⟨2048 + k.val, by omega⟩) = a2 m c (ix2 i ⟨2048 + (lane k).val, by omega⟩) :=
  (wide1 _ _ _ i k).trans ((wlanes_at _ i k).trans (part_at 2048 4 (a2 m c) _ i (lane k) (by omega)))
theorem cols_b (i : Fin 1024) (k : Fin 512) :
    cols m c (ix2 i ⟨2560 + k.val, by omega⟩) = a2 m c (ix2 i ⟨2052 + (lane k).val, by omega⟩) :=
  (wide2 _ _ _ i k).trans ((wlanes_at _ i k).trans (part_at 2052 4 (a2 m c) _ i (lane k) (by omega)))

theorem row_eq (t : Fin cfg0.N) (r : Fin 512) :
    row (iblk m c 0 t) (iblk m c 1 t) r = Reference3Ideal.Gdn.row (a0 m c) (a1 m c) (gb t) (gpos t r) := by
  unfold row Reference3Ideal.Gdn.row
  simp only [iblk0, iblk1]

/-! The arrays the kernel is to leave. -/

def G5 : FVec Ideal Reference3Ideal.S2x16384x1536 .f32 := Reference3Ideal.Read.val_main_v31 (F := Ideal) (a0 m c) (a1 m c) (a2 m c)
def G6 : FVec Ideal Reference3Ideal.S2x16384x512 .f32 := Reference3Ideal.Read.val_main_v33 (F := Ideal) (a0 m c) (a1 m c) (a2 m c)
def G7 : FVec Ideal Reference3Ideal.S2x16384x512 .f32 :=
  Reference3Ideal.Read.val_main_v35 (F := Ideal) (a0 m c) (a1 m c) (a2 m c) (a3 m c) (a4 m c)
def G8 : FVec Ideal Reference3Ideal.S2x16384x512 .f32 := Reference3Ideal.Read.val_main_v37 (F := Ideal) (a0 m c) (a1 m c) (a2 m c)

section
variable (t : Fin cfg0.N) (r k : Fin 512)

theorem block5 (k : Fin 1536) : out0_5 (iblk m c 0 t) (iblk m c 1 t) (iblk m c 2 t) (iblk m c 3 t) (iblk m c 4 t) (ix3 0 r k) =
    G5 m c (ix3 (gb t) (gpos t r) k) := by
  rw [out5_at, G5, Reference3Ideal.Gdn.qkv_at, row_eq]
  refine congrArg (lin _) (funext fun i => (iblk2 m c t i _).trans (Eq.trans ?_ (cols_lo m c i ⟨k.val, by omega⟩)))
  refine congrArg (cols m c) (funext fun a => Fin.ext ?_)
  match a with
  | ⟨0, _⟩ => rfl
  | ⟨1, _⟩ => show 0 + k.val = k.val; omega

theorem block6 : out0_6 (iblk m c 0 t) (iblk m c 1 t) (iblk m c 2 t) (iblk m c 3 t) (iblk m c 4 t) (ix3 0 r k) =
    G6 m c (ix3 (gb t) (gpos t r) k) := by
  rw [out6_at, G6, Reference3Ideal.Gdn.gate_at, row_eq]
  have h : (fun i => (iblk m c 2 t : Vec Ideal S1024x3072 .bf16) (ix2 i ⟨1536 + k.val, by omega⟩)) = fun i => a2 m c (ix2 i ⟨1536 + k.val, by omega⟩) :=
    funext fun i => (iblk2 m c t i _).trans (cols_lo m c i ⟨1536 + k.val, by omega⟩)
  exact congrArg silu (congrArg (lin _) h)

theorem block7 : out0_7 (iblk m c 0 t) (iblk m c 1 t) (iblk m c 2 t) (iblk m c 3 t) (iblk m c 4 t) (ix3 0 r k) =
    G7 m c (ix3 (gb t) (gpos t r) k) := by
  rw [out7_at, G7, Reference3Ideal.Gdn.la_at, row_eq, iblk3, iblk4]
  simp only [iblk2, cols_a]

theorem block8 : out0_8 (iblk m c 0 t) (iblk m c 1 t) (iblk m c 2 t) (iblk m c 3 t) (iblk m c 4 t) (ix3 0 r k) =
    G8 m c (ix3 (gb t) (gpos t r) k) := by
  rw [out8_at, G8, Reference3Ideal.Gdn.beta_at, row_eq]
  simp only [iblk2, cols_b]

end

theorem cut_read5 (t : Fin cfg0.N) (X : Vec Ideal S1x512x1536 .f32) (Y : FVec Ideal S2x16384x1536 .f32)
    (h : ∀ (r : Fin 512) (k : Fin 1536), X (ix3 0 r k) = Y (ix3 (gb t) (gpos t r) k)) :
    (cfg0.win 5).cut (grid0.coords t) X = ((cfg0.win 5).blk t).view.read (Elt Ideal) Y := by
  obtain ⟨e0, e1, e2⟩ := idx5 t
  funext j
  obtain ⟨j0, r, k, rfl⟩ : ∃ (j0 : Fin 1) (r : Fin 512) (k : Fin 1536), j = ix3 j0 r k := ⟨j 0, j 1, j 2, eq_ix3 j⟩
  obtain rfl : j0 = 0 := Subsingleton.elim _ _
  show X (ix3 0 r k) = Y (((cfg0.win 5).blk t).view.emb (ix3 0 r k))
  rw [h]
  refine congrArg Y (funext fun a => Fin.ext ?_)
  match a with
  | ⟨0, _⟩ => show (gb t).val = win0_5.index t (0 : Fin 3) * 1 + 1 * 0; omega
  | ⟨1, _⟩ => show (gn t).val * 512 + r.val = win0_5.index t (1 : Fin 3) * 512 + 1 * r.val; omega
  | ⟨2, _⟩ => show k.val = win0_5.index t (2 : Fin 3) * 1536 + 1 * k.val; omega

theorem covered5 (i : S2x16384x1536.Idx) : ∃ t : Fin cfg0.N, (cfg0.win 5).flush t = true ∧ i ∈ ((cfg0.win 5).blk t).view.set := by
  have b0 : (i 0).val < 2 := (i 0).isLt
  have b1 : (i 1).val < 16384 := (i 1).isLt
  have b2 : (i 2).val < 1536 := (i 2).isLt
  obtain ⟨t, f0, f1⟩ := onto ⟨(i 0).val, b0⟩ ⟨(i 1).val / 512, by omega⟩
  obtain ⟨e0, e1, e2⟩ := idx5 t
  refine ⟨t, flush0_5 t, ?_⟩
  have h := ((cfg0.win 5).blk t).view.emb_mem_set (ix3 (0 : Fin 1) (⟨(i 1).val % 512, by omega⟩ : Fin 512) (⟨(i 2).val, b2⟩ : Fin 1536))
  rw [f0] at e0; rw [f1] at e1
  have e : ((cfg0.win 5).blk t).view.emb (ix3 (0 : Fin 1) (⟨(i 1).val % 512, by omega⟩ : Fin 512) (⟨(i 2).val, b2⟩ : Fin 1536)) = i := by
    funext a; apply Fin.ext
    match a with
    | ⟨0, _⟩ => show win0_5.index t (0 : Fin 3) * 1 + 1 * 0 = (i 0).val; rw [e0]; show (i 0).val * 1 + 1 * 0 = _; omega
    | ⟨1, _⟩ => show win0_5.index t (1 : Fin 3) * 512 + 1 * ((i 1).val % 512) = (i 1).val; rw [e1]; show (i 1).val / 512 * 512 + _ = _; omega
    | ⟨2, _⟩ => show win0_5.index t (2 : Fin 3) * 1536 + 1 * (i 2).val = (i 2).val; rw [e2]; omega
  rwa [e] at h

theorem cut_read6 (t : Fin cfg0.N) (X : Vec Ideal S1x512x512 .f32) (Y : FVec Ideal S2x16384x512 .f32)
    (h : ∀ (r : Fin 512) (k : Fin 512), X (ix3 0 r k) = Y (ix3 (gb t) (gpos t r) k)) :
    (cfg0.win 6).cut (grid0.coords t) X = ((cfg0.win 6).blk t).view.read (Elt Ideal) Y := by
  obtain ⟨e0, e1, e2⟩ := idx6 t
  funext j
  obtain ⟨j0, r, k, rfl⟩ : ∃ (j0 : Fin 1) (r : Fin 512) (k : Fin 512), j = ix3 j0 r k := ⟨j 0, j 1, j 2, eq_ix3 j⟩
  obtain rfl : j0 = 0 := Subsingleton.elim _ _
  show X (ix3 0 r k) = Y (((cfg0.win 6).blk t).view.emb (ix3 0 r k))
  rw [h]
  refine congrArg Y (funext fun a => Fin.ext ?_)
  match a with
  | ⟨0, _⟩ => show (gb t).val = win0_6.index t (0 : Fin 3) * 1 + 1 * 0; omega
  | ⟨1, _⟩ => show (gn t).val * 512 + r.val = win0_6.index t (1 : Fin 3) * 512 + 1 * r.val; omega
  | ⟨2, _⟩ => show k.val = win0_6.index t (2 : Fin 3) * 512 + 1 * k.val; omega

theorem covered6 (i : S2x16384x512.Idx) : ∃ t : Fin cfg0.N, (cfg0.win 6).flush t = true ∧ i ∈ ((cfg0.win 6).blk t).view.set := by
  have b0 : (i 0).val < 2 := (i 0).isLt
  have b1 : (i 1).val < 16384 := (i 1).isLt
  have b2 : (i 2).val < 512 := (i 2).isLt
  obtain ⟨t, f0, f1⟩ := onto ⟨(i 0).val, b0⟩ ⟨(i 1).val / 512, by omega⟩
  obtain ⟨e0, e1, e2⟩ := idx6 t
  refine ⟨t, flush0_6 t, ?_⟩
  have h := ((cfg0.win 6).blk t).view.emb_mem_set (ix3 (0 : Fin 1) (⟨(i 1).val % 512, by omega⟩ : Fin 512) (⟨(i 2).val, b2⟩ : Fin 512))
  rw [f0] at e0; rw [f1] at e1
  have e : ((cfg0.win 6).blk t).view.emb (ix3 (0 : Fin 1) (⟨(i 1).val % 512, by omega⟩ : Fin 512) (⟨(i 2).val, b2⟩ : Fin 512)) = i := by
    funext a; apply Fin.ext
    match a with
    | ⟨0, _⟩ => show win0_6.index t (0 : Fin 3) * 1 + 1 * 0 = (i 0).val; rw [e0]; show (i 0).val * 1 + 1 * 0 = _; omega
    | ⟨1, _⟩ => show win0_6.index t (1 : Fin 3) * 512 + 1 * ((i 1).val % 512) = (i 1).val; rw [e1]; show (i 1).val / 512 * 512 + _ = _; omega
    | ⟨2, _⟩ => show win0_6.index t (2 : Fin 3) * 512 + 1 * (i 2).val = (i 2).val; rw [e2]; omega
  rwa [e] at h

/-! The other two windows have the same blocks. -/

theorem covered7 (i : S2x16384x512.Idx) : ∃ t : Fin cfg0.N, (cfg0.win 7).flush t = true ∧ i ∈ ((cfg0.win 7).blk t).view.set :=
  (covered6 i).imp fun t h => ⟨flush0_7 t, h.2⟩
theorem covered8 (i : S2x16384x512.Idx) : ∃ t : Fin cfg0.N, (cfg0.win 8).flush t = true ∧ i ∈ ((cfg0.win 8).blk t).view.set :=
  (covered6 i).imp fun t h => ⟨flush0_8 t, h.2⟩

/-! The output arrays after the run. -/

theorem arr5_eq : (dats m 0 c).arrAt 5 cfg0.N = G5 m c :=
  (dats m 0 c).arrAt_eq_of_cover 5 (G5 m c)
    (fun t _ => (Value.flushed5 m c t).trans (cut_read5 t _ (G5 m c) (block5 m c t))) covered5
theorem arr6_eq : (dats m 0 c).arrAt 6 cfg0.N = G6 m c :=
  (dats m 0 c).arrAt_eq_of_cover 6 (G6 m c)
    (fun t _ => (Value.flushed6 m c t).trans (cut_read6 t _ (G6 m c) (block6 m c t))) covered6
theorem arr7_eq : (dats m 0 c).arrAt 7 cfg0.N = G7 m c :=
  (dats m 0 c).arrAt_eq_of_cover 7 (G7 m c)
    (fun t _ => (Value.flushed7 m c t).trans (cut_read6 t _ (G7 m c) (block7 m c t))) covered7
theorem arr8_eq : (dats m 0 c).arrAt 8 cfg0.N = G8 m c :=
  (dats m 0 c).arrAt_eq_of_cover 8 (G8 m c)
    (fun t _ => (Value.flushed8 m c t).trans (cut_read6 t _ (G8 m c) (block8 m c t))) covered8

end Cert.Kernel3Ideal.Gdn

end
-- ==== Proof.KvBlock.lean ====
/- What one grid point of the memory projection kernel writes, one element at a time. -/
module

public import proofs.«01_k».proof.Proof.Gen.Kernel4Ideal.Value
public import proofs.«01_k».proof.Proof.GdnRow
public import Idealize.ShloMosaic.Lib.Pointwise
public import Idealize.ShloMosaic.Lib.Pipeline.ValueKit.Tiles
public import Idealize.ShloMosaic.Lib.Pipeline.Value

@[expose] public section

set_option maxRecDepth 16384

noncomputable section

namespace Cert.Kernel4Ideal.Kv

open Cert.Kernel4Ideal Cert.Kernel4Ideal.Gen Idealize.ShloMosaic Cert.Mem

/-- A memory token, normalized. -/
def row (x : Vec Ideal S1x256x1024 .f32) (g : Vec Ideal S1x1024 .f32) (r : Fin 256) : Fin 1024 → EReal :=
  rms n1024 (fun k => x (ix3 0 r k)) fun k => g (ix2 0 k)

theorem pay2_at (x : Vec Ideal S1x256x1024 .f32) (g : Vec Ideal S1x1024 .f32) (w : Vec Ideal S1024x2048 .bf16)
    (r : Fin 256) (k : Fin 2048) : k0_pay2 x g w (ix2 r k) = lin (row x g r) fun i => w (ix2 i k) := by
  unfold lin row rms
  pointwise [k0_pay2]

/-- One head's keys: its columns, normalized. -/
def keys (q : FVec Ideal S256x256 .f32) (g : Vec Ideal S1x256 .f32) : FVec Ideal S1x1x256x256 .bf16 :=
  k0_pay10 q (k0_pay8 g) (shapeCast S256x1 (multiReduction .add [1] S256 (mulf q q) 0x00000000#32 reduces_S256x256_S256
    (.inl rfl) rfl : FVec Ideal S256 .f32) shapeCasts_S256_S256x1) (Scalar.ofBits .f32 0x43800000#32)

theorem keys_at (q : FVec Ideal S256x256 .f32) (g : Vec Ideal S1x256 .f32) (r d : Fin 256) :
    keys q g (ix4 0 0 r d) = rms n256 (fun e => q (ix2 r e)) (fun e => g (ix2 0 e)) d := by
  unfold rms
  pointwise [keys, k0_pay10, k0_pay8]

/-- The keys of the block: every head's columns of the product, normalized. -/
def bank (v : FVec Ideal S256x2048 .f32) (g : Vec Ideal S1x256 .f32) : Vec Ideal S1x4x256x256 .bf16 := fun y =>
  rms n256 (fun e : Fin 256 => v (ix2 (n0 := 256) (n1 := 2048) ⟨(y 2).val, (y 2).isLt⟩ ⟨(y 1).val * 256 + e.val, by
    have : (y 1).val < 4 := (y 1).isLt
    omega⟩)) (fun e => g (ix2 0 e)) ⟨(y 3).val, (y 3).isLt⟩

/-- The part of the buffer that a head's store writes. -/
theorem idx_at (h : Fin 4) (inb : ∀ a, (![0, h.val, 0, 0] : Fin 4 → ℕ) a + S1x1x256x256.size a ≤ S1x4x256x256.size a)
    (r d : Fin 256) :
    (Rect.unit (s := S1x4x256x256) ![0, h.val, 0, 0] S1x1x256x256.size inb).idx (ix4 0 0 r d) = ix4 0 h r d :=
  funext fun a => Fin.ext (by
    match a with
    | ⟨0, _⟩ => rfl
    | ⟨1, _⟩ => show h.val + 1 * 0 = h.val; omega
    | ⟨2, _⟩ => show 0 + 1 * r.val = r.val; omega
    | ⟨3, _⟩ => show 0 + 1 * d.val = d.val; omega)

/-- Each head's store is its part of the bank. -/
theorem piece_eq (v : FVec Ideal S256x2048 .f32) (g : Vec Ideal S1x256 .f32) (h : Fin 4)
    (hs : S256x2048.Slices ![0, h.val * 256] S256x256)
    (inb : ∀ a, (![0, h.val, 0, 0] : Fin 4 → ℕ) a + S1x1x256x256.size a ≤ S1x4x256x256.size a) (x : S1x1x256x256.Idx) :
    keys (extractStridedSlice S256x256 ![0, h.val * 256] v hs) g x =
      bank v g ((Rect.unit (s := S1x4x256x256) ![0, h.val, 0, 0] S1x1x256x256.size inb).idx x) := by
  obtain ⟨j0, j1, r, d, rfl⟩ : ∃ (j0 j1 : Fin 1) (r d : Fin 256), x = ix4 j0 j1 r d := ⟨x 0, x 1, x 2, x 3, eq_ix4 x⟩
  obtain rfl : j0 = 0 := Subsingleton.elim _ _
  obtain rfl : j1 = 0 := Subsingleton.elim _ _
  rw [keys_at, idx_at]
  refine congrArg (fun q => rms n256 q (fun e => g (ix2 0 e)) d) (funext fun e => ?_)
  exact extractStridedSlice_apply ![0, h.val * 256] v hs (ix2 r e) (ix2 r ⟨h.val * 256 + e.val, by omega⟩) (fun a => by
    match a with
    | ⟨0, _⟩ => show r.val = 0 + r.val; omega
    | ⟨1, _⟩ => rfl)

theorem zero2 : (![0, 0] : Fin 2 → ℕ) = fun _ => 0 := by funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

variable (x0 : Vec Ideal S1x256x1024 .f32) (x1 : Vec Ideal S1x1024 .f32) (x2 : Vec Ideal S1024x2048 .bf16) (x3 : Vec Ideal S1x256 .f32)

theorem prod_eq : k0_pay14 x0 x1 x2 x3 = k0_pay2 x0 x1 x2 := by
  unfold k0_pay14
  rw [View.ld_unit_zero zero3 _ x0, View.ld_unit_zero zero2 _ x1, View.ld_unit_zero zero2 _ x2]

theorem out4_eq (y : S1x4x256x256.Idx) : out0_4 x0 x1 x2 x3 y = bank (k0_pay14 x0 x1 x2 x3) (View.ld x3 r0_3) y := by
  refine View.canon_apply_of_pieces (bank (k0_pay14 x0 x1 x2 x3) (View.ld x3 r0_3)) _ ?_ y (cover0_4 _ _ _ _ y)
  intro pc hpc
  rcases List.mem_cons.mp hpc with rfl | hpc
  · exact piece_eq (k0_pay14 x0 x1 x2 x3) (View.ld x3 r0_3) 3 slices_S256x2048_o0_768_S256x256 inb_S1x4x256x256_S1x1x256x256_0_3_0_0
  rcases List.mem_cons.mp hpc with rfl | hpc
  · exact piece_eq (k0_pay14 x0 x1 x2 x3) (View.ld x3 r0_3) 2 slices_S256x2048_o0_512_S256x256 inb_S1x4x256x256_S1x1x256x256_0_2_0_0
  rcases List.mem_cons.mp hpc with rfl | hpc
  · exact piece_eq (k0_pay14 x0 x1 x2 x3) (View.ld x3 r0_3) 1 slices_S256x2048_o0_256_S256x256 inb_S1x4x256x256_S1x1x256x256_0_1_0_0
  rcases List.mem_cons.mp hpc with rfl | hpc
  · exact piece_eq (k0_pay14 x0 x1 x2 x3) (View.ld x3 r0_3) 0 slices_S256x2048_o0_0_S256x256 inb_S1x4x256x256_S1x1x256x256_0_0_0_0
  nomatch hpc

/-- The keys. -/
theorem out4_at (h : Fin 4) (r d : Fin 256) :
    out0_4 x0 x1 x2 x3 (ix4 0 h r d) =
      rms n256 (fun e => lin (row x0 x1 r) fun i => x2 (ix2 i ⟨h.val * 256 + e.val, by omega⟩)) (fun e => x3 (ix2 0 e)) d := by
  rw [out4_eq, prod_eq, View.ld_unit_zero zero2 _ x3]
  exact congrArg (fun q => rms n256 q (fun e => x3 (ix2 0 e)) d) (funext fun e => pay2_at x0 x1 x2 r _)

/-- The values. -/
theorem out5_at (h : Fin 4) (r d : Fin 256) :
    out0_5 x0 x1 x2 x3 (ix4 0 h r d) = lin (row x0 x1 r) fun i => x2 (ix2 i ⟨h.val * 256 + d.val + 1024, by omega⟩) := by
  refine (Value.canon5_eq (View.ld x0 r0_0) (View.ld x1 r0_1) (View.ld x2 r0_2) (ix4 0 h r d)).trans ?_
  show k0_pay2 (View.ld x0 r0_0) (View.ld x1 r0_1) (View.ld x2 r0_2) _ = _
  rw [View.ld_unit_zero zero3 _ x0, View.ld_unit_zero zero2 _ x1, View.ld_unit_zero zero2 _ x2]
  refine Eq.trans (congrArg (k0_pay2 x0 x1 x2) ?_) (pay2_at x0 x1 x2 r ⟨h.val * 256 + d.val + 1024, by omega⟩)
  exact funext fun a => Fin.ext (by match a with | ⟨0, _⟩ => rfl | ⟨1, _⟩ => rfl)

end Cert.Kernel4Ideal.Kv

end
-- ==== Proof.KvRef.lean ====
/- What the memory projection's reference computes, one element at a time. -/
module

public import proofs.«01_k».proof.Proof.Gen.Reference4Ideal.Read
public import proofs.«01_k».proof.Proof.GdnRow
public import Idealize.ShloMosaic.Lib.Pointwise

@[expose] public section

set_option maxRecDepth 16384

noncomputable section

namespace Cert.Reference4Ideal.Kv

open Cert.Reference4Ideal Cert.Reference4Ideal.Gen Cert.Reference4Ideal.Read Idealize.ShloMosaic Cert.Mem

variable (x0 : FVec Ideal S2x256x1024 .f32) (x1 : FVec Ideal S1024 .f32) (x2 : FVec Ideal S1024x2048 .f32) (x3 : FVec Ideal S256 .f32)

/-- A memory token, normalized. -/
def row (b : Fin 2) (r : Fin 256) : Fin 1024 → EReal := rms n1024 (fun k => x0 (ix3 b r k)) fun k => x1 (ix1 k)

theorem v12_at (b : Fin 2) (r : Fin 256) (k : Fin 1024) : val_main_v12 (F := Ideal) x0 x1 (ix3 b r k) = row x0 x1 b r k := by
  have hi : idx_main_v2 (idx_main_v8 (ix3 b r k)) = ix2 b r :=
    funext fun a => Fin.ext (by match a with | ⟨0, _⟩ => rfl | ⟨1, _⟩ => rfl)
  have hk : ∀ k : Fin 1024, idx_main_v1 (ix2 b r) k = ix3 b r k := fun k =>
    funext fun a => Fin.ext (by match a with | ⟨0, _⟩ => rfl | ⟨1, _⟩ => rfl | ⟨2, _⟩ => rfl)
  have hg : idx_main_v10 (idx_main_v11 (ix3 b r k)) = ix1 k :=
    funext fun a => Fin.ext (by match a with | ⟨0, _⟩ => rfl)
  rw [val_main_v12_apply, val_main_v11_apply, val_main_v10_apply, hg, val_main_v9_apply, val_main_v8_apply,
    val_main_v7_apply, val_main_v6_apply, val_main_v5_apply, val_main_cst_1_apply, val_main_v4_apply, val_main_v3_apply,
    val_main_cst_0_apply, val_main_v2_apply, hi, val_main_v1_apply, val_main_cst_apply]
  simp only [hk, val_main_v0_apply]
  show x0 (ix3 b r k) * Ideal.rsqrt (Ideal.div (Ideal.ofBits FTy.f32 0#32 + _) _ + _) * _ = _
  rw [Ideal.ofBits_zero, zero_add]
  rfl

/-- One entry of the projection. -/
theorem v13_at (b : Fin 2) (r : Fin 256) (k : Fin 2048) (i : S2x256x2048.Idx) (h0 : (i 0).val = b.val)
    (h1 : (i 1).val = r.val) (h2 : (i 2).val = k.val) :
    val_main_v13 (F := Ideal) x0 x1 x2 i = lin (row x0 x1 b r) fun j => x2 (ix2 j k) := by
  rw [val_main_v13_apply, lin]
  refine Finset.sum_congr rfl fun j _ => congrArg₂ (· * ·) ?_ (congrArg x2 ?_)
  · refine Eq.trans (congrArg (val_main_v12 (F := Ideal) x0 x1) ?_) (v12_at x0 x1 b r j)
    exact funext fun a => Fin.ext (by match a with | ⟨0, _⟩ => exact h0 | ⟨1, _⟩ => exact h1 | ⟨2, _⟩ => rfl)
  · exact funext fun a => Fin.ext (by match a with | ⟨0, _⟩ => rfl | ⟨1, _⟩ => exact h2)

theorem v15_at (b : Fin 2) (r : Fin 256) (h : Fin 4) (d : Fin 256) :
    val_main_v15 (F := Ideal) x0 x1 x2 (ix4 b r h d) = lin (row x0 x1 b r) fun j => x2 (ix2 j ⟨h.val * 256 + d.val, by omega⟩) := by
  rw [val_main_v15_apply, val_main_v14_apply]
  have := b.isLt; have := r.isLt; have := h.isLt; have := d.isLt
  refine v13_at x0 x1 x2 b r _ _ ?_ ?_ ?_
  · show (((b.val * 256 + r.val) * 4 + h.val) * 256 + d.val) / 262144 = b.val; omega
  · show (((b.val * 256 + r.val) * 4 + h.val) * 256 + d.val) / 1024 % 256 = r.val; omega
  · show (((b.val * 256 + r.val) * 4 + h.val) * 256 + d.val) % 1024 = h.val * 256 + d.val; omega

/-- The keys. -/
theorem keys_at (b : Fin 2) (h : Fin 4) (r d : Fin 256) :
    val_main_v32 (F := Ideal) x0 x1 x2 x3 (ix4 b h r d) =
      rms n256 (fun e => lin (row x0 x1 b r) fun j => x2 (ix2 j ⟨h.val * 256 + e.val, by omega⟩)) (fun e => x3 (ix1 e)) d := by
  have ht : idx_main_v31 (ix4 b h r d) = ix4 b r h d :=
    funext fun a => Fin.ext (by match a with | ⟨0, _⟩ => rfl | ⟨1, _⟩ => rfl | ⟨2, _⟩ => rfl | ⟨3, _⟩ => rfl)
  have hi : idx_main_v18 (idx_main_v24 (ix4 b r h d)) = ix3 b r h :=
    funext fun a => Fin.ext (by match a with | ⟨0, _⟩ => rfl | ⟨1, _⟩ => rfl | ⟨2, _⟩ => rfl)
  have hk : ∀ e : Fin 256, idx_main_v17 (ix3 b r h) e = ix4 b r h e := fun e =>
    funext fun a => Fin.ext (by match a with | ⟨0, _⟩ => rfl | ⟨1, _⟩ => rfl | ⟨2, _⟩ => rfl | ⟨3, _⟩ => rfl)
  have hg : idx_main_v26 (idx_main_v27 (ix4 b r h d)) = ix1 d :=
    funext fun a => Fin.ext (by match a with | ⟨0, _⟩ => rfl)
  rw [val_main_v32_apply, val_main_v31_apply, ht, val_main_v28_apply, val_main_v27_apply, val_main_v26_apply, hg,
    val_main_v25_apply, val_main_v24_apply, val_main_v23_apply, val_main_v22_apply, val_main_v21_apply,
    val_main_cst_4_apply, val_main_v20_apply, val_main_v19_apply, val_main_cst_3_apply, val_main_v18_apply, hi,
    val_main_v17_apply, val_main_cst_2_apply]
  simp only [hk, val_main_v16_apply, v15_at]
  show _ * Ideal.rsqrt (Ideal.div (Ideal.ofBits FTy.f32 0#32 + _) _ + _) * _ = _
  rw [Ideal.ofBits_zero, zero_add]
  rfl

/-- The values. -/
theorem vals_at (b : Fin 2) (h : Fin 4) (r d : Fin 256) :
    val_main_v34 (F := Ideal) x0 x1 x2 (ix4 b h r d) =
      lin (row x0 x1 b r) fun j => x2 (ix2 j ⟨h.val * 256 + d.val + 1024, by omega⟩) := by
  have ht : idx_main_v33 (ix4 b h r d) = ix4 b r h d :=
    funext fun a => Fin.ext (by match a with | ⟨0, _⟩ => rfl | ⟨1, _⟩ => rfl | ⟨2, _⟩ => rfl | ⟨3, _⟩ => rfl)
  have e : val_main_v34 (F := Ideal) x0 x1 x2 (ix4 b h r d) = val_main_v33 (F := Ideal) x0 x1 x2 (ix4 b h r d) := rfl
  rw [e, val_main_v33_apply, ht, val_main_v30_apply, val_main_v29_apply]
  have := b.isLt; have := r.isLt; have := h.isLt; have := d.isLt
  refine v13_at x0 x1 x2 b r _ _ ?_ ?_ ?_
  · show (((b.val * 256 + r.val) * 4 + h.val) * 256 + d.val) / 262144 = b.val; omega
  · show (((b.val * 256 + r.val) * 4 + h.val) * 256 + d.val) / 1024 % 256 = r.val; omega
  · show 1024 + (((b.val * 256 + r.val) * 4 + h.val) * 256 + d.val) % 1024 = h.val * 256 + d.val + 1024; omega

end Cert.Reference4Ideal.Kv

end
-- ==== Proof.KvArr.lean ====
/- The output arrays of the memory projection kernel: the reference's values of the launched arguments. -/
module

public import proofs.«01_k».proof.Proof.KvBlock
public import proofs.«01_k».proof.Proof.KvRef

@[expose] public section

set_option maxRecDepth 16384

noncomputable section

namespace Cert.Kernel4Ideal.Kv

open Cert.Kernel4Ideal Cert.Kernel4Ideal.Gen Idealize.ShloMosaic Idealize.ShloMosaic.TcCoe Idealize.SL.Sem Cert.Mem

variable (m : (ℓ : Loc nD τ sig) → Buf (Elt Ideal) ℓ) (c : Dev nD)

/-- The launched arguments. -/
abbrev a0 : FVec Ideal S2x256x1024 .f32 := m ((c : Thread nD τ).loc main_arg0)
abbrev a1 : FVec Ideal S1024 .f32 := m ((c : Thread nD τ).loc main_arg1)
abbrev a2 : FVec Ideal S1024x2048 .f32 := m ((c : Thread nD τ).loc main_arg2)
abbrev a3 : FVec Ideal S256 .f32 := m ((c : Thread nD τ).loc main_arg3)

theorem V0 : (V m c main_v0 : FVec Ideal S1x1024 .f32) = broadcastInDim S1x1024 ![1] bcast_S1024_S1x1024_1 (a1 m c) := by
  rfl
theorem V1 : (V m c main_v1 : FVec Ideal S1024x2048 .bf16) = truncf .bf16 (a2 m c) bitsLt_bf16_f32 := by
  rfl
theorem V2 : (V m c main_v2 : FVec Ideal S1x256 .f32) = broadcastInDim S1x256 ![1] bcast_S256_S1x256_1 (a3 m c) := by
  rfl

theorem row1024 (x : FVec Ideal S1024 .f32) (k : Fin 1024) :
    broadcastInDim S1x1024 ![1] bcast_S1024_S1x1024_1 x (ix2 0 k) = x (ix1 k) := by pointwise
theorem row256 (x : FVec Ideal S256 .f32) (k : Fin 256) :
    broadcastInDim S1x256 ![1] bcast_S256_S1x256_1 x (ix2 0 k) = x (ix1 k) := by pointwise

/-- The grid point's batch entry. -/
def gb (t : Fin cfg0.N) : Fin 2 := grid0.coords t 0

theorem onto : ∀ b : Fin 2, ∃ t : Fin cfg0.N, gb t = b := (by decide +kernel : ∀ b : Fin 2, ∃ t : Fin grid0.N, _)
theorem idx0 : ∀ t : Fin cfg0.N, win0_0.index t (0 : Fin 3) = (gb t).val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 4) = (gb t).val ∧ win0_4.index t (1 : Fin 4) = 0 ∧ win0_4.index t (2 : Fin 4) = 0 ∧ win0_4.index t (3 : Fin 4) = 0 :=
  (by decide +kernel : ∀ t : Fin grid0.N, _)

theorem iblk0 (t : Fin cfg0.N) (r : Fin 256) (k : Fin 1024) : iblk m c 0 t (ix3 0 r k) = a0 m c (ix3 (gb t) r k) := by
  obtain ⟨e0, e1, e2⟩ := idx0 t
  show (V m c main_arg0 : FVec Ideal S2x256x1024 .f32) (((cfg0.win 0).blk t).view.emb (ix3 0 r k)) = _
  rw [V_main_arg0]
  refine congrArg (a0 m c) (funext fun a => Fin.ext ?_)
  match a with
  | ⟨0, _⟩ => show win0_0.index t (0 : Fin 3) * 1 + 1 * 0 = (gb t).val; omega
  | ⟨1, _⟩ => show win0_0.index t (1 : Fin 3) * 256 + 1 * r.val = r.val; omega
  | ⟨2, _⟩ => show win0_0.index t (2 : Fin 3) * 1024 + 1 * k.val = k.val; omega

theorem iblk1 (t : Fin cfg0.N) (k : Fin 1024) : iblk m c 1 t (ix2 0 k) = a1 m c (ix1 k) := by
  obtain ⟨e0, e1⟩ := idx1 t
  show (V m c main_v0 : FVec Ideal S1x1024 .f32) (((cfg0.win 1).blk t).view.emb (ix2 0 k)) = _
  rw [V0, ← row1024 (a1 m c)]
  refine congrArg (broadcastInDim S1x1024 ![1] bcast_S1024_S1x1024_1 (a1 m c)) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem iblk2 (t : Fin cfg0.N) (i : Fin 1024) (k : Fin 2048) : iblk m c 2 t (ix2 i k) = a2 m c (ix2 i k) := by
  obtain ⟨e0, e1⟩ := idx2 t
  show (V m c main_v1 : FVec Ideal S1024x2048 .bf16) (((cfg0.win 2).blk t).view.emb (ix2 i k)) = _
  rw [V1]
  refine congrArg (a2 m c) (funext fun a => Fin.ext ?_)
  match a with
  | ⟨0, _⟩ => show win0_2.index t (0 : Fin 2) * 1024 + 1 * i.val = i.val; omega
  | ⟨1, _⟩ => show win0_2.index t (1 : Fin 2) * 2048 + 1 * k.val = k.val; omega

theorem iblk3 (t : Fin cfg0.N) (k : Fin 256) : iblk m c 3 t (ix2 0 k) = a3 m c (ix1 k) := by
  obtain ⟨e0, e1⟩ := idx3 t
  show (V m c main_v2 : FVec Ideal S1x256 .f32) (((cfg0.win 3).blk t).view.emb (ix2 0 k)) = _
  rw [V2, ← row256 (a3 m c)]
  refine congrArg (broadcastInDim S1x256 ![1] bcast_S256_S1x256_1 (a3 m c)) (funext fun a => Fin.ext ?_)
  match a with
  | ⟨0, _⟩ => show win0_3.index t (0 : Fin 2) * 1 + 1 * 0 = 0; omega
  | ⟨1, _⟩ => show win0_3.index t (1 : Fin 2) * 256 + 1 * k.val = k.val; omega

/-! The arrays the kernel is to leave. -/

def G4 : FVec Ideal Reference4Ideal.S2x4x256x256 .bf16 :=
  Reference4Ideal.Read.val_main_v32 (F := Ideal) (a0 m c) (a1 m c) (a2 m c) (a3 m c)
def G5 : FVec Ideal Reference4Ideal.S2x4x256x256 .bf16 := Reference4Ideal.Read.val_main_v34 (F := Ideal) (a0 m c) (a1 m c) (a2 m c)

theorem row_eq (t : Fin cfg0.N) (r : Fin 256) :
    row (iblk m c 0 t) (iblk m c 1 t) r = Reference4Ideal.Kv.row (a0 m c) (a1 m c) (gb t) r := by
  unfold row Reference4Ideal.Kv.row
  simp only [iblk0, iblk1]

theorem block4 (t : Fin cfg0.N) (h : Fin 4) (r d : Fin 256) :
    out0_4 (iblk m c 0 t) (iblk m c 1 t) (iblk m c 2 t) (iblk m c 3 t) (ix4 0 h r d) = G4 m c (ix4 (gb t) h r d) := by
  rw [out4_at, G4, Reference4Ideal.Kv.keys_at, row_eq]
  simp only [iblk2, iblk3]

theorem block5 (t : Fin cfg0.N) (h : Fin 4) (r d : Fin 256) :
    out0_5 (iblk m c 0 t) (iblk m c 1 t) (iblk m c 2 t) (iblk m c 3 t) (ix4 0 h r d) = G5 m c (ix4 (gb t) h r d) := by
  rw [out5_at, G5, Reference4Ideal.Kv.vals_at, row_eq]
  simp only [iblk2]

theorem cut_read (t : Fin cfg0.N) (X : Vec Ideal S1x4x256x256 .bf16) (Y : FVec Ideal S2x4x256x256 .bf16)
    (h : ∀ (h : Fin 4) (r d : Fin 256), X (ix4 0 h r d) = Y (ix4 (gb t) h r d)) :
    (cfg0.win 4).cut (grid0.coords t) X = ((cfg0.win 4).blk t).view.read (Elt Ideal) Y := by
  obtain ⟨e0, e1, e2, e3⟩ := idx4 t
  funext j
  obtain ⟨j0, n, r, d, rfl⟩ : ∃ (j0 : Fin 1) (n : Fin 4) (r d : Fin 256), j = ix4 j0 n r d := ⟨j 0, j 1, j 2, j 3, eq_ix4 j⟩
  obtain rfl : j0 = 0 := Subsingleton.elim _ _
  show X (ix4 0 n r d) = Y (((cfg0.win 4).blk t).view.emb (ix4 0 n r d))
  rw [h]
  refine congrArg Y (funext fun a => Fin.ext ?_)
  match a with
  | ⟨0, _⟩ => show (gb t).val = win0_4.index t (0 : Fin 4) * 1 + 1 * 0; omega
  | ⟨1, _⟩ => show n.val = win0_4.index t (1 : Fin 4) * 4 + 1 * n.val; omega
  | ⟨2, _⟩ => show r.val = win0_4.index t (2 : Fin 4) * 256 + 1 * r.val; omega
  | ⟨3, _⟩ => show d.val = win0_4.index t (3 : Fin 4) * 256 + 1 * d.val; omega

theorem covered (i : S2x4x256x256.Idx) : ∃ t : Fin cfg0.N, (cfg0.win 4).flush t = true ∧ i ∈ ((cfg0.win 4).blk t).view.set := by
  obtain ⟨b, n, r, d, rfl⟩ : ∃ (b : Fin 2) (n : Fin 4) (r d : Fin 256), i = ix4 b n r d := ⟨i 0, i 1, i 2, i 3, eq_ix4 i⟩
  obtain ⟨t, f0⟩ := onto b
  obtain ⟨e0, e1, e2, e3⟩ := idx4 t
  refine ⟨t, flush0_4 t, ?_⟩
  have h := ((cfg0.win 4).blk t).view.emb_mem_set (ix4 (0 : Fin 1) n r d)
  rw [f0] at e0
  have e : ((cfg0.win 4).blk t).view.emb (ix4 (0 : Fin 1) n r d) = ix4 b n r d := by
    funext a; apply Fin.ext
    match a with
    | ⟨0, _⟩ => show win0_4.index t (0 : Fin 4) * 1 + 1 * 0 = b.val; omega
    | ⟨1, _⟩ => show win0_4.index t (1 : Fin 4) * 4 + 1 * n.val = n.val; omega
    | ⟨2, _⟩ => show win0_4.index t (2 : Fin 4) * 256 + 1 * r.val = r.val; omega
    | ⟨3, _⟩ => show win0_4.index t (3 : Fin 4) * 256 + 1 * d.val = d.val; omega
  rwa [e] at h

/-- The window of the values has the blocks of the keys'. -/
theorem covered5 (i : S2x4x256x256.Idx) : ∃ t : Fin cfg0.N, (cfg0.win 5).flush t = true ∧ i ∈ ((cfg0.win 5).blk t).view.set :=
  (covered i).imp fun t h => ⟨flush0_5 t, h.2⟩

/-! The output arrays after the run. -/

theorem arr4_eq : (dats m 0 c).arrAt 4 cfg0.N = G4 m c :=
  (dats m 0 c).arrAt_eq_of_cover 4 (G4 m c)
    (fun t _ => (Value.flushed4 m c t).trans (cut_read t _ (G4 m c) (block4 m c t))) covered
theorem arr5_eq : (dats m 0 c).arrAt 5 cfg0.N = G5 m c :=
  (dats m 0 c).arrAt_eq_of_cover 5 (G5 m c)
    (fun t _ => (Value.flushed5 m c t).trans (cut_read t _ (G5 m c) (block5 m c t))) covered5

end Cert.Kernel4Ideal.Kv

end
-- ==== Proof.FoxRow.lean ====
/- One row of the attention's input projection, over the extended reals: no program here.
   A head's lanes are its normalized product, the decay's running sum within a block, and constants.  The kernel adds
   each sum in parts, a rounded number and its remainder; over real numbers the remainder is zero. -/
module

public import proofs.«01_k».proof.Proof.GdnRow

@[expose] public section

noncomputable section

namespace Cert.Mem

open Idealize.ShloMosaic

/-- One over the head's width, the head's width, and the query's scale. -/
abbrev m64 : EReal := Ideal.ofBits .bf16 0x3C80#16
abbrev n64 : EReal := Ideal.ofBits .f32 0x42800000#32
abbrev eighth : EReal := Ideal.ofBits .f32 0x3E000000#32

theorem m64_eq : m64 = ((1 / 64 : ℝ) : EReal) := by
  simp [m64, Ideal.ofBits, Ideal.ieee]
  rw [← EReal.coe_mul]
  norm_num
theorem n64_eq : n64 = ((64 : ℝ) : EReal) := by
  simp [n64, Ideal.ofBits, Ideal.ieee]
  rw [← EReal.coe_mul]
  norm_num
theorem n1024_eq : n1024 = ((1024 : ℝ) : EReal) := by
  simp [n1024, Ideal.ofBits, Ideal.ieee]
  rw [← EReal.coe_mul]
  norm_num
theorem eps_eq : ∃ a : ℝ, 0 < a ∧ eps = (a : EReal) := by
  refine ⟨8796093 * (2 : ℝ) ^ (-43 : ℤ), by positivity, ?_⟩
  simp [eps, Ideal.ofBits, Ideal.ieee]

/-! Real numbers. -/

def IsReal (x : EReal) : Prop := ∃ a : ℝ, x = (a : EReal)

theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.sum {ι : Type} (s : Finset ι) (f : ι → EReal) (h : ∀ i ∈ s, IsReal (f i)) : IsReal (∑ i ∈ s, f i) :=
  Finset.sum_induction f IsReal (fun _ _ => IsReal.add) IsReal.zero h
theorem IsReal.sub_self {x : EReal} (hx : IsReal x) : x - x = 0 := by
  obtain ⟨a, rfl⟩ := hx; rw [← EReal.coe_sub, _root_.sub_self]; rfl
theorem IsReal.add_sub {x y : EReal} (hx : IsReal x) (hy : IsReal y) : x + y - x = y := by
  obtain ⟨a, rfl⟩ := hx; obtain ⟨b, rfl⟩ := hy
  rw [← EReal.coe_add, ← EReal.coe_sub, add_sub_cancel_left]

theorem IsReal.softplus {x : EReal} (hx : IsReal x) : IsReal (softplus x) := by
  refine (hx.max IsReal.zero).add ?_
  obtain ⟨a, ha⟩ := (hx.max hx.neg).neg
  rw [ha, Ideal.exp_coe, show (1 : EReal) = ((1 : ℝ) : EReal) from rfl, ← EReal.coe_add]
  refine ⟨Real.log (1 + Real.exp a), ?_⟩
  show (if (1 + Real.exp a) ≤ 0 then ⊥ else ((Real.log (1 + Real.exp a) : ℝ) : EReal)) = _
  rw [if_neg (not_le.mpr (by positivity))]

theorem IsReal.rsqrt {a : ℝ} (h : 0 < a) : IsReal (Ideal.rsqrt (a : EReal)) := by
  refine ⟨(Real.sqrt a)⁻¹, ?_⟩
  show (if a < 0 then ⊥ else if a = 0 then ⊤ else (((Real.sqrt a)⁻¹ : ℝ) : EReal)) = _
  rw [if_neg (not_lt.mpr h.le), if_neg h.ne']

/-- The mean of the squares, with `eps`, is a positive number. -/
theorem mean_pos {n : ℕ} (N : ℝ) (hN : 0 < N) (x : Fin n → EReal) (hx : ∀ k, IsReal (x k)) :
    ∃ a : ℝ, 0 < a ∧ Ideal.div (∑ j, x j * x j) (N : EReal) + eps = (a : EReal) := by
  obtain ⟨s, h0, hs⟩ : ∃ s : ℝ, 0 ≤ s ∧ ∑ j, x j * x j = (s : EReal) := by
    refine Finset.sum_induction (fun j => x j * x j) (fun z => ∃ s : ℝ, 0 ≤ s ∧ z = (s : EReal)) ?_ ⟨0, le_rfl, rfl⟩ fun j _ => ?_
    · rintro _ _ ⟨a, ha, rfl⟩ ⟨b, hb, rfl⟩
      exact ⟨a + b, add_nonneg ha hb, (EReal.coe_add a b).symm⟩
    · obtain ⟨a, ha⟩ := hx j
      rw [ha]
      exact ⟨a * a, mul_self_nonneg a, (EReal.coe_mul a a).symm⟩
  obtain ⟨e, he, heps⟩ := eps_eq
  refine ⟨s * N⁻¹ + e, by positivity, ?_⟩
  rw [hs, heps]
  unfold Ideal.div
  rw [if_neg (by exact_mod_cast hN.ne'), ← EReal.coe_inv, ← EReal.coe_mul, ← EReal.coe_add]

theorem IsReal.rms {n : ℕ} (N : ℝ) (hN : 0 < N) (x g : Fin n → EReal) (hx : ∀ k, IsReal (x k)) (hg : ∀ k, IsReal (g k)) (k : Fin n) :
    IsReal (rms (N : EReal) x g k) := by
  obtain ⟨a, h, ha⟩ := mean_pos N hN x hx
  unfold Mem.rms
  rw [ha]
  exact ((hx k).mul (IsReal.rsqrt h)).mul (hg k)

theorem square_nonneg (x : EReal) : 0 ≤ x * x := by
  induction x using EReal.rec with
  | bot => rw [EReal.bot_mul_bot]; exact le_top
  | coe a => rw [← EReal.coe_mul]; exact_mod_cast mul_self_nonneg a
  | top => rw [EReal.top_mul_top]; exact le_top

theorem square_top {x : EReal} (h : ¬IsReal x) : x * x = ⊤ := by
  induction x using EReal.rec with
  | bot => exact EReal.bot_mul_bot
  | coe a => exact absurd ⟨a, rfl⟩ h
  | top => exact EReal.top_mul_top

/-- A normalized row is of real numbers wherever its gain is: beside an infinite entry the row is zero. -/
theorem IsReal.rms_any {n : ℕ} (N : ℝ) (hN : 0 < N) (x g : Fin n → EReal) (hg : ∀ k, IsReal (g k)) (k : Fin n) :
    IsReal (Mem.rms (N : EReal) x g k) := by
  by_cases hx : ∀ k, IsReal (x k)
  · exact IsReal.rms N hN x g hx hg k
  obtain ⟨j, hj⟩ := not_forall.mp hx
  have hs : ∑ j, x j * x j = ⊤ := top_le_iff.mp ((square_top hj).symm.le.trans
    (Finset.single_le_sum (f := fun j => x j * x j) (fun i _ => square_nonneg (x i)) (Finset.mem_univ j)))
  obtain ⟨e, -, he⟩ := eps_eq
  have hd : Ideal.div ⊤ (N : EReal) = ⊤ := by
    unfold Ideal.div
    rw [if_neg (by exact_mod_cast hN.ne'), ← EReal.coe_inv, EReal.top_mul_coe_of_pos (by positivity)]
  unfold Mem.rms
  rw [hs, hd, he, EReal.top_add_coe, show Ideal.rsqrt ⊤ = 0 from rfl, mul_zero, zero_mul]
  exact IsReal.zero

theorem IsReal.lin {x w : Fin 1024 → EReal} (hx : ∀ k, IsReal (x k)) (hw : ∀ k, IsReal (w k)) : IsReal (lin x w) :=
  IsReal.sum _ _ fun i _ => (hx i).mul (hw i)

/-! The lanes of a head. -/

/-- The lanes of one head as the kernel computes them: the product `p`, normalized through a mean taken in two halves,
    the rows `s` placed by `pl`, and the constants `c`. -/
def lanes (p g : Fin 128 → EReal) (s : Fin 256 → EReal) (pl : Fin 256 → Fin 128 → EReal) (c : Fin 128 → EReal) (e : Fin 128) : EReal :=
  p e * Ideal.rsqrt (∑ d, p d * p d * m64 + ∑ d, (p d * p d - p d * p d) * m64 + eps) * g e + ∑ j, s j * pl j e + c e

/-- A vector of 64 entries on 128 lanes. -/
def wide64 (P : Fin 64 → EReal) (e : Fin 128) : EReal := if h : e.val < 64 then P ⟨e.val, h⟩ else 0

theorem mean_eq (P : Fin 64 → EReal) (hP : ∀ d, IsReal (P d)) :
    ∑ d, wide64 P d * wide64 P d * m64 + ∑ d, (wide64 P d * wide64 P d - wide64 P d * wide64 P d) * m64 =
      Ideal.div (∑ d, P d * P d) n64 := by
  have hw : ∀ d, IsReal (wide64 P d) := fun d => by
    unfold wide64
    split
    · exact hP _
    · exact IsReal.zero
  have h0 : ∑ d, (wide64 P d * wide64 P d - wide64 P d * wide64 P d) * m64 = 0 :=
    Finset.sum_eq_zero fun d _ => by rw [((hw d).mul (hw d)).sub_self, zero_mul]
  have h1 : ∑ d : Fin 128, wide64 P d * wide64 P d = ∑ d, P d * P d := by
    refine (Fin.sum_univ_add (a := 64) (b := 64) fun d : Fin 128 => wide64 P d * wide64 P d).trans ?_
    have hl : ∀ d : Fin 64, wide64 P (Fin.castAdd 64 d) = P d := fun d => dif_pos d.isLt
    have hr : ∀ d : Fin 64, wide64 P (Fin.natAdd 64 d) = 0 := fun d => dif_neg (by show ¬64 + d.val < 64; omega)
    rw [Finset.sum_congr rfl fun d _ => by rw [hl d], Finset.sum_eq_zero (s := Finset.univ) (f := fun d : Fin 64 => wide64 P (Fin.natAdd 64 d) * wide64 P (Fin.natAdd 64 d)) fun d _ => by rw [hr d, zero_mul], add_zero]
  have hm : (0 : EReal) ≤ m64 := by rw [m64_eq]; exact_mod_cast (by norm_num : (0 : ℝ) ≤ 1 / 64)
  have ht : m64 ≠ ⊤ := by rw [m64_eq]; exact EReal.coe_ne_top _
  rw [h0, add_zero, ← h1, Finset.sum_congr rfl fun d _ => mul_comm (wide64 P d * wide64 P d) m64, ← Softmax.mul_sum _ _ hm ht]
  unfold Ideal.div
  rw [n64_eq, if_neg (by exact_mod_cast (by norm_num : (64 : ℝ) ≠ 0)), ← EReal.coe_inv, mul_comm, m64_eq, one_div]

/-- What places the two halves of a head's decay on the lanes `a` and `b`. -/
def placed (hd : Fin 8) (a b : ℕ) (σ : EReal) (j : Fin 256) (e : Fin 128) : EReal :=
  if j.val = hd.val ∧ e.val = a ∨ j.val = 128 + hd.val ∧ e.val = b then σ else 0

/-- The decays and their remainders, which are zero. -/
def halves (C : Fin 128 → EReal) (j : Fin 256) : EReal := if h : j.val < 128 then C ⟨j.val, h⟩ else 0

theorem place_sum (C : Fin 128 → EReal) (hd : Fin 8) (a b : ℕ) (σ : EReal) (e : Fin 128) :
    ∑ j, halves C j * placed hd a b σ j e = if e.val = a then C ⟨hd.val, by omega⟩ * σ else 0 := by
  refine (Finset.sum_eq_single (⟨hd.val, by omega⟩ : Fin 256) (fun j _ hj => ?_) fun h => absurd (Finset.mem_univ _) h).trans ?_
  · unfold halves placed
    split
    · next h => rw [if_neg (fun q => ?_), mul_zero]; rcases q with q | q
                · exact hj (Fin.ext q.1)
                · omega
    · rw [zero_mul]
  · have : hd.val < 128 := by omega
    unfold halves placed
    rw [dif_pos this]
    split
    · next h => rw [if_pos]; rcases h with h | h
                · exact h.2
                · exact absurd h.1 (by show ¬hd.val = 128 + hd.val; omega)
    · next h => rw [if_neg fun q => h (.inl ⟨rfl, q⟩), mul_zero]

/-- The lanes that hold the constant one. -/
def ones (a b : ℕ) (e : Fin 128) : EReal := if e.val = a ∨ e.val = b then 1 else 0

/-- A query's and a key's lanes. -/
def qlane (P g : Fin 64 → EReal) (C : EReal) (e : Fin 128) : EReal :=
  if h : e.val < 64 then rms n64 P g ⟨e.val, h⟩ * eighth else if e.val = 64 then C else ones 66 67 e
def klane (P g : Fin 64 → EReal) (C : EReal) (e : Fin 128) : EReal :=
  if h : e.val < 64 then rms n64 P g ⟨e.val, h⟩ else if e.val = 66 then -C else ones 64 65 e

theorem lanes_q (P g : Fin 64 → EReal) (C : Fin 128 → EReal) (hd : Fin 8) (hP : ∀ d, IsReal (P d)) (e : Fin 128) :
    lanes (wide64 P) (wide64 fun d => g d * eighth) (halves C) (placed hd 64 65 1) (ones 66 67) e = qlane P g (C ⟨hd.val, by omega⟩) e := by
  unfold lanes
  rw [mean_eq P hP, place_sum]
  unfold qlane
  by_cases h : e.val < 64
  · rw [dif_pos h, if_neg (by omega), ones, if_neg (by omega), add_zero, add_zero, wide64, wide64, dif_pos h, dif_pos h]
    exact (mul_assoc _ _ _).symm
  · rw [dif_neg h, wide64, wide64, dif_neg h, dif_neg h, mul_zero, zero_add]
    by_cases h' : e.val = 64
    · rw [if_pos h', if_pos h', ones, if_neg (by omega), mul_one, add_zero]
    · rw [if_neg h', if_neg h', zero_add]

theorem lanes_k (P g : Fin 64 → EReal) (C : Fin 128 → EReal) (hd : Fin 8) (hP : ∀ d, IsReal (P d)) (e : Fin 128) :
    lanes (wide64 P) (wide64 g) (halves C) (placed hd 66 67 (-1)) (ones 64 65) e = klane P g (C ⟨hd.val, by omega⟩) e := by
  unfold lanes
  rw [mean_eq P hP, place_sum]
  unfold klane
  by_cases h : e.val < 64
  · rw [dif_pos h, if_neg (by omega), ones, if_neg (by omega), add_zero, add_zero, wide64, wide64, dif_pos h, dif_pos h]
    rfl
  · rw [dif_neg h, wide64, wide64, dif_neg h, dif_neg h, mul_zero, zero_add]
    by_cases h' : e.val = 66
    · rw [if_pos h', if_pos h', ones, if_neg (by omega), add_zero, mul_neg, mul_one]
    · rw [if_neg h', if_neg h', zero_add]

/-! The decay and its running sums. -/

/-- The logarithm of the logistic function. -/
def logsig (z : EReal) : EReal := -softplus (-z)

theorem IsReal.logsig {z : EReal} (h : IsReal z) : IsReal (logsig z) := h.neg.softplus.neg

/-- A sum of the terms up to one of them. -/
theorem sum_upto {N : ℕ} (F : ℕ → EReal) (t : Fin N) :
    ∑ s : Fin N, (if s.val ≤ t.val then F s.val else 0) = ∑ s ∈ Finset.range (t.val + 1), F s := by
  rw [← Finset.sum_range fun s => if s ≤ t.val then F s else 0, ← Finset.sum_filter]
  refine Finset.sum_congr (Finset.ext fun s => ?_) fun _ _ => rfl
  have := t.isLt
  simp only [Finset.mem_filter, Finset.mem_range]
  omega

/-- The three parts of the kernel's running sum: the decays, and what two roundings leave of them. -/
theorem parts_eq {N : ℕ} (F : ℕ → EReal) (hF : ∀ s, IsReal (F s)) (t : Fin N) :
    ∑ s : Fin N, (if s.val ≤ t.val then F s.val else 0) + ∑ s : Fin N, (if s.val ≤ t.val then F s.val - F s.val else 0) +
      ∑ s : Fin N, (if s.val ≤ t.val then F s.val - F s.val - (F s.val - F s.val) else 0) = ∑ s ∈ Finset.range (t.val + 1), F s := by
  have h : ∀ s, F s - F s = 0 := fun s => (hF s).sub_self
  simp only [h, sub_zero, ite_self, Finset.sum_const_zero, add_zero]
  exact sum_upto F t

end Cert.Mem

end
-- ==== Proof.FoxInBlock.lean ====
/- What one grid point of the attention's input projection kernel writes, one element at a time, and how the decay
   it carries from point to point adds up. -/
module

public import proofs.«01_k».proof.Proof.Gen.Kernel5Ideal.Frame
public import proofs.«01_k».proof.Proof.FoxRow
public import Idealize.ShloMosaic.Lib.Pointwise
public import Idealize.ShloMosaic.Lib.Pipeline.ValueKit.Tiles
public import Idealize.ShloMosaic.Lib.Pipeline.Value
public import Idealize.ShloMosaic.Lib.Tactic

@[expose] public section

set_option maxRecDepth 16384

noncomputable section

namespace Cert.Kernel5Ideal.FoxIn

open Cert.Kernel5Ideal Cert.Kernel5Ideal.Gen Idealize.ShloMosaic Cert.Mem

/-- One head's store: its columns of the product, normalized, with the gate's lanes. -/
def aug (h : FVec Ideal S512x1024 .bf16) (hl : FVec Ideal S512x256 .bf16) (w : Vec Ideal S1024x128 .bf16)
    (g : Vec Ideal S1x128 .f32) (pl : Vec Ideal S1x256x128 .bf16) (cc : Vec Ideal S1x128 .f32) : FVec Ideal S1x1x512x128 .bf16 :=
  k0_pay14 h hl k0_pay11 w g pl cc

theorem aug_at (h : FVec Ideal S512x1024 .bf16) (hl : FVec Ideal S512x256 .bf16) (w : Vec Ideal S1024x128 .bf16)
    (g : Vec Ideal S1x128 .f32) (pl : Vec Ideal S1x256x128 .bf16) (cc : Vec Ideal S1x128 .f32) (r : Fin 512) (e : Fin 128) :
    aug h hl w g pl cc (ix4 0 0 r e) = lanes (fun e => lin (fun i => h (ix2 r i)) fun i => w (ix2 i e)) (fun e => g (ix2 0 e))
      (fun j => hl (ix2 r j)) (fun j e => pl (ix3 0 j e)) (fun e => cc (ix2 0 e)) e := by
  unfold lanes lin
  pointwise [aug, k0_pay14, k0_pay11]

/-- The eight heads of a block. -/
def bank (h : FVec Ideal S512x1024 .bf16) (hl : FVec Ideal S512x256 .bf16) (w : Vec Ideal S1024x1024 .bf16)
    (g : Vec Ideal S1x128 .f32) (pl : Vec Ideal S8x256x128 .bf16) (cc : Vec Ideal S1x128 .f32) : Vec Ideal S1x8x512x128 .bf16 := fun y =>
  lanes (fun e : Fin 128 => lin (fun i => h (ix2 (n0 := 512) (n1 := 1024) ⟨(y 2).val, (y 2).isLt⟩ i)) fun i => w (ix2 i ⟨(y 1).val * 128 + e.val, by
    have : (y 1).val < 8 := (y 1).isLt
    omega⟩)) (fun e => g (ix2 0 e)) (fun j => hl (ix2 (n0 := 512) (n1 := 256) ⟨(y 2).val, (y 2).isLt⟩ j))
    (fun j e => pl (ix3 (n0 := 8) ⟨(y 1).val, (y 1).isLt⟩ j e)) (fun e => cc (ix2 0 e)) ⟨(y 3).val, (y 3).isLt⟩

theorem zero2 : (![0, 0] : Fin 2 → ℕ) = fun _ => 0 := by funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- The part of the buffer that a head's store writes. -/
theorem idx_at (h : Fin 8) (inb : ∀ a, (![0, h.val, 0, 0] : Fin 4 → ℕ) a + S1x1x512x128.size a ≤ S1x8x512x128.size a)
    (r : Fin 512) (d : Fin 128) :
    (Rect.unit (s := S1x8x512x128) ![0, h.val, 0, 0] S1x1x512x128.size inb).idx (ix4 0 0 r d) = ix4 0 h r d :=
  funext fun a => Fin.ext (by
    match a with
    | ⟨0, _⟩ => rfl
    | ⟨1, _⟩ => show h.val + 1 * 0 = h.val; omega
    | ⟨2, _⟩ => show 0 + 1 * r.val = r.val; omega
    | ⟨3, _⟩ => show 0 + 1 * d.val = d.val; omega)

/-- Each head's store is its part of the bank. -/
theorem piece_eq (h : FVec Ideal S512x1024 .bf16) (hl : FVec Ideal S512x256 .bf16) (w : Vec Ideal S1024x1024 .bf16)
    (g : Vec Ideal S1x128 .f32) (pl : Vec Ideal S8x256x128 .bf16) (cc : Vec Ideal S1x128 .f32) (n : Fin 8)
    (inb : ∀ a, (![0, n.val, 0, 0] : Fin 4 → ℕ) a + S1x1x512x128.size a ≤ S1x8x512x128.size a)
    (iw : ∀ a, (![0, n.val * 128] : Fin 2 → ℕ) a + S1024x128.size a ≤ S1024x1024.size a)
    (ip : ∀ a, (![n.val, 0, 0] : Fin 3 → ℕ) a + S1x256x128.size a ≤ S8x256x128.size a)
    (ig : ∀ a, (![0, 0] : Fin 2 → ℕ) a + S1x128.size a ≤ S1x128.size a) (x : S1x1x512x128.Idx) :
    aug h hl (View.ld w (Rect.unit (s := S1024x1024) ![0, n.val * 128] S1024x128.size iw))
        (View.ld g (Rect.unit (s := S1x128) ![0, 0] S1x128.size ig))
        (View.ld pl (Rect.unit (s := S8x256x128) ![n.val, 0, 0] S1x256x128.size ip))
        (View.ld cc (Rect.unit (s := S1x128) ![0, 0] S1x128.size ig)) x =
      bank h hl w g pl cc ((Rect.unit (s := S1x8x512x128) ![0, n.val, 0, 0] S1x1x512x128.size inb).idx x) := by
  obtain ⟨j0, j1, r, d, rfl⟩ : ∃ (j0 j1 : Fin 1) (r : Fin 512) (d : Fin 128), x = ix4 j0 j1 r d := ⟨x 0, x 1, x 2, x 3, eq_ix4 x⟩
  obtain rfl : j0 = 0 := Subsingleton.elim _ _
  obtain rfl : j1 = 0 := Subsingleton.elim _ _
  rw [aug_at, idx_at, View.ld_unit_zero zero2 _ g, View.ld_unit_zero zero2 _ cc]
  have e1 : (fun e : Fin 128 => lin (fun i => h (ix2 r i)) fun i =>
      View.ld w (Rect.unit (s := S1024x1024) ![0, n.val * 128] S1024x128.size iw) (ix2 i e))
      = fun e : Fin 128 => lin (fun i => h (ix2 r i)) fun i => w (ix2 i ⟨n.val * 128 + e.val, by omega⟩) :=
    funext fun e => congrArg (lin fun i => h (ix2 r i)) (funext fun i => View.ld_unit_apply_of _ _ _ _ _ _ (fun a => by
      match a with
      | ⟨0, _⟩ => show i.val = 0 + i.val; omega
      | ⟨1, _⟩ => rfl))
  have e2 : (fun (j : Fin 256) (e : Fin 128) => View.ld pl (Rect.unit (s := S8x256x128) ![n.val, 0, 0] S1x256x128.size ip) (ix3 0 j e))
      = fun j e => pl (ix3 n j e) :=
    funext fun j => funext fun e => View.ld_unit_apply_of _ _ _ _ _ _ (fun a => by
      match a with
      | ⟨0, _⟩ => show n.val = n.val + 0; omega
      | ⟨1, _⟩ => show j.val = 0 + j.val; omega
      | ⟨2, _⟩ => show e.val = 0 + e.val; omega)
  rw [e1, e2]
  rfl

theorem head_in (n : Fin 8) : ∀ a, (![0, n.val, 0, 0] : Fin 4 → ℕ) a + S1x1x512x128.size a ≤ S1x8x512x128.size a := by
  revert n; decide
theorem cols_in (n : Fin 8) : ∀ a, (![0, n.val * 128] : Fin 2 → ℕ) a + S1024x128.size a ≤ S1024x1024.size a := by
  revert n; decide
theorem place_in (n : Fin 8) : ∀ a, (![n.val, 0, 0] : Fin 3 → ℕ) a + S1x256x128.size a ≤ S8x256x128.size a := by
  revert n; decide

/-- The eight stores of a block, the last one first. -/
def stores (h : FVec Ideal S512x1024 .bf16) (hl : FVec Ideal S512x256 .bf16) (w : Vec Ideal S1024x1024 .bf16)
    (g : Vec Ideal S1x128 .f32) (pl : Vec Ideal S8x256x128 .bf16) (cc : Vec Ideal S1x128 .f32) :
    List (View.Piece (Elt Ideal) S1x8x512x128 .bf16) :=
  [(7 : Fin 8), 6, 5, 4, 3, 2, 1, 0].map fun n => ⟨Rect.unit (s := S1x8x512x128) ![0, n.val, 0, 0] S1x1x512x128.size (head_in n),
    aug h hl (View.ld w (Rect.unit (s := S1024x1024) ![0, n.val * 128] S1024x128.size (cols_in n)))
      (View.ld g (Rect.unit (s := S1x128) ![0, 0] S1x128.size inb_S1x128_S1x128_0_0))
      (View.ld pl (Rect.unit (s := S8x256x128) ![n.val, 0, 0] S1x256x128.size (place_in n)))
      (View.ld cc (Rect.unit (s := S1x128) ![0, 0] S1x128.size inb_S1x128_S1x128_0_0))⟩

theorem stores_eq (h : FVec Ideal S512x1024 .bf16) (hl : FVec Ideal S512x256 .bf16) (w : Vec Ideal S1024x1024 .bf16)
    (g : Vec Ideal S1x128 .f32) (pl : Vec Ideal S8x256x128 .bf16) (cc : Vec Ideal S1x128 .f32) :
    ∀ pc ∈ stores h hl w g pl cc, ∀ x, pc.2 x = bank h hl w g pl cc (pc.1.idx x) := fun pc hpc x => by
  obtain ⟨n, -, rfl⟩ := List.mem_map.mp hpc
  exact piece_eq h hl w g pl cc n (head_in n) (cols_in n) (place_in n) inb_S1x128_S1x128_0_0 x

/-- The block's normalized rows, its gates, their running sums, and those in the two halves that the stores take. -/
abbrev hid (x0 : Vec Ideal S1x512x1024 .f32) (x1 : Vec Ideal S1x1024 .f32) : FVec Ideal S512x1024 .bf16 := k0_pay3 x0 x1
abbrev cum (x0 : Vec Ideal S1x512x1024 .f32) (x1 : Vec Ideal S1x1024 .f32) (x5 : Vec Ideal S1024x128 .bf16)
    (x6 : Vec Ideal S1x128 .f32) : FVec Ideal S512x128 .f32 := k0_pay6 (k0_pay5 x0 x1 x5 x6) (Scalar.ofBits .f32 0x00000000#32)

section
variable (c : Dev nD) (i : grid0.Coords) (arg2 : Memref sig .tc .vmem S1x512x1024 .f32) (harg2 : arg2.IsWhole)
  (arg3 : Memref sig .tc .vmem S1x1024 .f32) (harg3 : arg3.IsWhole) (arg4 : Memref sig .tc .vmem S1024x1024 .bf16)
  (harg4 : arg4.IsWhole) (arg5 : Memref sig .tc .vmem S1024x1024 .bf16) (harg5 : arg5.IsWhole)
  (arg6 : Memref sig .tc .vmem S1024x512 .bf16) (harg6 : arg6.IsWhole) (arg7 : Memref sig .tc .vmem S1024x128 .bf16)
  (harg7 : arg7.IsWhole) (arg8 : Memref sig .tc .vmem S1x128 .f32) (harg8 : arg8.IsWhole)
  (arg9 : Memref sig .tc .vmem S1x128 .f32) (harg9 : arg9.IsWhole) (arg10 : Memref sig .tc .vmem S1x128 .f32)
  (harg10 : arg10.IsWhole) (arg11 : Memref sig .tc .vmem S8x256x128 .bf16) (harg11 : arg11.IsWhole)
  (arg12 : Memref sig .tc .vmem S8x256x128 .bf16) (harg12 : arg12.IsWhole) (arg13 : Memref sig .tc .vmem S1x128 .f32)
  (harg13 : arg13.IsWhole) (arg14 : Memref sig .tc .vmem S1x128 .f32) (harg14 : arg14.IsWhole)
  (arg15 : Memref sig .tc .vmem S1x8x512x128 .bf16) (harg15 : arg15.IsWhole)
  (arg16 : Memref sig .tc .vmem S1x8x512x128 .bf16) (harg16 : arg16.IsWhole) (arg17 : Memref sig .tc .vmem S1x512x512 .bf16)
  (harg17 : arg17.IsWhole) (arg18 : Memref sig .tc .vmem S1x1x8x128 .f32) (harg18 : arg18.IsWhole)
  (arg19 : Memref sig .tc .vmem S8x128 .f32) (harg19 : arg19.IsWhole)
  (x0 : Vec Ideal S1x512x1024 .f32) (x1 : Vec Ideal S1x1024 .f32) (x2 : Vec Ideal S1024x1024 .bf16)
  (x3 : Vec Ideal S1024x1024 .bf16) (x4 : Vec Ideal S1024x512 .bf16) (x5 : Vec Ideal S1024x128 .bf16)
  (x6 : Vec Ideal S1x128 .f32) (x7 : Vec Ideal S1x128 .f32) (x8 : Vec Ideal S1x128 .f32) (x9 : Vec Ideal S8x256x128 .bf16)
  (x10 : Vec Ideal S8x256x128 .bf16) (x11 : Vec Ideal S1x128 .f32) (x12 : Vec Ideal S1x128 .f32)

theorem out_A13 (hc : cond0_0 i) (y : S1x8x512x128.Idx) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 y
      = bank (hid x0 x1) (k0_pay10 (cum x0 x1 x5 x6)) x2 x7 x9 x11 y := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12)]
  refine View.canon_apply_of_pieces (bank (hid x0 x1) (k0_pay10 (cum x0 x1 x5 x6)) x2 x7 x9 x11) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6]
  exact stores_eq (hid x0 x1) (k0_pay10 (cum x0 x1 x5 x6)) x2 x7 x9 x11

theorem out_A14 (hc : cond0_0 i) (y : S1x8x512x128.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 y
      = bank (hid x0 x1) (k0_pay10 (cum x0 x1 x5 x6)) x3 x8 x10 x12 y := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12)]
  refine View.canon_apply_of_pieces (bank (hid x0 x1) (k0_pay10 (cum x0 x1 x5 x6)) x3 x8 x10 x12) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6]
  exact stores_eq (hid x0 x1) (k0_pay10 (cum x0 x1 x5 x6)) x3 x8 x10 x12

theorem out_A15 (hc : cond0_0 i) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12
      = k0_pay4 x0 x1 x4 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12)]
  unfold kernelRun0_A
  dsimp only
  sl_unfold_words
  rw [View.canon_unit_zero zero3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x4]

theorem out_A16 (hc : cond0_0 i) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12
      = k0_pay7 (F := Ideal) (View.ld (k0_pay2 (F := Ideal)) (Rect.unit (s := S8x128) ![0, 0] S1x128.size inb_S8x128_S1x128_0_0)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12)]
  unfold kernelRun0_A
  dsimp only
  sl_unfold_words
  rw [View.canon_unit_zero zero4]
  rw [View.readCov_eq_canon', View.canon_unit_zero zero2]

theorem sout_A (hc : cond0_0 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12
      = k0_pay9 (k0_pay2 (F := Ideal)) (k0_pay8 (k0_pay5 x0 x1 x5 x6) (Scalar.ofBits .f32 0x00000000#32)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12)]
  unfold kernelRun0_A
  dsimp only
  sl_unfold_words
  rw [View.canon_cons_unit_zero zero2, View.readCov_unit_zero (S := S8x128) _ zero2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6]

theorem out_B13 (hc : ¬cond0_0 i) (xs : Vec Ideal S8x128 .f32) (y : S1x8x512x128.Idx) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs y
      = bank (hid x0 x1) (k0_pay10 (cum x0 x1 x5 x6)) x2 x7 x9 x11 y := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs)]
  refine View.canon_apply_of_pieces (bank (hid x0 x1) (k0_pay10 (cum x0 x1 x5 x6)) x2 x7 x9 x11) _ ?_ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6]
  exact stores_eq (hid x0 x1) (k0_pay10 (cum x0 x1 x5 x6)) x2 x7 x9 x11

theorem out_B14 (hc : ¬cond0_0 i) (xs : Vec Ideal S8x128 .f32) (y : S1x8x512x128.Idx) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs y
      = bank (hid x0 x1) (k0_pay10 (cum x0 x1 x5 x6)) x3 x8 x10 x12 y := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs)]
  refine View.canon_apply_of_pieces (bank (hid x0 x1) (k0_pay10 (cum x0 x1 x5 x6)) x3 x8 x10 x12) _ ?_ y (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs y)
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6]
  exact stores_eq (hid x0 x1) (k0_pay10 (cum x0 x1 x5 x6)) x3 x8 x10 x12

theorem out_B15 (hc : ¬cond0_0 i) (xs : Vec Ideal S8x128 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs
      = k0_pay4 x0 x1 x4 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs)]
  unfold kernelRun0_B
  dsimp only
  sl_unfold_words
  rw [View.canon_unit_zero zero3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x4]

theorem out_B16 (hc : ¬cond0_0 i) (xs : Vec Ideal S8x128 .f32) :
    out0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs
      = k0_pay7 (F := Ideal) (View.ld xs (Rect.unit (s := S8x128) ![0, 0] S1x128.size inb_S8x128_S1x128_0_0)) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs)]
  unfold kernelRun0_B
  dsimp only
  sl_unfold_words
  rw [View.canon_unit_zero zero4]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread]

theorem sout_B (hc : ¬cond0_0 i) (xs : Vec Ideal S8x128 .f32) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs
      = k0_pay9 xs (k0_pay8 (k0_pay5 x0 x1 x5 x6) (Scalar.ofBits .f32 0x00000000#32)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 x11 x12 xs)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, View.ld_unit_zero zero3 _ x0, View.ld_unit_zero zero2 _ x1, View.ld_unit_zero zero2 _ x5,
    View.ld_unit_zero zero2 _ x6, View.ld_unit_zero zero2 _ xs]

end

end Cert.Kernel5Ideal.FoxIn

end
-- ==== Proof.FoxInVal.lean ====
/- The numbers of one block of the attention's input projection. -/
module

public import proofs.«01_k».proof.Proof.FoxInBlock

@[expose] public section

set_option maxRecDepth 16384

noncomputable section

namespace Cert.Kernel5Ideal.FoxIn

open Cert.Kernel5Ideal Cert.Kernel5Ideal.Gen Idealize.ShloMosaic Cert.Mem

/-- A row of the block, normalized. -/
def row (x : Vec Ideal S1x512x1024 .f32) (g : Vec Ideal S1x1024 .f32) (r : Fin 512) : Fin 1024 → EReal :=
  rms n1024 (fun k => x (ix3 0 r k)) fun k => g (ix2 0 k)

theorem pay3_at (x : Vec Ideal S1x512x1024 .f32) (g : Vec Ideal S1x1024 .f32) (r : Fin 512) (k : Fin 1024) :
    k0_pay3 x g (ix2 r k) = row x g r k := by
  unfold row rms
  pointwise [k0_pay3]

theorem hid_row (x : Vec Ideal S1x512x1024 .f32) (g : Vec Ideal S1x1024 .f32) (r : Fin 512) :
    (fun i => k0_pay3 x g (ix2 r i)) = row x g r := funext fun i => pay3_at x g r i

theorem pay4_lin (x : Vec Ideal S1x512x1024 .f32) (g : Vec Ideal S1x1024 .f32) (w : Vec Ideal S1024x512 .bf16) (r k : Fin 512) :
    k0_pay4 x g w (ix3 0 r k) = lin (fun i => k0_pay3 x g (ix2 r i)) fun i => w (ix2 i k) := by
  unfold lin k0_pay4
  generalize k0_pay3 x g = h
  pointwise
theorem pay4_at (x : Vec Ideal S1x512x1024 .f32) (g : Vec Ideal S1x1024 .f32) (w : Vec Ideal S1024x512 .bf16) (r k : Fin 512) :
    k0_pay4 x g w (ix3 0 r k) = lin (row x g r) fun i => w (ix2 i k) := by
  rw [pay4_lin, hid_row]

theorem pay5_lin (x : Vec Ideal S1x512x1024 .f32) (g : Vec Ideal S1x1024 .f32) (w : Vec Ideal S1024x128 .bf16)
    (b : Vec Ideal S1x128 .f32) (r : Fin 512) (l : Fin 128) :
    k0_pay5 x g w b (ix2 r l) = lin (fun i => k0_pay3 x g (ix2 r i)) (fun i => w (ix2 i l)) + b (ix2 0 l) := by
  unfold lin k0_pay5
  generalize k0_pay3 x g = h
  pointwise
theorem pay5_at (x : Vec Ideal S1x512x1024 .f32) (g : Vec Ideal S1x1024 .f32) (w : Vec Ideal S1024x128 .bf16)
    (b : Vec Ideal S1x128 .f32) (r : Fin 512) (l : Fin 128) :
    k0_pay5 x g w b (ix2 r l) = lin (row x g r) (fun i => w (ix2 i l)) + b (ix2 0 l) := by
  rw [pay5_lin, hid_row]

theorem le_bit (r s : Fin 512) : IntOp.cmpi .sle (BitVec.ofNat 32 s.val) (BitVec.ofNat 32 r.val) = BitVec.ofBool (decide (s.val ≤ r.val)) := by
  have hs := s.isLt
  have hr := r.isLt
  show BitVec.ofBool (BitVec.sle _ _) = _
  have e : ∀ n : ℕ, n < 512 → (BitVec.ofNat 32 n).toInt = n := fun n h => by
    rw [BitVec.toInt_eq_toNat_cond, BitVec.toNat_ofNat, Nat.mod_eq_of_lt (by omega), if_pos (by omega)]
  rw [BitVec.sle_eq_decide, e _ hs, e _ hr]
  simp

theorem sel (p : Prop) [Decidable p] (a b : EReal) : Scalar.select (BitVec.ofBool (decide p)) a b = if p then a else b := by
  by_cases h : p
  · rw [if_pos h, decide_eq_true h]; rfl
  · rw [if_neg h, decide_eq_false h]; rfl

/-- The decays' running sum within a block. -/
theorem pay6_at (z : FVec Ideal S512x128 .f32) (l : Fin 128) (F : ℕ → EReal) (hF : ∀ s, IsReal (F s))
    (h : ∀ s : Fin 512, logsig (z (ix2 s l)) = F s.val) (r : Fin 512) :
    k0_pay6 z (Scalar.ofBits .f32 0x00000000#32) (ix2 r l) = ∑ s ∈ Finset.range (r.val + 1), F s := by
  rw [← parts_eq F hF r]
  simp only [← h]
  unfold logsig softplus
  pointwise [k0_pay6]
  simp only [zero_sub, le_bit, sel]
  rfl

theorem pay7_at (v : Vec Ideal S1x128 .f32) (h : Fin 8) (l : Fin 128) : k0_pay7 (F := Ideal) v (ix4 0 0 h l) = v (ix2 0 l) := by
  pointwise [k0_pay7]

theorem pay8_at (z : FVec Ideal S512x128 .f32) (c : Ideal .f32) (l : Fin 128) :
    k0_pay8 z c (ix2 0 l) = k0_pay6 z c (ix2 511 l) := by
  unfold k0_pay8
  generalize k0_pay6 z c = y
  pointwise

theorem pay9_at (a : Vec Ideal S8x128 .f32) (v : FVec Ideal S1x128 .f32) (h : Fin 8) (l : Fin 128) :
    k0_pay9 a v (ix2 h l) = a (ix2 h l) + v (ix2 0 l) := by
  pointwise [k0_pay9]

theorem pay2_at (h : Fin 8) (l : Fin 128) : k0_pay2 (F := Ideal) (ix2 h l) = (0 : EReal) := by
  pointwise [k0_pay2]

theorem pay10_at (y : FVec Ideal S512x128 .f32) (hy : ∀ r l, IsReal (y (ix2 r l))) (r : Fin 512) (j : Fin 256) :
    k0_pay10 y (ix2 r j) = halves (fun l => y (ix2 r l)) j := by
  unfold halves
  pointwise [k0_pay10]
  split
  · rfl
  · exact (hy _ _).sub_self

end Cert.Kernel5Ideal.FoxIn

end
-- ==== Proof.FoxInPut.lean ====
/- The arrays the host prepares for the attention's input projection, one element at a time. -/
module

public import proofs.«01_k».proof.Proof.FoxInVal
public import Idealize.ShloMosaic.Lib.Routing.OpsSet

@[expose] public section

set_option maxRecDepth 16384

noncomputable section

namespace Cert.Kernel5Ideal.FoxIn

open Cert.Kernel5Ideal Cert.Kernel5Ideal.Gen Idealize.ShloMosaic Cert.Mem

/-! Numbers set at given places. -/

theorem put3_at (x : FVec Ideal S8x256x128 .f32) (idx : IVec S8x3 32) (v : FVec Ideal S8 .f32) (u : EReal) (hv : ∀ k, v k = u) (s a : ℕ)
    (hi : ∀ k : Fin 8, (idx (ix2 k 0)).toInt = k.val ∧ (idx (ix2 k 1)).toInt = ((s + k.val : ℕ) : Int) ∧ (idx (ix2 k 2)).toInt = a)
    (h : Fin 8) (j : Fin 256) (e : Fin 128) :
    Host.scatter scatter_S8x256x128_S8x3_S8_n_012_012_1 (fun _ b => b) x idx v (ix3 h j e) =
      if j.val = s + h.val ∧ e.val = a then u else x (ix3 h j e) := by
  have lands : ∀ k : Fin 8, scatter_S8x256x128_S8x3_S8_n_012_012_1.resultIdx? (ix1 k) idx = some (ix3 h j e) ↔
      k = h ∧ j.val = s + h.val ∧ e.val = a := fun k => by
    obtain ⟨e0, e1, e2⟩ := hi k
    rw [Routing.resultIdx?_eq_some]
    have s0 : scatter_S8x256x128_S8x3_S8_n_012_012_1.start (ix1 k) idx (0 : Fin 3) = (idx (ix2 k 0)).toInt :=
      congrArg (fun i => (idx i).toInt) (funext fun b => by match b with | ⟨0, _⟩ => rfl | ⟨1, _⟩ => rfl)
    have s1 : scatter_S8x256x128_S8x3_S8_n_012_012_1.start (ix1 k) idx (1 : Fin 3) = (idx (ix2 k 1)).toInt :=
      congrArg (fun i => (idx i).toInt) (funext fun b => by match b with | ⟨0, _⟩ => rfl | ⟨1, _⟩ => rfl)
    have s2 : scatter_S8x256x128_S8x3_S8_n_012_012_1.start (ix1 k) idx (2 : Fin 3) = (idx (ix2 k 2)).toInt :=
      congrArg (fun i => (idx i).toInt) (funext fun b => by match b with | ⟨0, _⟩ => rfl | ⟨1, _⟩ => rfl)
    have w : ∀ b, scatter_S8x256x128_S8x3_S8_n_012_012_1.window (ix1 k) b = 0 := fun b => by
      match b with | ⟨0, _⟩ => rfl | ⟨1, _⟩ => rfl | ⟨2, _⟩ => rfl
    constructor
    · intro q
      have q0 : (idx (ix2 k 0)).toInt + ((0 : ℕ) : Int) = h.val := by rw [← s0, ← w 0]; exact q 0
      have q1 : (idx (ix2 k 1)).toInt + ((0 : ℕ) : Int) = j.val := by rw [← s1, ← w 1]; exact q 1
      have q2 : (idx (ix2 k 2)).toInt + ((0 : ℕ) : Int) = e.val := by rw [← s2, ← w 2]; exact q 2
      exact ⟨Fin.ext (by omega), by omega, by omega⟩
    · rintro ⟨rfl, q1, q2⟩ b
      rw [w b]
      match b with
      | ⟨0, _⟩ => refine (congrArg (· + ((0 : ℕ) : Int)) s0).trans ?_; show _ = (k.val : Int); omega
      | ⟨1, _⟩ => refine (congrArg (· + ((0 : ℕ) : Int)) s1).trans ?_; show _ = (j.val : Int); omega
      | ⟨2, _⟩ => refine (congrArg (· + ((0 : ℕ) : Int)) s2).trans ?_; show _ = (e.val : Int); omega
  by_cases q : j.val = s + h.val ∧ e.val = a
  · rw [if_pos q]
    exact Routing.scatter_set_hit _ x idx v _ u (fun k _ => hv k) (ix1 h) ((lands h).2 ⟨rfl, q⟩)
  · rw [if_neg q]
    refine Routing.scatter_set_miss _ x idx v _ fun k => ?_
    rw [eq_ix1 k]
    exact fun z => q ((lands (k 0)).1 z).2

theorem put2_at (x : FVec Ideal S1x128 .f32) (idx : IVec S2x2 32) (v : FVec Ideal S2 .f32) (u : EReal) (hv : ∀ k, v k = u) (a b : ℕ)
    (h0 : ∀ k : Fin 2, (idx (ix2 k 0)).toInt = 0) (h1 : (idx (ix2 0 1)).toInt = a) (h2 : (idx (ix2 1 1)).toInt = b) (e : Fin 128) :
    Host.scatter scatter_S1x128_S2x2_S2_n_01_01_1 (fun _ b => b) x idx v (ix2 0 e) = if e.val = a ∨ e.val = b then u else x (ix2 0 e) := by
  have lands : ∀ k : Fin 2, scatter_S1x128_S2x2_S2_n_01_01_1.resultIdx? (ix1 k) idx = some (ix2 0 e) ↔ (idx (ix2 k 1)).toInt = e.val := fun k => by
    rw [Routing.resultIdx?_eq_some]
    have s0 : scatter_S1x128_S2x2_S2_n_01_01_1.start (ix1 k) idx (0 : Fin 2) = (idx (ix2 k 0)).toInt :=
      congrArg (fun i => (idx i).toInt) (funext fun b => by match b with | ⟨0, _⟩ => rfl | ⟨1, _⟩ => rfl)
    have s1 : scatter_S1x128_S2x2_S2_n_01_01_1.start (ix1 k) idx (1 : Fin 2) = (idx (ix2 k 1)).toInt :=
      congrArg (fun i => (idx i).toInt) (funext fun b => by match b with | ⟨0, _⟩ => rfl | ⟨1, _⟩ => rfl)
    have w : ∀ b, scatter_S1x128_S2x2_S2_n_01_01_1.window (ix1 k) b = 0 := fun b => by
      match b with | ⟨0, _⟩ => rfl | ⟨1, _⟩ => rfl
    constructor
    · intro q
      have q1 : (idx (ix2 k 1)).toInt + ((0 : ℕ) : Int) = e.val := by rw [← s1, ← w 1]; exact q 1
      omega
    · intro q b
      rw [w b]
      match b with
      | ⟨0, _⟩ => refine (congrArg (· + ((0 : ℕ) : Int)) (s0.trans (h0 k))).trans ?_; rfl
      | ⟨1, _⟩ => refine (congrArg (· + ((0 : ℕ) : Int)) (s1.trans q)).trans ?_; show _ = (e.val : Int); omega
  by_cases q : e.val = a ∨ e.val = b
  · rw [if_pos q]
    rcases q with q | q
    · exact Routing.scatter_set_hit _ x idx v _ u (fun k _ => hv k) (ix1 0) ((lands 0).2 (by rw [h1, q]))
    · exact Routing.scatter_set_hit _ x idx v _ u (fun k _ => hv k) (ix1 1) ((lands 1).2 (by rw [h2, q]))
  · rw [if_neg q]
    refine Routing.scatter_set_miss _ x idx v _ fun k => ?_
    obtain ⟨k, rfl⟩ : ∃ j : Fin 2, k = ix1 j := ⟨k 0, eq_ix1 k⟩
    intro z
    have z := (lands k).1 z
    match k, z with
    | ⟨0, _⟩, z => exact q (.inl (by have := h1.symm.trans z; omega))
    | ⟨1, _⟩, z => exact q (.inr (by have := h2.symm.trans z; omega))

/-- An array set at the start of another whose indices are zero. -/
theorem set_start {s si u : Shape} (d : ScatterDims s si u) (x : s.Idx → EReal) (idx : IVec si 32) (v : u.Idx → EReal) (hi : ∀ i, idx i = 0)
    (ι : s.Idx) (p : Prop) [Decidable p] (f : p → u.Idx) (hp : ∀ k, (∀ a, d.window k a = (ι a).val) ↔ ∃ h : p, k = f h) :
    Host.scatter d (fun _ b => b) x idx v ι = if h : p then v (f h) else x ι := by
  have st : ∀ k a, d.start k idx a = 0 := fun k a => by
    unfold ScatterDims.start
    split
    · rw [hi]; rfl
    · rfl
  have lands : ∀ k, d.resultIdx? k idx = some ι ↔ ∃ h : p, k = f h := fun k => by
    rw [Routing.resultIdx?_eq_some, ← hp]
    refine forall_congr' fun a => ?_
    rw [st]
    omega
  by_cases q : p
  · rw [dif_pos q]
    refine Routing.scatter_set_hit d x idx v ι _ (fun k hk => ?_) (f q) ((lands _).2 ⟨q, rfl⟩)
    obtain ⟨_, rfl⟩ := (lands k).1 hk
    rfl
  · rw [dif_neg q]
    exact Routing.scatter_set_miss d x idx v ι fun k hk => q ((lands k).1 hk).1

theorem heads_at (x : FVec Ideal S1024x8x128 .f32) (idx : IVec S1 32) (v : FVec Ideal S1024x8x64 .f32) (hi : ∀ i, idx i = 0) (i : Fin 1024)
    (h : Fin 8) (e : Fin 128) :
    Host.scatter scatter_S1024x8x128_S1_S1024x8x64_012_n_2_0 (fun _ b => b) x idx v (ix3 i h e) =
      if q : e.val < 64 then v (ix3 i h ⟨e.val, q⟩) else x (ix3 i h e) := by
  refine set_start _ x idx v hi _ _ _ fun k => ⟨fun w => ?_, ?_⟩
  · have w0 : (k 0).val = i.val := w 0
    have w1 : (k 1).val = h.val := w 1
    have w2 : (k 2).val = e.val := w 2
    have l : (k 2).val < 64 := (k 2).isLt
    refine ⟨by omega, funext fun a => Fin.ext ?_⟩
    match a with | ⟨0, _⟩ => exact w0 | ⟨1, _⟩ => exact w1 | ⟨2, _⟩ => exact w2
  · rintro ⟨q, rfl⟩ a
    match a with | ⟨0, _⟩ => rfl | ⟨1, _⟩ => rfl | ⟨2, _⟩ => rfl

theorem left_at (x : FVec Ideal S1024x128 .f32) (idx : IVec S1 32) (v : FVec Ideal S1024x8 .f32) (hi : ∀ i, idx i = 0) (i : Fin 1024) (e : Fin 128) :
    Host.scatter scatter_S1024x128_S1_S1024x8_01_n_1_0 (fun _ b => b) x idx v (ix2 i e) =
      if q : e.val < 8 then v (ix2 i ⟨e.val, q⟩) else x (ix2 i e) := by
  refine set_start _ x idx v hi _ _ _ fun k => ⟨fun w => ?_, ?_⟩
  · have w0 : (k 0).val = i.val := w 0
    have w1 : (k 1).val = e.val := w 1
    have l : (k 1).val < 8 := (k 1).isLt
    refine ⟨by omega, funext fun a => Fin.ext ?_⟩
    match a with | ⟨0, _⟩ => exact w0 | ⟨1, _⟩ => exact w1
  · rintro ⟨q, rfl⟩ a
    match a with | ⟨0, _⟩ => rfl | ⟨1, _⟩ => rfl

theorem row8_at (x : FVec Ideal S1x128 .f32) (idx : IVec S2 32) (v : FVec Ideal S8 .f32) (hi : ∀ i, idx i = 0) (e : Fin 128) :
    Host.scatter scatter_S1x128_S2_S8_0_0_01_0 (fun _ b => b) x idx v (ix2 0 e) = if q : e.val < 8 then v (ix1 ⟨e.val, q⟩) else x (ix2 0 e) := by
  refine set_start _ x idx v hi _ _ _ fun k => ⟨fun w => ?_, ?_⟩
  · have w1 : (k 0).val = e.val := w 1
    have l : (k 0).val < 8 := (k 0).isLt
    refine ⟨by omega, funext fun a => Fin.ext ?_⟩
    match a with | ⟨0, _⟩ => exact w1
  · rintro ⟨q, rfl⟩ a
    match a with | ⟨0, _⟩ => rfl | ⟨1, _⟩ => rfl

theorem row64_at (x : FVec Ideal S1x128 .f32) (idx : IVec S2 32) (v : FVec Ideal S64 .f32) (hi : ∀ i, idx i = 0) (e : Fin 128) :
    Host.scatter scatter_S1x128_S2_S64_0_0_01_0 (fun _ b => b) x idx v (ix2 0 e) = if q : e.val < 64 then v (ix1 ⟨e.val, q⟩) else x (ix2 0 e) := by
  refine set_start _ x idx v hi _ _ _ fun k => ⟨fun w => ?_, ?_⟩
  · have w1 : (k 0).val = e.val := w 1
    have l : (k 0).val < 64 := (k 0).isLt
    refine ⟨by omega, funext fun a => Fin.ext ?_⟩
    match a with | ⟨0, _⟩ => exact w1
  · rintro ⟨q, rfl⟩ a
    match a with | ⟨0, _⟩ => rfl | ⟨1, _⟩ => rfl

/-! The places, and the arrays. -/

/-- A negative index counts from the end. -/
def wrap (n : BitVec 32) (x : IVec S8 32) : IVec S8 32 :=
  select (cmpi .slt x (broadcastInDim S8 ![] bcast_S_S8 (constantI S_ 32 0#32))) (addi x (broadcastInDim S8 ![] bcast_S_S8 (constantI S_ 32 n))) x
def wrap2 (x : IVec S2 32) : IVec S2 32 :=
  select (cmpi .slt x (broadcastInDim S2 ![] bcast_S_S2 (constantI S_ 32 0#32))) (addi x (broadcastInDim S2 ![] bcast_S_S2 (constantI S_ 32 128#32))) x

def at3 (x : IVec S8 32) (a : BitVec 32) : IVec S8x3 32 :=
  concatenate S8x3 1 [⟨S8x1, broadcastInDim S8x1 ![0] bcast_S8_S8x1_0 (wrap 8#32 (iotaInDim S8 32 0))⟩,
    ⟨S8x1, broadcastInDim S8x1 ![0] bcast_S8_S8x1_0 (wrap 256#32 x)⟩,
    ⟨S8x1, broadcastInDim S8x1 ![0] bcast_S8_S8x1_0 (id (broadcastInDim S8 ![] bcast_S_S8 (constantI S_ 32 a)) : IVec S8 32)⟩] concatenates_S8x1_S8x1_S8x1_S8x3_d1
def far : IVec S8 32 := addi (broadcastInDim S8 ![] bcast_S_S8 (constantI S_ 32 128#32)) (iotaInDim S8 32 0)
def at2 (x : IVec S2 32) : IVec S2x2 32 :=
  concatenate S2x2 1 [⟨S2x1, broadcastInDim S2x1 ![0] bcast_S2_S2x1_0 (id (broadcastInDim S2 ![] bcast_S_S2 (constantI S_ 32 0#32)) : IVec S2 32)⟩,
    ⟨S2x1, broadcastInDim S2x1 ![0] bcast_S2_S2x1_0 (wrap2 x)⟩] concatenates_S2x1_S2x1_S2x2_d1

theorem at64 : ∀ k : Fin 8, (at3 (iotaInDim S8 32 0) 64#32 (ix2 k 0)).toInt = k.val ∧ (at3 (iotaInDim S8 32 0) 64#32 (ix2 k 1)).toInt = ((0 + k.val : ℕ) : Int) ∧
    (at3 (iotaInDim S8 32 0) 64#32 (ix2 k 2)).toInt = (64 : ℕ) := by decide +kernel
theorem at65 : ∀ k : Fin 8, (at3 far 65#32 (ix2 k 0)).toInt = k.val ∧ (at3 far 65#32 (ix2 k 1)).toInt = ((128 + k.val : ℕ) : Int) ∧
    (at3 far 65#32 (ix2 k 2)).toInt = (65 : ℕ) := by decide +kernel
theorem at66 : ∀ k : Fin 8, (at3 (iotaInDim S8 32 0) 66#32 (ix2 k 0)).toInt = k.val ∧ (at3 (iotaInDim S8 32 0) 66#32 (ix2 k 1)).toInt = ((0 + k.val : ℕ) : Int) ∧
    (at3 (iotaInDim S8 32 0) 66#32 (ix2 k 2)).toInt = (66 : ℕ) := by decide +kernel
theorem at67 : ∀ k : Fin 8, (at3 far 67#32 (ix2 k 0)).toInt = k.val ∧ (at3 far 67#32 (ix2 k 1)).toInt = ((128 + k.val : ℕ) : Int) ∧
    (at3 far 67#32 (ix2 k 2)).toInt = (67 : ℕ) := by decide +kernel

def first : IVec S2 32 := fun i => lit0 (S2.rowMajor i)
def second : IVec S2 32 := fun i => lit1 (S2.rowMajor i)
theorem at_first : (∀ k : Fin 2, (at2 first (ix2 k 0)).toInt = 0) ∧ (at2 first (ix2 0 1)).toInt = (66 : ℕ) ∧ (at2 first (ix2 1 1)).toInt = (67 : ℕ) := by
  decide +kernel
theorem at_second : (∀ k : Fin 2, (at2 second (ix2 k 0)).toInt = 0) ∧ (at2 second (ix2 0 1)).toInt = (64 : ℕ) ∧ (at2 second (ix2 1 1)).toInt = (65 : ℕ) := by
  decide +kernel

theorem neg_one_eq : (Ideal.ofBits .f32 0xBF800000#32 : EReal) = -1 := by
  simp [Ideal.ofBits, Ideal.ieee]
  rw [← EReal.coe_mul]
  norm_num

/-- The array that places the decays. -/
def placing (u : BitVec 32) (a b : BitVec 32) : FVec Ideal S8x256x128 .f32 :=
  Host.scatter scatter_S8x256x128_S8x3_S8_n_012_012_1 (fun _ b => b)
    (Host.scatter scatter_S8x256x128_S8x3_S8_n_012_012_1 (fun _ b => b) (broadcastInDim S8x256x128 ![] bcast_S_S8x256x128 (constant S_ .f32 0x00000000#32))
      (at3 (iotaInDim S8 32 0) a) (broadcastInDim S8 ![] bcast_S_S8 (constant S_ .f32 u))) (at3 far b) (broadcastInDim S8 ![] bcast_S_S8 (constant S_ .f32 u))

theorem placing_at (u a b : BitVec 32) (na nb : ℕ)
    (ha : ∀ k : Fin 8, (at3 (iotaInDim S8 32 0) a (ix2 k 0)).toInt = k.val ∧ (at3 (iotaInDim S8 32 0) a (ix2 k 1)).toInt = ((0 + k.val : ℕ) : Int) ∧
      (at3 (iotaInDim S8 32 0) a (ix2 k 2)).toInt = na)
    (hb : ∀ k : Fin 8, (at3 far b (ix2 k 0)).toInt = k.val ∧ (at3 far b (ix2 k 1)).toInt = ((128 + k.val : ℕ) : Int) ∧ (at3 far b (ix2 k 2)).toInt = nb)
    (h : Fin 8) (j : Fin 256) (e : Fin 128) : placing u a b (ix3 h j e) = placed h na nb (Ideal.ofBits .f32 u) j e := by
  unfold placing placed
  have hv : ∀ k, (broadcastInDim S8 ![] bcast_S_S8 (constant (F := Ideal) S_ .f32 u) : FVec Ideal S8 .f32) k = Ideal.ofBits .f32 u := fun _ => rfl
  rw [put3_at _ _ _ (Ideal.ofBits .f32 u) hv 128 nb hb, put3_at _ _ _ (Ideal.ofBits .f32 u) hv 0 na ha]
  have z : (broadcastInDim S8x256x128 ![] bcast_S_S8x256x128 (constant (F := Ideal) S_ .f32 0x00000000#32) : FVec Ideal S8x256x128 .f32) (ix3 h j e) = (0 : EReal) :=
    Ideal.ofBits_zero .f32
  rw [z, Nat.zero_add]
  by_cases p : j.val = h.val ∧ e.val = na
  · rw [if_pos p, ite_self, if_pos (.inl p)]
  · rw [if_neg p]
    exact if_congr (by simp [p]) rfl rfl

/-- The constant lanes. -/
def lit_lanes (x : IVec S2 32) : FVec Ideal S1x128 .f32 :=
  Host.scatter scatter_S1x128_S2x2_S2_n_01_01_1 (fun _ b => b) (broadcastInDim S1x128 ![] bcast_S_S1x128 (constant S_ .f32 0x00000000#32))
    (at2 x) (broadcastInDim S2 ![] bcast_S_S2 (constant S_ .f32 0x3F800000#32))

theorem lit_lanes_at (x : IVec S2 32) (a b : ℕ) (h : (∀ k : Fin 2, (at2 x (ix2 k 0)).toInt = 0) ∧ (at2 x (ix2 0 1)).toInt = a ∧ (at2 x (ix2 1 1)).toInt = b)
    (e : Fin 128) : lit_lanes x (ix2 0 e) = ones a b e := by
  unfold lit_lanes ones
  have hv : ∀ k, (broadcastInDim S2 ![] bcast_S_S2 (constant (F := Ideal) S_ .f32 0x3F800000#32) : FVec Ideal S2 .f32) k = (1 : EReal) := fun _ => one_eq
  rw [put2_at _ _ _ (1 : EReal) hv a b h.1 h.2.1 h.2.2]
  exact if_congr Iff.rfl rfl (Ideal.ofBits_zero .f32)

/-- Zero as an index. -/
def nil : IVec S1 32 := broadcastInDim S1 ![] bcast_S_S1 (constantI S_ 32 0#32)
def nil2 : IVec S2 32 := concatenate S2 0 [⟨S1, nil⟩, ⟨S1, nil⟩] concatenates_S1_S1_S2_d0
theorem nil_at (i : S1.Idx) : nil i = 0 := rfl
theorem nil2_at (i : S2.Idx) : nil2 i = 0 := by
  rw [eq_ix1 i]
  exact (by decide +kernel : ∀ k : Fin 2, nil2 (ix1 k) = 0) (i 0)

/-- The heads' columns on 128 lanes each. -/
def head_cols (w : FVec Ideal S1024x512 .f32) : FVec Ideal S1024x1024 .f32 :=
  shapeCast S1024x1024 (Host.scatter scatter_S1024x8x128_S1_S1024x8x64_012_n_2_0 (fun _ b => b)
    (broadcastInDim S1024x8x128 ![] bcast_S_S1024x8x128 (constant S_ .f32 0x00000000#32)) nil (shapeCast S1024x8x64 w shapeCasts_S1024x512_S1024x8x64) : FVec Ideal S1024x8x128 .f32)
    shapeCasts_S1024x8x128_S1024x1024

theorem head_cols_at (w : FVec Ideal S1024x512 .f32) (i : Fin 1024) (h : Fin 8) (e : Fin 128) :
    head_cols w (ix2 i ⟨h.val * 128 + e.val, by omega⟩) = wide64 (fun d => w (ix2 i ⟨h.val * 64 + d.val, by omega⟩)) e := by
  have c (y : FVec Ideal S1024x8x128 .f32) : shapeCast S1024x1024 y shapeCasts_S1024x8x128_S1024x1024 (ix2 i ⟨h.val * 128 + e.val, by omega⟩) = y (ix3 i h e) := by
    pointwise
  have r (d : Fin 64) : shapeCast S1024x8x64 w shapeCasts_S1024x512_S1024x8x64 (ix3 i h d) = w (ix2 i ⟨h.val * 64 + d.val, by omega⟩) := by
    pointwise
  unfold head_cols wide64
  rw [c, heads_at _ _ _ nil_at]
  exact dite_congr rfl (fun q => r _) fun _ => Ideal.ofBits_zero .f32

/-- The gates' columns. -/
def gate_cols (w : FVec Ideal S1024x8 .f32) : FVec Ideal S1024x128 .f32 :=
  Host.scatter scatter_S1024x128_S1_S1024x8_01_n_1_0 (fun _ b => b) (broadcastInDim S1024x128 ![] bcast_S_S1024x128 (constant S_ .f32 0x00000000#32)) nil w

theorem gate_cols_at (w : FVec Ideal S1024x8 .f32) (i : Fin 1024) (e : Fin 128) :
    gate_cols w (ix2 i e) = if q : e.val < 8 then w (ix2 i ⟨e.val, q⟩) else (0 : EReal) := by
  unfold gate_cols
  rw [left_at _ _ _ nil_at]
  exact dite_congr rfl (fun q => rfl) fun _ => Ideal.ofBits_zero .f32

def bias_lanes (x : FVec Ideal S8 .f32) : FVec Ideal S1x128 .f32 :=
  Host.scatter scatter_S1x128_S2_S8_0_0_01_0 (fun _ b => b) (broadcastInDim S1x128 ![] bcast_S_S1x128 (constant S_ .f32 0x00000000#32)) nil2
    (mulf x (broadcastInDim S8 ![] bcast_S_S8 (constant S_ .f32 0x3F800000#32)))

theorem bias_lanes_at (x : FVec Ideal S8 .f32) (e : Fin 128) : bias_lanes x (ix2 0 e) = if q : e.val < 8 then x (ix1 ⟨e.val, q⟩) else (0 : EReal) := by
  unfold bias_lanes
  rw [row8_at _ _ _ nil2_at]
  refine dite_congr rfl (fun q => ?_) fun _ => Ideal.ofBits_zero .f32
  show x _ * Ideal.ofBits .f32 0x3F800000#32 = _
  rw [one_eq, mul_one]

def gain_lanes (u : BitVec 32) (x : FVec Ideal S64 .f32) : FVec Ideal S1x128 .f32 :=
  Host.scatter scatter_S1x128_S2_S64_0_0_01_0 (fun _ b => b) (broadcastInDim S1x128 ![] bcast_S_S1x128 (constant S_ .f32 0x00000000#32)) nil2
    (mulf x (broadcastInDim S64 ![] bcast_S_S64 (constant S_ .f32 u)))

theorem gain_lanes_at (u : BitVec 32) (x : FVec Ideal S64 .f32) (e : Fin 128) :
    gain_lanes u x (ix2 0 e) = wide64 (fun d => x (ix1 d) * Ideal.ofBits .f32 u) e := by
  unfold gain_lanes wide64
  rw [row64_at _ _ _ nil2_at]
  exact dite_congr rfl (fun q => rfl) fun _ => Ideal.ofBits_zero .f32

end Cert.Kernel5Ideal.FoxIn

end
-- ==== Proof.FoxSum.lean ====
/- A running sum down the rows of each matrix of a stack, as a window of the whole height padded from above. -/
module

public import proofs.«01_k».proof.Proof.FoxRow
public import Idealize.ShloMosaic.Lib.Pointwise

@[expose] public section

set_option maxRecDepth 16384

noncomputable section

namespace Cert.Mem

open Idealize.ShloMosaic

theorem foldl_add {n : ℕ} (f : Fin n → EReal) : (List.finRange n).foldl (fun r k => r + f k) 0 = ∑ k, f k := by
  rw [← List.sum_ofFn, List.ofFn_eq_map, List.sum_eq_foldl, List.foldl_map]

/-- The window's positions, one for each row. -/
abbrev Win (R : ℕ) : Shape := ⟨3, ![1, R, 1]⟩

def winEquiv (R : ℕ) : Fin R ≃ (Win R).Idx where
  toFun k := ix3 (n0 := 1) (n1 := R) (n2 := 1) 0 k 0
  invFun i := ⟨(i 1).val, (i 1).isLt⟩
  left_inv k := rfl
  right_inv i := by
    funext a
    match a with
    | ⟨0, _⟩ => exact Subsingleton.elim (α := Fin 1) _ _
    | ⟨1, _⟩ => rfl
    | ⟨2, _⟩ => exact Subsingleton.elim (α := Fin 1) _ _

theorem running_sum {A R C R1 : ℕ} (hR : R1 + 1 = R) (x : FVec Ideal ⟨3, ![A, R, C]⟩ .f32) (init : FVec Ideal ⟨0, ![]⟩ .f32)
    (h0 : ∀ i, init i = (0 : EReal))
    (h : (⟨3, ![A, R, C]⟩ : Shape).ReduceWindows (![1, R, 1] : Fin 3 → ℕ) ![1, 1, 1] ![0, R1, 0] ![0, 0, 0] ⟨3, ![A, R, C]⟩)
    (hu : 0 < (⟨0, ![]⟩ : Shape).numel) (F : ℕ → EReal) (b : Fin A) (t : Fin R) (l : Fin C) (hF : ∀ s : Fin R, x (ix3 b s l) = F s.val) :
    Host.reduceWindowAdd ![1, R, 1] ![1, 1, 1] ![0, R1, 0] ![0, 0, 0] x init h hu (ix3 b t l) = ∑ s ∈ Finset.range (t.val + 1), F s := by
  show Host.reduceWindow (· + ·) ![1, R, 1] ![1, 1, 1] ![0, R1, 0] ![0, 0, 0] x (fun _ : (⟨0, ![]⟩ : Shape).Idx => init (Shape.Idx.first hu)) h hu (ix3 b t l) = _
  unfold Host.reduceWindow
  dsimp only
  rw [h0]
  refine (foldl_add _).trans ?_
  rw [← Equiv.sum_comp ((winEquiv R).trans (Win R).rowMajor)]
  have ht := t.isLt
  have hb := b.isLt
  have hl := l.isLt
  refine (Finset.sum_congr rfl fun k _ => (?_ : _ = if R1 ≤ t.val + k.val then F (t.val + k.val - R1) else 0)).trans ?_
  · have e : ∀ a : Fin 3, ((Win R).rowMajor.symm (((winEquiv R).trans (Win R).rowMajor) k) a).val = ((winEquiv R) k a).val := fun a => by
      rw [Equiv.trans_apply, Equiv.symm_apply_apply]
    have e0 := e 0
    have e1 := e 1
    have e2 := e 2
    change _ = 0 at e0
    change _ = k.val at e1
    change _ = 0 at e2
    have hk := k.isLt
    split
    · next hin =>
      have h1 := hin 1
      change R1 ≤ t.val * 1 + ((Win R).rowMajor.symm _ 1).val ∧ t.val * 1 + ((Win R).rowMajor.symm _ 1).val - R1 < R at h1
      rw [e1] at h1
      rw [if_pos (by omega)]
      refine Eq.trans (congrArg x (funext fun a => Fin.ext ?_)) (hF ⟨t.val + k.val - R1, by omega⟩)
      match a with
      | ⟨0, _⟩ => show b.val * 1 + ((Win R).rowMajor.symm _ 0).val - 0 = b.val; rw [e0]; omega
      | ⟨1, _⟩ => show t.val * 1 + ((Win R).rowMajor.symm _ 1).val - R1 = t.val + k.val - R1; rw [e1]; omega
      | ⟨2, _⟩ => show l.val * 1 + ((Win R).rowMajor.symm _ 2).val - 0 = l.val; rw [e2]; omega
    · next hin =>
      rw [if_neg fun hle => hin fun a => ?_]
      match a with
      | ⟨0, _⟩ =>
        show 0 ≤ b.val * 1 + ((Win R).rowMajor.symm _ 0).val ∧ b.val * 1 + ((Win R).rowMajor.symm _ 0).val - 0 < A
        rw [e0]; omega
      | ⟨1, _⟩ =>
        show R1 ≤ t.val * 1 + ((Win R).rowMajor.symm _ 1).val ∧ t.val * 1 + ((Win R).rowMajor.symm _ 1).val - R1 < R
        rw [e1]; omega
      | ⟨2, _⟩ =>
        show 0 ≤ l.val * 1 + ((Win R).rowMajor.symm _ 2).val ∧ l.val * 1 + ((Win R).rowMajor.symm _ 2).val - 0 < C
        rw [e2]; omega
  · rw [← Finset.sum_range fun k => if R1 ≤ t.val + k then F (t.val + k - R1) else 0, ← Finset.sum_filter]
    refine Finset.sum_bij (fun k _ => t.val + k - R1) (fun k hk => ?_) (fun k hk k' hk' e => ?_) (fun s hs => ?_) fun _ _ => rfl
    · simp only [Finset.mem_filter, Finset.mem_range] at hk ⊢
      omega
    · simp only [Finset.mem_filter, Finset.mem_range] at hk hk'
      omega
    · simp only [Finset.mem_range] at hs
      exact ⟨s + R1 - t.val, by simp only [Finset.mem_filter, Finset.mem_range]; omega, by omega⟩

end Cert.Mem

end
-- ==== Proof.FoxInRef.lean ====
/- What the reference of the attention's input projection computes, one element at a time. -/
module

public import proofs.«01_k».proof.Proof.Gen.Reference5Ideal.Read
public import proofs.«01_k».proof.Proof.FoxSum
public import Idealize.ShloMosaic.Lib.Pointwise

@[expose] public section

set_option maxRecDepth 16384

noncomputable section

namespace Cert.Reference5Ideal.FoxIn

open Cert.Reference5Ideal Cert.Reference5Ideal.Gen Cert.Reference5Ideal.Read Idealize.ShloMosaic Cert.Mem

/-- The heads normalized. -/
def normed (y : FVec Ideal S2x16384x8x64 .f32) (g : FVec Ideal S64 .f32) : FVec Ideal S2x16384x8x64 .f32 :=
  mulf (mulf y (broadcastInDim S2x16384x8x64 ![0, 1, 2, 3] bcast_S2x16384x8x1_S2x16384x8x64_0_1_2_3
    (Host.rsqrt (addf (Host.divf
      (broadcastInDim S2x16384x8x1 ![0, 1, 2] bcast_S2x16384x8_S2x16384x8x1_0_1_2
        (Host.reduceAdd (mulf y y) (val_main_cst_2 (F := Ideal)) reducesTo_S2x16384x8x64_S2x16384x8_d3 h_S_ : FVec Ideal S2x16384x8 .f32) : FVec Ideal S2x16384x8x1 .f32)
      (val_main_v21 (F := Ideal))) (val_main_v23 (F := Ideal))) : FVec Ideal S2x16384x8x1 .f32) : FVec Ideal S2x16384x8x64 .f32))
    (val_main_v29 (F := Ideal) g)

theorem normed_at (y : FVec Ideal S2x16384x8x64 .f32) (g : FVec Ideal S64 .f32) (b : Fin 2) (r : Fin 16384) (h : Fin 8) (d : Fin 64) :
    normed y g (ix4 b r h d) = rms n64 (fun d => y (ix4 b r h d)) (fun d => g (ix1 d)) d := by
  unfold rms
  pointwise [normed, val_main_v21, val_main_v23, val_main_v28, val_main_v29, val_main_cst_2, val_main_cst_3, val_main_cst_4]

/-- The lanes side by side. -/
def joined (y : FVec Ideal S2x16384x8x64 .f32) (a b c d : FVec Ideal S2x16384x8x1 .f32) (z : FVec Ideal S2x16384x8x60 .f32) :
    FVec Ideal S2x16384x8x128 .f32 :=
  concatenate S2x16384x8x128 3 [⟨S2x16384x8x64, y⟩, ⟨S2x16384x8x1, a⟩, ⟨S2x16384x8x1, b⟩, ⟨S2x16384x8x1, c⟩, ⟨S2x16384x8x1, d⟩, ⟨S2x16384x8x60, z⟩]
    concatenates_S2x16384x8x64_S2x16384x8x1_S2x16384x8x1_S2x16384x8x1_S2x16384x8x1_S2x16384x8x60_S2x16384x8x128_d3

theorem joined_at (y : FVec Ideal S2x16384x8x64 .f32) (a b c d : FVec Ideal S2x16384x8x1 .f32) (z : FVec Ideal S2x16384x8x60 .f32)
    (hz : ∀ i, z i = (0 : EReal)) (p : Fin 2) (r : Fin 16384) (h : Fin 8) (e : Fin 128) :
    joined y a b c d z (ix4 p r h e) = if q : e.val < 64 then y (ix4 p r h ⟨e.val, q⟩) else if e.val = 64 then a (ix4 p r h 0)
      else if e.val = 65 then b (ix4 p r h 0) else if e.val = 66 then c (ix4 p r h 0) else if e.val = 67 then d (ix4 p r h 0) else 0 := by
  pointwise [joined]
  have one (u : FVec Ideal S2x16384x8x1 .f32) (i : Fin 1) : u (ix4 p r h i) = u (ix4 p r h 0) := by rw [Subsingleton.elim i 0]
  by_cases h0 : e.val < 64
  · rw [dif_pos h0, dif_pos h0]
  rw [dif_neg h0, dif_neg h0]
  by_cases h1 : e.val = 64
  · rw [dif_pos (by omega), if_pos h1]; exact one a _
  rw [dif_neg (by omega), if_neg h1]
  by_cases h2 : e.val = 65
  · rw [dif_pos (by omega), if_pos h2]; exact one b _
  rw [dif_neg (by omega), if_neg h2]
  by_cases h3 : e.val = 66
  · rw [dif_pos (by omega), if_pos h3]; exact one c _
  rw [dif_neg (by omega), if_neg h3]
  by_cases h4 : e.val = 67
  · rw [dif_pos (by omega), if_pos h4]; exact one d _
  rw [dif_neg (by omega), if_neg h4]
  exact hz _

/-- The pads. -/
theorem v51_pad (y : FVec Ideal S2x16384x8 .f32) (v : FVec Ideal S_ .f32) (hv : ∀ i, v i = (0 : EReal)) (b : Fin 2) (r : Fin 16384) (l : Fin 128) :
    pad S2x16384x128 ![0, 0, 0] ![0, 0, 120] ![0, 0, 0] y v pads_S2x16384x8_S2x16384x128_000_000_01200 h_S_ (ix3 b r l) =
      if h : l.val < 8 then y (ix3 b r ⟨l.val, h⟩) else 0 := by
  pointwise
  rw [hv]
theorem v57_pad (y : FVec Ideal S2x31x128 .f32) (v : FVec Ideal S_ .f32) (hv : ∀ i, v i = (0 : EReal)) (b : Fin 2) (n : Fin 32) (l : Fin 128) :
    pad S2x32x128 ![0, 1, 0] ![0, 0, 0] ![0, 0, 0] y v pads_S2x31x128_S2x32x128_000_100_000 h_S_ (ix3 b n l) =
      if h : n.val = 0 then 0 else y (ix3 b ⟨n.val - 1, by omega⟩ l) := by
  pointwise
  by_cases h0 : n.val = 0
  · rw [dif_pos h0, dif_neg (by omega), hv]
  · rw [dif_neg h0, dif_pos (by omega)]

variable (x0 : FVec Ideal S2x16384x1024 .f32) (x1 : FVec Ideal S1024 .f32) (x2 : FVec Ideal S1024x3600 .f32)
  (x3 x4 : FVec Ideal S64 .f32) (x5 : FVec Ideal S8 .f32)

/-- A token, normalized. -/
def row (b : Fin 2) (r : Fin 16384) : Fin 1024 → EReal := rms n1024 (fun k => x0 (ix3 b r k)) fun k => x1 (ix1 k)

theorem v12_at (b : Fin 2) (r : Fin 16384) (k : Fin 1024) :
    val_main_v12 (F := Ideal) x0 x1 (ix3 b r k) = row x0 x1 b r k := by
  unfold row rms
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- One entry of the projection. -/
def entry (b : Fin 2) (r : Fin 16384) (k : Fin 3600) : EReal := lin (row x0 x1 b r) fun j => x2 (ix2 j k)

theorem v13_at (b : Fin 2) (r : Fin 16384) (k : Fin 3600) (i : S2x16384x3600.Idx) (h0 : (i 0).val = b.val)
    (h1 : (i 1).val = r.val) (h2 : (i 2).val = k.val) : val_main_v13 (F := Ideal) x0 x1 x2 i = entry x0 x1 x2 b r k := by
  rw [val_main_v13_apply, entry, lin]
  refine Finset.sum_congr rfl fun j _ => congrArg₂ (· * ·) ?_ (congrArg x2 ?_)
  · refine Eq.trans (congrArg (val_main_v12 (F := Ideal) x0 x1) ?_) (v12_at x0 x1 b r j)
    exact funext fun a => Fin.ext (by match a with | ⟨0, _⟩ => exact h0 | ⟨1, _⟩ => exact h1 | ⟨2, _⟩ => rfl)
  · exact funext fun a => Fin.ext (by match a with | ⟨0, _⟩ => rfl | ⟨1, _⟩ => exact h2)

/-- The columns of a head's query and key. -/
abbrev qcol (h : Fin 8) (d : Fin 64) : Fin 3600 := ⟨2056 + (h.val * 64 + d.val), by omega⟩
abbrev kcol (h : Fin 8) (d : Fin 64) : Fin 3600 := ⟨2568 + (h.val * 64 + d.val), by omega⟩

theorem v17_at (b : Fin 2) (r : Fin 16384) (h : Fin 8) (d : Fin 64) :
    val_main_v17 (F := Ideal) x0 x1 x2 (ix4 b r h d) = entry x0 x1 x2 b r (qcol h d) := by
  have hb := b.isLt; have hr := r.isLt; have hh := h.isLt; have hd := d.isLt
  rw [val_main_v17_apply, val_main_v14_apply]
  refine v13_at x0 x1 x2 b r _ _ ?_ ?_ ?_
  · show (((b.val * 16384 + r.val) * 8 + h.val) * 64 + d.val) / 8388608 = b.val; omega
  · show (((b.val * 16384 + r.val) * 8 + h.val) * 64 + d.val) / 512 % 16384 = r.val; omega
  · show 2056 + (((b.val * 16384 + r.val) * 8 + h.val) * 64 + d.val) % 512 = 2056 + (h.val * 64 + d.val); omega
theorem v33_at (b : Fin 2) (r : Fin 16384) (h : Fin 8) (d : Fin 64) :
    val_main_v33 (F := Ideal) x0 x1 x2 (ix4 b r h d) = entry x0 x1 x2 b r (kcol h d) := by
  have hb := b.isLt; have hr := r.isLt; have hh := h.isLt; have hd := d.isLt
  rw [val_main_v33_apply, val_main_v15_apply]
  refine v13_at x0 x1 x2 b r _ _ ?_ ?_ ?_
  · show (((b.val * 16384 + r.val) * 8 + h.val) * 64 + d.val) / 8388608 = b.val; omega
  · show (((b.val * 16384 + r.val) * 8 + h.val) * 64 + d.val) / 512 % 16384 = r.val; omega
  · show 2568 + (((b.val * 16384 + r.val) * 8 + h.val) * 64 + d.val) % 512 = 2568 + (h.val * 64 + d.val); omega

theorem v32_at (b : Fin 2) (r : Fin 16384) (h : Fin 8) (d : Fin 64) : val_main_v32 (F := Ideal) x0 x1 x2 x3 (ix4 b r h d) =
    rms n64 (fun d => entry x0 x1 x2 b r (qcol h d)) (fun d => x3 (ix1 d)) d * eighth := by
  have e : val_main_v30 (F := Ideal) x0 x1 x2 x3 = normed (val_main_v17 (F := Ideal) x0 x1 x2) x3 := rfl
  rw [val_main_v32_apply, e, normed_at, val_main_v31_apply]
  simp only [v17_at]
  rfl
theorem v46_at (b : Fin 2) (r : Fin 16384) (h : Fin 8) (d : Fin 64) : val_main_v46 (F := Ideal) x0 x1 x2 x4 (ix4 b r h d) =
    rms n64 (fun d => entry x0 x1 x2 b r (kcol h d)) (fun d => x4 (ix1 d)) d := by
  have e : val_main_v46 (F := Ideal) x0 x1 x2 x4 = normed (val_main_v33 (F := Ideal) x0 x1 x2) x4 := rfl
  rw [e, normed_at]
  simp only [v33_at]

/-! The decay. -/

/-- A head's decay at a token before the logarithm; the lanes past the heads are padded. -/
def score (b : Fin 2) (r : Fin 16384) (l : Fin 128) : EReal :=
  if h : l.val < 8 then entry x0 x1 x2 b r ⟨3592 + l.val, by omega⟩ + x5 (ix1 ⟨l.val, h⟩) else 0

theorem v51_at (b : Fin 2) (r : Fin 16384) (l : Fin 128) : val_main_v51 (F := Ideal) x0 x1 x2 x5 (ix3 b r l) = score x0 x1 x2 x5 b r l := by
  unfold val_main_v51 score
  refine (v51_pad _ _ (fun i => ?_) b r l).trans ?_
  · show ((((0#32 : BitVec 32).toInt : ℝ)) : EReal) = 0
    simp
  · refine dite_congr rfl (fun h => ?_) fun _ => rfl
    rw [val_main_v50_apply, val_main_v49_apply, val_main_v48_apply, val_main_v47_apply, v13_at x0 x1 x2 b r ⟨3592 + l.val, by omega⟩ _ rfl rfl rfl]
    refine congrArg (fun z => _ + x5 z) ?_
    exact funext fun a => Fin.ext (by match a with | ⟨0, _⟩ => rfl)

theorem v52_at (b : Fin 2) (r : Fin 16384) (l : Fin 128) :
    val_main_v52 (F := Ideal) x0 x1 x2 x5 (ix3 b r l) = logsig (score x0 x1 x2 x5 b r l) := by
  have h := v51_at x0 x1 x2 x5 b r l
  generalize score x0 x1 x2 x5 b r l = z at h ⊢
  have h0 : val_main_call1_v0 (F := Ideal) x0 x1 x2 x5 (ix3 b r l) = (-z : EReal) := by
    rw [val_main_call1_v0_apply, h]; rfl
  have h4 : val_main_call1_call0_v4 (F := Ideal) x0 x1 x2 x5 (ix3 b r l) = 0#1 := by
    rw [val_main_call1_call0_v4_apply]
    show BitVec.ofBool (decide (_ ≠ _)) = _
    simp
  rw [val_main_v52_apply, val_main_call1_v1_apply, h4, val_main_call1_call0_v11_apply, val_main_call1_call0_v1_apply,
    val_main_call1_call0_v0_apply, val_main_call1_call0_cst_apply, val_main_call1_call0_v10_apply, val_main_call1_call0_v9_apply,
    val_main_call1_call0_v8_apply, val_main_call1_call0_v7_apply, val_main_call1_call0_v3_apply, val_main_call1_call0_v2_apply,
    val_main_call1_call0_cst_apply, h0]
  show -(max (-z) (Ideal.ofBits .f32 0#32) +
    Ideal.log (1 + Ideal.exp (-max (-z - Ideal.ofBits .f32 0#32) (-(-z - Ideal.ofBits .f32 0#32))))) = _
  rw [Ideal.ofBits_zero, sub_zero]
  rfl

/-- The decays of a lane, one token after another. -/
def decay (b : Fin 2) (l : Fin 128) (s : ℕ) : EReal := if h : s < 16384 then logsig (score x0 x1 x2 x5 b ⟨s, h⟩ l) else 0

theorem v53_at (b : Fin 2) (r : Fin 16384) (l : Fin 128) :
    val_main_v53 (F := Ideal) x0 x1 x2 x5 (ix3 b r l) = ∑ s ∈ Finset.range (r.val + 1), decay x0 x1 x2 x5 b l s := by
  unfold val_main_v53
  refine running_sum (R1 := 16383) rfl _ _ (fun i => ?_) _ _ (decay x0 x1 x2 x5 b l) b r l fun s => ?_
  · rw [val_main_call2_call0_v0_apply]; exact Ideal.ofBits_zero .f32
  · rw [v52_at, decay, dif_pos s.isLt]

/-- The sum up to a block. -/
theorem v57_at (b : Fin 2) (n : Fin 32) (l : Fin 128) :
    val_main_v57 (F := Ideal) x0 x1 x2 x5 (ix3 b n l) = ∑ s ∈ Finset.range (512 * n.val), decay x0 x1 x2 x5 b l s := by
  unfold val_main_v57
  refine (v57_pad _ _ (fun i => ?_) b n l).trans ?_
  · show ((((0#32 : BitVec 32).toInt : ℝ)) : EReal) = 0
    simp
  · have hb := b.isLt; have hn := n.isLt; have hl := l.isLt
    by_cases h : n.val = 0
    · rw [dif_pos h, h]; rfl
    · rw [dif_neg h, val_main_v56_apply, val_main_v55_apply, val_main_v54_apply]
      refine Eq.trans (congrArg (val_main_v53 (F := Ideal) x0 x1 x2 x5) (funext fun a => Fin.ext ?_))
        ((v53_at x0 x1 x2 x5 b ⟨512 * n.val - 1, by omega⟩ l).trans ?_)
      · obtain ⟨N, hN⟩ : ∃ N, N = n.val - 1 := ⟨_, rfl⟩
        have q0 : ((b.val * 31 + (n.val - 1)) * 128 + l.val) / 3968 = b.val := by omega
        have q1 : ((b.val * 31 + (n.val - 1)) * 128 + l.val) / 128 % 31 = n.val - 1 := by omega
        have q2 : ((b.val * 31 + (n.val - 1)) * 128 + l.val) % 128 = l.val := by omega
        match a with
        | ⟨0, _⟩ =>
          show (((((b.val * 31 + (n.val - 1)) * 128 + l.val) / 3968 * 32 + ((b.val * 31 + (n.val - 1)) * 128 + l.val) / 128 % 31) * 512 + (511 + 0)) * 128 +
            ((b.val * 31 + (n.val - 1)) * 128 + l.val) % 128) / 2097152 = b.val
          rw [q0, q1, q2]; omega
        | ⟨1, _⟩ =>
          show (((((b.val * 31 + (n.val - 1)) * 128 + l.val) / 3968 * 32 + ((b.val * 31 + (n.val - 1)) * 128 + l.val) / 128 % 31) * 512 + (511 + 0)) * 128 +
            ((b.val * 31 + (n.val - 1)) * 128 + l.val) % 128) / 128 % 16384 = 512 * n.val - 1
          rw [q0, q1, q2]; omega
        | ⟨2, _⟩ =>
          show (((((b.val * 31 + (n.val - 1)) * 128 + l.val) / 3968 * 32 + ((b.val * 31 + (n.val - 1)) * 128 + l.val) / 128 % 31) * 512 + (511 + 0)) * 128 +
            ((b.val * 31 + (n.val - 1)) * 128 + l.val) % 128) % 128 = l.val
          rw [q0, q1, q2]; omega
      · refine congrArg (fun k => ∑ s ∈ Finset.range k, decay x0 x1 x2 x5 b l s) ?_
        show 512 * n.val - 1 + 1 = 512 * n.val
        omega

/-- The sum within a block, up to a token. -/
def within (b : Fin 2) (r : Fin 16384) (l : Fin 128) : EReal :=
  ∑ s ∈ Finset.range (r.val % 512 + 1), decay x0 x1 x2 x5 b l (512 * (r.val / 512) + s)

theorem v60_at (b : Fin 2) (r : Fin 16384) (l : Fin 128) (hd : ∀ s, IsReal (decay x0 x1 x2 x5 b l s)) (i : S2x32x512x128.Idx)
    (e0 : (i 0).val = b.val) (e1 : (i 1).val = r.val / 512) (e2 : (i 2).val = r.val % 512) (e3 : (i 3).val = l.val) :
    val_main_v60 (F := Ideal) x0 x1 x2 x5 i = within x0 x1 x2 x5 b r l := by
  have hb := b.isLt; have hr := r.isLt; have hl := l.isLt
  have h54 : val_main_v54 (F := Ideal) x0 x1 x2 x5 i = ∑ s ∈ Finset.range (r.val + 1), decay x0 x1 x2 x5 b l s := by
    rw [val_main_v54_apply]
    refine Eq.trans (congrArg (val_main_v53 (F := Ideal) x0 x1 x2 x5) (funext fun a => Fin.ext ?_)) (v53_at x0 x1 x2 x5 b r l)
    match a with
    | ⟨0, _⟩ => show ((((i 0).val * 32 + (i 1).val) * 512 + (i 2).val) * 128 + (i 3).val) / 2097152 = b.val; rw [e0, e1, e2, e3]; omega
    | ⟨1, _⟩ => show ((((i 0).val * 32 + (i 1).val) * 512 + (i 2).val) * 128 + (i 3).val) / 128 % 16384 = r.val; rw [e0, e1, e2, e3]; omega
    | ⟨2, _⟩ => show ((((i 0).val * 32 + (i 1).val) * 512 + (i 2).val) * 128 + (i 3).val) % 128 = l.val; rw [e0, e1, e2, e3]; omega
  have h59 : val_main_v59 (F := Ideal) x0 x1 x2 x5 i = ∑ s ∈ Finset.range (512 * (r.val / 512)), decay x0 x1 x2 x5 b l s := by
    rw [val_main_v59_apply, val_main_v58_apply]
    refine Eq.trans (congrArg (val_main_v57 (F := Ideal) x0 x1 x2 x5) (funext fun a => Fin.ext ?_)) (v57_at x0 x1 x2 x5 b ⟨r.val / 512, by omega⟩ l)
    match a with
    | ⟨0, _⟩ => exact e0
    | ⟨1, _⟩ => exact e1
    | ⟨2, _⟩ => exact e3
  have hsum : ∑ s ∈ Finset.range (r.val + 1), decay x0 x1 x2 x5 b l s =
      ∑ s ∈ Finset.range (512 * (r.val / 512)), decay x0 x1 x2 x5 b l s + within x0 x1 x2 x5 b r l := by
    rw [within, ← Finset.sum_range_add]
    refine congrArg (fun k => ∑ s ∈ Finset.range k, decay x0 x1 x2 x5 b l s) ?_
    omega
  rw [val_main_v60_apply, h54, h59, hsum]
  exact IsReal.add_sub (IsReal.sum _ _ fun s _ => hd s) (IsReal.sum _ _ fun s _ => hd _)

theorem v63_at (b : Fin 2) (r : Fin 16384) (h : Fin 8) (hd : ∀ s, IsReal (decay x0 x1 x2 x5 b ⟨h.val, by omega⟩ s)) :
    val_main_v63 (F := Ideal) x0 x1 x2 x5 (ix4 b r h 0) = within x0 x1 x2 x5 b r ⟨h.val, by omega⟩ := by
  have hb := b.isLt; have hr := r.isLt; have hh := h.isLt
  rw [val_main_v63_apply, val_main_v62_apply, val_main_v61_apply]
  refine v60_at x0 x1 x2 x5 b r ⟨h.val, by omega⟩ hd _ ?_ ?_ ?_ ?_
  · show ((b.val * 16384 + r.val) * 128 + h.val) / 2097152 = b.val; omega
  · show ((b.val * 16384 + r.val) * 128 + h.val) / 65536 % 32 = r.val / 512; omega
  · show ((b.val * 16384 + r.val) * 128 + h.val) / 128 % 512 = r.val % 512; omega
  · show ((b.val * 16384 + r.val) * 128 + h.val) % 128 = h.val; omega

/-! The results. -/

theorem q_at (b : Fin 2) (h : Fin 8) (r : Fin 16384) (e : Fin 128) (hd : ∀ s, IsReal (decay x0 x1 x2 x5 b ⟨h.val, by omega⟩ s)) :
    val_main_v71 (F := Ideal) x0 x1 x2 x3 x5 (ix4 b h r e) =
      qlane (fun d => entry x0 x1 x2 b r (qcol h d)) (fun d => x3 (ix1 d)) (within x0 x1 x2 x5 b r ⟨h.val, by omega⟩) e := by
  rw [val_main_v71_apply, val_main_v70_apply]
  show val_main_v67 (F := Ideal) x0 x1 x2 x3 x5 _ = _
  refine Eq.trans (congrArg (val_main_v67 (F := Ideal) x0 x1 x2 x3 x5) (?_ : _ = ix4 b r h e)) ?_
  · exact funext fun a => Fin.ext (by match a with | ⟨0, _⟩ => rfl | ⟨1, _⟩ => rfl | ⟨2, _⟩ => rfl | ⟨3, _⟩ => rfl)
  · have hz : ∀ i, val_main_v66 (F := Ideal) i = (0 : EReal) := fun i => by rw [val_main_v66_apply]; exact Ideal.ofBits_zero .f32
    have h0 : ∀ i, val_main_v65 (F := Ideal) i = (0 : EReal) := fun i => by rw [val_main_v65_apply]; exact Ideal.ofBits_zero .f32
    have h1 : ∀ i, val_main_v64 (F := Ideal) i = (1 : EReal) := fun i => by rw [val_main_v64_apply]; exact one_eq
    refine (joined_at (val_main_v32 (F := Ideal) x0 x1 x2 x3) (val_main_v63 (F := Ideal) x0 x1 x2 x5) (val_main_v65 (F := Ideal))
      (val_main_v64 (F := Ideal)) (val_main_v64 (F := Ideal)) (val_main_v66 (F := Ideal)) hz b r h e).trans ?_
    rw [v63_at x0 x1 x2 x5 b r h hd, h0, h1]
    unfold qlane ones
    refine dite_congr rfl (fun q => v32_at x0 x1 x2 x3 b r h _) fun q => ?_
    by_cases e4 : e.val = 64
    · rw [if_pos e4, if_pos e4]
    · rw [if_neg e4, if_neg e4]
      by_cases e5 : e.val = 65
      · rw [if_pos e5, if_neg (by omega)]
      · rw [if_neg e5]
        by_cases e6 : e.val = 66
        · rw [if_pos e6, if_pos (.inl e6)]
        · rw [if_neg e6]
          exact if_congr (by simp [e6]) rfl rfl

theorem k_at (b : Fin 2) (h : Fin 8) (r : Fin 16384) (e : Fin 128) (hd : ∀ s, IsReal (decay x0 x1 x2 x5 b ⟨h.val, by omega⟩ s)) :
    val_main_v73 (F := Ideal) x0 x1 x2 x4 x5 (ix4 b h r e) =
      klane (fun d => entry x0 x1 x2 b r (kcol h d)) (fun d => x4 (ix1 d)) (within x0 x1 x2 x5 b r ⟨h.val, by omega⟩) e := by
  rw [val_main_v73_apply, val_main_v72_apply]
  show val_main_v69 (F := Ideal) x0 x1 x2 x4 x5 _ = _
  refine Eq.trans (congrArg (val_main_v69 (F := Ideal) x0 x1 x2 x4 x5) (?_ : _ = ix4 b r h e)) ?_
  · exact funext fun a => Fin.ext (by match a with | ⟨0, _⟩ => rfl | ⟨1, _⟩ => rfl | ⟨2, _⟩ => rfl | ⟨3, _⟩ => rfl)
  · have hz : ∀ i, val_main_v66 (F := Ideal) i = (0 : EReal) := fun i => by rw [val_main_v66_apply]; exact Ideal.ofBits_zero .f32
    have h0 : ∀ i, val_main_v65 (F := Ideal) i = (0 : EReal) := fun i => by rw [val_main_v65_apply]; exact Ideal.ofBits_zero .f32
    have h1 : ∀ i, val_main_v64 (F := Ideal) i = (1 : EReal) := fun i => by rw [val_main_v64_apply]; exact one_eq
    refine (joined_at (val_main_v46 (F := Ideal) x0 x1 x2 x4) (val_main_v64 (F := Ideal)) (val_main_v64 (F := Ideal))
      (val_main_v68 (F := Ideal) x0 x1 x2 x5) (val_main_v65 (F := Ideal)) (val_main_v66 (F := Ideal)) hz b r h e).trans ?_
    rw [val_main_v68_apply, v63_at x0 x1 x2 x5 b r h hd, h0, h1]
    unfold klane ones
    refine dite_congr rfl (fun q => v46_at x0 x1 x2 x4 b r h _) fun q => ?_
    by_cases e6 : e.val = 66
    · rw [if_neg (by omega), if_neg (by omega), if_pos e6, if_pos e6]
      rfl
    · rw [if_neg e6, if_neg e6, ite_self]
      by_cases e4 : e.val = 64
      · rw [if_pos e4, if_pos (.inl e4)]
      · rw [if_neg e4]
        exact if_congr (by simp [e4]) rfl rfl

theorem v_at (b : Fin 2) (r : Fin 16384) (k : Fin 512) :
    val_main_v74 (F := Ideal) x0 x1 x2 (ix3 b r k) = entry x0 x1 x2 b r ⟨3080 + k.val, by omega⟩ := by
  rw [val_main_v74_apply, val_main_v16_apply]
  exact v13_at x0 x1 x2 b r _ _ rfl rfl rfl

theorem start_at (b : Fin 2) (n : Fin 32) (h : Fin 8) (l : Fin 128) :
    val_main_v77 (F := Ideal) x0 x1 x2 x5 (ix4 b n h l) = ∑ s ∈ Finset.range (512 * n.val), decay x0 x1 x2 x5 b l s := by
  have hb := b.isLt; have hn := n.isLt; have hh := h.isLt; have hl := l.isLt
  rw [val_main_v77_apply, val_main_v76_apply, val_main_v75_apply]
  refine Eq.trans (congrArg (val_main_v57 (F := Ideal) x0 x1 x2 x5) (funext fun a => Fin.ext ?_)) (v57_at x0 x1 x2 x5 b n l)
  match a with
  | ⟨0, _⟩ => show (((b.val * 32 + n.val) * 8 + h.val) * 128 + l.val) / 32768 = b.val; omega
  | ⟨1, _⟩ => show (((b.val * 32 + n.val) * 8 + h.val) * 128 + l.val) / 1024 % 32 = n.val; omega
  | ⟨2, _⟩ => show (((b.val * 32 + n.val) * 8 + h.val) * 128 + l.val) % 128 = l.val; omega

/-! Where the gain, the weights and the bias are real numbers, so are the projection and the decays. -/

theorem row_real (h1 : ∀ i, IsReal (x1 i)) (b : Fin 2) (r : Fin 16384) (k : Fin 1024) :
    IsReal (row x0 x1 b r k) := by
  unfold row
  rw [n1024_eq]
  exact IsReal.rms_any 1024 (by norm_num) _ _ (fun _ => h1 _) k

theorem entry_real (h1 : ∀ i, IsReal (x1 i)) (h2 : ∀ i, IsReal (x2 i)) (b : Fin 2) (r : Fin 16384) (k : Fin 3600) :
    IsReal (entry x0 x1 x2 b r k) :=
  IsReal.lin (row_real x0 x1 h1 b r) fun _ => h2 _

theorem decay_real (h1 : ∀ i, IsReal (x1 i)) (h2 : ∀ i, IsReal (x2 i)) (h5 : ∀ i, IsReal (x5 i))
    (b : Fin 2) (l : Fin 128) (s : ℕ) : IsReal (decay x0 x1 x2 x5 b l s) := by
  unfold decay
  split
  · refine IsReal.logsig ?_
    unfold score
    split
    · exact (entry_real x0 x1 x2 h1 h2 _ _ _).add (h5 _)
    · exact IsReal.zero
  · exact IsReal.zero

end Cert.Reference5Ideal.FoxIn

end
-- ==== Proof.FoxInHost.lean ====
/- What the attention's input projection finds in its blocks. -/
module

public import proofs.«01_k».proof.Proof.FoxInPut
public import proofs.«01_k».proof.Proof.FoxInRef
public import Idealize.ShloMosaic.Lib.StableHlo.RunRead

@[expose] public section

set_option maxRecDepth 16384

noncomputable section

namespace Cert.Kernel5Ideal.FoxIn

open Cert.Kernel5Ideal Cert.Kernel5Ideal.Gen Idealize.ShloMosaic Idealize.ShloMosaic.TcCoe Idealize.SL.Sem Idealize.ShloMosaic.StableHlo Cert.Mem

variable (m : (ℓ : Loc nD τ sig) → Buf (Elt Ideal) ℓ) (c : Dev nD)

/-- The launched arguments. -/
abbrev a0 : FVec Ideal S2x16384x1024 .f32 := m ((c : Thread nD τ).loc main_arg0)
abbrev a1 : FVec Ideal S1024 .f32 := m ((c : Thread nD τ).loc main_arg1)
abbrev a2 : FVec Ideal S1024x3600 .f32 := m ((c : Thread nD τ).loc main_arg2)
abbrev a3 : FVec Ideal S64 .f32 := m ((c : Thread nD τ).loc main_arg3)
abbrev a4 : FVec Ideal S64 .f32 := m ((c : Thread nD τ).loc main_arg4)
abbrev a5 : FVec Ideal S8 .f32 := m ((c : Thread nD τ).loc main_arg5)

/-- The columns as the kernel finds them. -/
def qmat (w : FVec Ideal S1024x3600 .f32) : FVec Ideal S1024x1024 .bf16 :=
  truncf .bf16 (head_cols (extractStridedSlice S1024x512 ![0, 2056] w slices_S1024x3600_S1024x512_0_2056)) bitsLt_bf16_f32
def kmat (w : FVec Ideal S1024x3600 .f32) : FVec Ideal S1024x1024 .bf16 :=
  truncf .bf16 (head_cols (extractStridedSlice S1024x512 ![0, 2568] w slices_S1024x3600_S1024x512_0_2568)) bitsLt_bf16_f32
def gmat (w : FVec Ideal S1024x3600 .f32) : FVec Ideal S1024x128 .bf16 :=
  truncf .bf16 (gate_cols (extractStridedSlice S1024x8 ![0, 3592] w slices_S1024x3600_S1024x8_0_3592)) bitsLt_bf16_f32

theorem V129 : (V m c main_v129 : FVec Ideal S1x1024 .f32) = broadcastInDim S1x1024 ![1] bcast_S1024_S1x1024_1 (a1 m c) := by
  show after hostOps0 (fun b => m (c, b)) (Proc.devRef .tc main_v129) = _
  after_reads_simp
theorem V114 : (V m c main_v114 : FVec Ideal S1024x1024 .bf16) = qmat (a2 m c) := by
  show after hostOps0 (fun b => m (c, b)) (Proc.devRef .tc main_v114) = _
  after_reads_simp
  unfold qmat head_cols nil
  rfl
theorem V121 : (V m c main_v121 : FVec Ideal S1024x1024 .bf16) = kmat (a2 m c) := by
  show after hostOps0 (fun b => m (c, b)) (Proc.devRef .tc main_v121) = _
  after_reads_simp
  unfold kmat head_cols nil
  rfl
theorem V123 : (V m c main_v123 : FVec Ideal S1024x512 .bf16) =
    truncf .bf16 (extractStridedSlice S1024x512 ![0, 3080] (a2 m c) slices_S1024x3600_S1024x512_0_3080) bitsLt_bf16_f32 := by
  show after hostOps0 (fun b => m (c, b)) (Proc.devRef .tc main_v123) = _
  after_reads_simp
theorem V128 : (V m c main_v128 : FVec Ideal S1024x128 .bf16) = gmat (a2 m c) := by
  show after hostOps0 (fun b => m (c, b)) (Proc.devRef .tc main_v128) = _
  after_reads_simp
  unfold gmat gate_cols nil
  rfl
theorem V136 : (V m c main_v136 : FVec Ideal S1x128 .f32) = bias_lanes (a5 m c) := by
  show after hostOps0 (fun b => m (c, b)) (Proc.devRef .tc main_v136) = _
  after_reads_simp
  unfold bias_lanes nil2 nil
  rfl
theorem V143 : (V m c main_v143 : FVec Ideal S1x128 .f32) = gain_lanes 0x3E000000#32 (a3 m c) := by
  show after hostOps0 (fun b => m (c, b)) (Proc.devRef .tc main_v143) = _
  after_reads_simp
  unfold gain_lanes nil2 nil
  rfl
theorem V150 : (V m c main_v150 : FVec Ideal S1x128 .f32) = gain_lanes 0x3F800000#32 (a4 m c) := by
  show after hostOps0 (fun b => m (c, b)) (Proc.devRef .tc main_v150) = _
  after_reads_simp
  unfold gain_lanes nil2 nil
  rfl
theorem V40 : (V m c main_v40 : FVec Ideal S8x256x128 .bf16) = truncf .bf16 (placing 0x3F800000#32 64#32 65#32) bitsLt_bf16_f32 := by
  show after hostOps0 (fun b => m (c, b)) (Proc.devRef .tc main_v40) = _
  after_reads_simp
  unfold placing at3 far wrap
  rfl
theorem V81 : (V m c main_v81 : FVec Ideal S8x256x128 .bf16) = truncf .bf16 (placing 0xBF800000#32 66#32 67#32) bitsLt_bf16_f32 := by
  show after hostOps0 (fun b => m (c, b)) (Proc.devRef .tc main_v81) = _
  after_reads_simp
  unfold placing at3 far wrap
  rfl
theorem V94 : (V m c main_v94 : FVec Ideal S1x128 .f32) = lit_lanes first := by
  show after hostOps0 (fun b => m (c, b)) (Proc.devRef .tc main_v94) = _
  after_reads_simp
  unfold lit_lanes at2 wrap2 first
  rfl
theorem V107 : (V m c main_v107 : FVec Ideal S1x128 .f32) = lit_lanes second := by
  show after hostOps0 (fun b => m (c, b)) (Proc.devRef .tc main_v107) = _
  after_reads_simp
  unfold lit_lanes at2 wrap2 second
  rfl

/-! The numbers in the blocks. -/

theorem flat2 {n0 n1 : ℕ} (i : (⟨2, ![n0, n1]⟩ : Shape).Idx) (r : Fin n0) (k : Fin n1) (h0 : (i 0).val = r.val) (h1 : (i 1).val = k.val) : i = ix2 r k :=
  funext fun a => Fin.ext (by match a with | ⟨0, _⟩ => exact h0 | ⟨1, _⟩ => exact h1)
theorem flat3 {n0 n1 n2 : ℕ} (i : (⟨3, ![n0, n1, n2]⟩ : Shape).Idx) (r : Fin n0) (k : Fin n1) (e : Fin n2) (h0 : (i 0).val = r.val)
    (h1 : (i 1).val = k.val) (h2 : (i 2).val = e.val) : i = ix3 r k e :=
  funext fun a => Fin.ext (by match a with | ⟨0, _⟩ => exact h0 | ⟨1, _⟩ => exact h1 | ⟨2, _⟩ => exact h2)

theorem trunc_at {s : Shape} (x : FVec Ideal s .f32) (h : FTy.bf16.bits < FTy.f32.bits) (i : s.Idx) : (truncf .bf16 x h : FVec Ideal s .bf16) i = x i := rfl

theorem row1024 (x : FVec Ideal S1024 .f32) (k : Fin 1024) :
    broadcastInDim S1x1024 ![1] bcast_S1024_S1x1024_1 x (ix2 0 k) = x (ix1 k) := by pointwise

/-- Part of the weights' columns, from `o` on. -/
theorem part_at (o n : ℕ) (w : FVec Ideal S1024x3600 .f32) (h : S1024x3600.Slices ![0, o] (⟨2, ![1024, n]⟩ : Shape)) (i : Fin 1024)
    (k : Fin n) (hk : o + k.val < 3600) :
    extractStridedSlice (⟨2, ![1024, n]⟩ : Shape) ![0, o] w h (ix2 i k) = w (ix2 i ⟨o + k.val, hk⟩) :=
  extractStridedSlice_apply ![0, o] w h _ _ (fun a => by
    match a with
    | ⟨0, _⟩ => show i.val = 0 + i.val; omega
    | ⟨1, _⟩ => rfl)

theorem qmat_at (w : FVec Ideal S1024x3600 .f32) (i : Fin 1024) (h : Fin 8) (e : Fin 128) :
    qmat w (ix2 i ⟨h.val * 128 + e.val, by omega⟩) =
      wide64 (fun d => w (ix2 i (Reference5Ideal.FoxIn.qcol h d))) e := by
  unfold qmat
  rw [trunc_at, head_cols_at]
  exact congrArg (fun f => wide64 f e) (funext fun d => (part_at 2056 512 w _ i _ (by show 2056 + (h.val * 64 + d.val) < 3600; omega)).trans
    (congrArg w (flat2 _ _ _ rfl rfl)))
theorem kmat_at (w : FVec Ideal S1024x3600 .f32) (i : Fin 1024) (h : Fin 8) (e : Fin 128) :
    kmat w (ix2 i ⟨h.val * 128 + e.val, by omega⟩) =
      wide64 (fun d => w (ix2 i (Reference5Ideal.FoxIn.kcol h d))) e := by
  unfold kmat
  rw [trunc_at, head_cols_at]
  exact congrArg (fun f => wide64 f e) (funext fun d => (part_at 2568 512 w _ i _ (by show 2568 + (h.val * 64 + d.val) < 3600; omega)).trans
    (congrArg w (flat2 _ _ _ rfl rfl)))
theorem gmat_at (w : FVec Ideal S1024x3600 .f32) (i : Fin 1024) (l : Fin 128) :
    gmat w (ix2 i l) =
      if h : l.val < 8 then w (ix2 i ⟨3592 + l.val, by omega⟩) else (0 : EReal) := by
  unfold gmat
  rw [trunc_at, gate_cols_at]
  exact dite_congr rfl (fun q => part_at 3592 8 w _ i ⟨l.val, q⟩ (by show 3592 + l.val < 3600; omega)) fun _ => rfl

/-- The grid point's coordinates: batch entry, block of rows. -/
def gb (t : Fin cfg0.N) : Fin 2 := grid0.coords t 0
def gn (t : Fin cfg0.N) : Fin 32 := grid0.coords t 1
abbrev gpos (t : Fin cfg0.N) (r : Fin 512) : Fin 16384 := ⟨(gn t).val * 512 + r.val, by have := (gn t).isLt; omega⟩
theorem place : ∀ t : Fin cfg0.N, t.val = 32 * (gb t).val + (gn t).val := (by decide +kernel : ∀ t : Fin grid0.N, _)

theorem idx0 : ∀ t : Fin cfg0.N, win0_0.index t (0 : Fin 3) = (gb t).val ∧ win0_0.index t (1 : Fin 3) = (gn t).val ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

end Cert.Kernel5Ideal.FoxIn

end
-- ==== Proof.FoxInBlk.lean ====
/- The attention's input projection's blocks. -/
module

public import proofs.«01_k».proof.Proof.FoxInHost

@[expose] public section

set_option maxRecDepth 16384

noncomputable section

namespace Cert.Kernel5Ideal.FoxIn

open Cert.Kernel5Ideal Cert.Kernel5Ideal.Gen Idealize.ShloMosaic Idealize.ShloMosaic.TcCoe Idealize.SL.Sem Idealize.ShloMosaic.StableHlo Cert.Mem

variable (m : (ℓ : Loc nD τ sig) → Buf (Elt Ideal) ℓ) (c : Dev nD)

theorem iblk0 (t : Fin cfg0.N) (r : Fin 512) (k : Fin 1024) : iblk m c 0 t (ix3 0 r k) = a0 m c (ix3 (gb t) (gpos t r) k) := by
  obtain ⟨e0, e1, e2⟩ := idx0 t
  show (V m c main_arg0 : FVec Ideal S2x16384x1024 .f32) (((cfg0.win 0).blk t).view.emb (ix3 0 r k)) = _
  rw [V_main_arg0]
  refine congrArg (a0 m c) (flat3 _ _ _ _ ?_ ?_ ?_)
  · show win0_0.index t (0 : Fin 3) * 1 + 1 * 0 = (gb t).val; omega
  · show win0_0.index t (1 : Fin 3) * 512 + 1 * r.val = (gn t).val * 512 + r.val; omega
  · show win0_0.index t (2 : Fin 3) * 1024 + 1 * k.val = k.val; omega

theorem iblk1 (t : Fin cfg0.N) (k : Fin 1024) : iblk m c 1 t (ix2 0 k) = a1 m c (ix1 k) := by
  obtain ⟨e0, e1⟩ := idx1 t
  show (V m c main_v129 : FVec Ideal _ .f32) (((cfg0.win 1).blk t).view.emb (ix2 0 k)) = _
  rw [V129]
  refine Eq.trans (congrArg (broadcastInDim S1x1024 ![1] bcast_S1024_S1x1024_1 (a1 m c)) (flat2 _ 0 k ?_ ?_)) (row1024 _ k)
  · show win0_1.index t (0 : Fin 2) * 1 + 1 * 0 = 0; omega
  · show win0_1.index t (1 : Fin 2) * 1024 + 1 * (k.val) = k.val; omega

theorem read2 (W : (b : Ref sig .tc) → Buf (Elt Ideal) ((c : Thread nD τ).loc b)) (X : FVec Ideal S1024x1024 .bf16) (h : W main_v114 = X)
    (t : Fin cfg0.N) (i : Fin 1024) (k : Fin 1024) :
    ((cfg0.win 2).blk t).view.read (Elt Ideal) (W (Pipeline.arrRef spec0 2)) (ix2 i k) = X (ix2 i k) := by
  obtain ⟨e0, e1⟩ := idx2 t
  show (W main_v114 : FVec Ideal S1024x1024 .bf16) (((cfg0.win 2).blk t).view.emb (ix2 i k)) = _
  rw [h]
  refine congrArg X (flat2 _ i k ?_ ?_)
  · show win0_2.index t (0 : Fin 2) * 1024 + 1 * i.val = i.val; omega
  · show win0_2.index t (1 : Fin 2) * 1024 + 1 * k.val = k.val; omega
theorem iblk2 (t : Fin cfg0.N) (i : Fin 1024) (k : Fin 1024) : iblk m c 2 t (ix2 i k) = qmat (a2 m c) (ix2 i k) := by
  unfold iblk
  exact read2 c (V m c) (qmat (a2 m c)) (V114 m c) t i k

theorem read3 (W : (b : Ref sig .tc) → Buf (Elt Ideal) ((c : Thread nD τ).loc b)) (X : FVec Ideal S1024x1024 .bf16) (h : W main_v121 = X)
    (t : Fin cfg0.N) (i : Fin 1024) (k : Fin 1024) :
    ((cfg0.win 3).blk t).view.read (Elt Ideal) (W (Pipeline.arrRef spec0 3)) (ix2 i k) = X (ix2 i k) := by
  obtain ⟨e0, e1⟩ := idx3 t
  show (W main_v121 : FVec Ideal S1024x1024 .bf16) (((cfg0.win 3).blk t).view.emb (ix2 i k)) = _
  rw [h]
  refine congrArg X (flat2 _ i k ?_ ?_)
  · show win0_3.index t (0 : Fin 2) * 1024 + 1 * i.val = i.val; omega
  · show win0_3.index t (1 : Fin 2) * 1024 + 1 * k.val = k.val; omega
theorem iblk3 (t : Fin cfg0.N) (i : Fin 1024) (k : Fin 1024) : iblk m c 3 t (ix2 i k) = kmat (a2 m c) (ix2 i k) := by
  unfold iblk
  exact read3 c (V m c) (kmat (a2 m c)) (V121 m c) t i k

theorem iblk4 (t : Fin cfg0.N) (i : Fin 1024) (k : Fin 512) : iblk m c 4 t (ix2 i k) = a2 m c (ix2 i ⟨3080 + k.val, by omega⟩) := by
  obtain ⟨e0, e1⟩ := idx4 t
  show (V m c main_v123 : FVec Ideal _ .bf16) (((cfg0.win 4).blk t).view.emb (ix2 i k)) = _
  rw [V123]
  refine (trunc_at (extractStridedSlice S1024x512 ![0, 3080] (a2 m c) slices_S1024x3600_S1024x512_0_3080) _ _).trans (Eq.trans (congrArg (extractStridedSlice S1024x512 ![0, 3080] (a2 m c) slices_S1024x3600_S1024x512_0_3080) (flat2 _ i k ?_ ?_)) (part_at 3080 512 (a2 m c) _ i k (by omega)))
  · show win0_4.index t (0 : Fin 2) * 1024 + 1 * i.val = i.val; omega
  · show win0_4.index t (1 : Fin 2) * 512 + 1 * (k.val) = k.val; omega

theorem read5 (W : (b : Ref sig .tc) → Buf (Elt Ideal) ((c : Thread nD τ).loc b)) (X : FVec Ideal S1024x128 .bf16) (h : W main_v128 = X)
    (t : Fin cfg0.N) (i : Fin 1024) (k : Fin 128) :
    ((cfg0.win 5).blk t).view.read (Elt Ideal) (W (Pipeline.arrRef spec0 5)) (ix2 i k) = X (ix2 i k) := by
  obtain ⟨e0, e1⟩ := idx5 t
  show (W main_v128 : FVec Ideal S1024x128 .bf16) (((cfg0.win 5).blk t).view.emb (ix2 i k)) = _
  rw [h]
  refine congrArg X (flat2 _ i k ?_ ?_)
  · show win0_5.index t (0 : Fin 2) * 1024 + 1 * i.val = i.val; omega
  · show win0_5.index t (1 : Fin 2) * 128 + 1 * k.val = k.val; omega
theorem iblk5 (t : Fin cfg0.N) (i : Fin 1024) (k : Fin 128) : iblk m c 5 t (ix2 i k) = gmat (a2 m c) (ix2 i k) := by
  unfold iblk
  exact read5 c (V m c) (gmat (a2 m c)) (V128 m c) t i k

theorem iblk6 (t : Fin cfg0.N) (l : Fin 128) : iblk m c 6 t (ix2 0 l) = if h : l.val < 8 then a5 m c (ix1 ⟨l.val, h⟩) else (0 : EReal) := by
  obtain ⟨e0, e1⟩ := idx6 t
  show (V m c main_v136 : FVec Ideal _ .f32) (((cfg0.win 6).blk t).view.emb (ix2 0 l)) = _
  rw [V136]
  refine Eq.trans (congrArg (bias_lanes (a5 m c)) (flat2 _ 0 l ?_ ?_)) (bias_lanes_at _ l)
  · show win0_6.index t (0 : Fin 2) * 1 + 1 * 0 = 0; omega
  · show win0_6.index t (1 : Fin 2) * 128 + 1 * (l.val) = l.val; omega

theorem iblk7 (t : Fin cfg0.N) (e : Fin 128) : iblk m c 7 t (ix2 0 e) = wide64 (fun d => a3 m c (ix1 d) * eighth) e := by
  obtain ⟨e0, e1⟩ := idx7 t
  show (V m c main_v143 : FVec Ideal _ .f32) (((cfg0.win 7).blk t).view.emb (ix2 0 e)) = _
  rw [V143]
  refine Eq.trans (congrArg (gain_lanes 0x3E000000#32 (a3 m c)) (flat2 _ 0 e ?_ ?_)) (gain_lanes_at _ _ e)
  · show win0_7.index t (0 : Fin 2) * 1 + 1 * 0 = 0; omega
  · show win0_7.index t (1 : Fin 2) * 128 + 1 * (e.val) = e.val; omega

theorem iblk8 (t : Fin cfg0.N) (e : Fin 128) : iblk m c 8 t (ix2 0 e) = wide64 (fun d => a4 m c (ix1 d)) e := by
  obtain ⟨e0, e1⟩ := idx8 t
  show (V m c main_v150 : FVec Ideal _ .f32) (((cfg0.win 8).blk t).view.emb (ix2 0 e)) = _
  rw [V150]
  refine Eq.trans (congrArg (gain_lanes 0x3F800000#32 (a4 m c)) (flat2 _ 0 e ?_ ?_)) ((gain_lanes_at _ _ e).trans (by simp only [one_eq, mul_one]))
  · show win0_8.index t (0 : Fin 2) * 1 + 1 * 0 = 0; omega
  · show win0_8.index t (1 : Fin 2) * 128 + 1 * (e.val) = e.val; omega

theorem iblk9 (t : Fin cfg0.N) (h : Fin 8) (j : Fin 256) (e : Fin 128) : iblk m c 9 t (ix3 h j e) = placed h 64 65 1 j e := by
  obtain ⟨e0, e1, e2⟩ := idx9 t
  show (V m c main_v40 : FVec Ideal _ .bf16) (((cfg0.win 9).blk t).view.emb (ix3 h j e)) = _
  rw [V40]
  refine (trunc_at (placing 0x3F800000#32 64#32 65#32) _ _).trans (Eq.trans (congrArg (placing 0x3F800000#32 64#32 65#32) (flat3 _ h j e ?_ ?_ ?_)) ((placing_at _ _ _ 64 65 at64 at65 h j e).trans (by rw [one_eq])))
  · show win0_9.index t (0 : Fin 3) * 8 + 1 * h.val = h.val; omega
  · show win0_9.index t (1 : Fin 3) * 256 + 1 * j.val = j.val; omega
  · show win0_9.index t (2 : Fin 3) * 128 + 1 * e.val = e.val; omega

theorem iblk10 (t : Fin cfg0.N) (h : Fin 8) (j : Fin 256) (e : Fin 128) : iblk m c 10 t (ix3 h j e) = placed h 66 67 (-1) j e := by
  obtain ⟨e0, e1, e2⟩ := idx10 t
  show (V m c main_v81 : FVec Ideal _ .bf16) (((cfg0.win 10).blk t).view.emb (ix3 h j e)) = _
  rw [V81]
  refine (trunc_at (placing 0xBF800000#32 66#32 67#32) _ _).trans (Eq.trans (congrArg (placing 0xBF800000#32 66#32 67#32) (flat3 _ h j e ?_ ?_ ?_)) ((placing_at _ _ _ 66 67 at66 at67 h j e).trans (by rw [neg_one_eq])))
  · show win0_10.index t (0 : Fin 3) * 8 + 1 * h.val = h.val; omega
  · show win0_10.index t (1 : Fin 3) * 256 + 1 * j.val = j.val; omega
  · show win0_10.index t (2 : Fin 3) * 128 + 1 * e.val = e.val; omega

theorem iblk11 (t : Fin cfg0.N) (e : Fin 128) : iblk m c 11 t (ix2 0 e) = ones 66 67 e := by
  obtain ⟨e0, e1⟩ := idx11 t
  show (V m c main_v94 : FVec Ideal _ .f32) (((cfg0.win 11).blk t).view.emb (ix2 0 e)) = _
  rw [V94]
  refine Eq.trans (congrArg (lit_lanes first) (flat2 _ 0 e ?_ ?_)) (lit_lanes_at first 66 67 at_first e)
  · show win0_11.index t (0 : Fin 2) * 1 + 1 * 0 = 0; omega
  · show win0_11.index t (1 : Fin 2) * 128 + 1 * (e.val) = e.val; omega

theorem iblk12 (t : Fin cfg0.N) (e : Fin 128) : iblk m c 12 t (ix2 0 e) = ones 64 65 e := by
  obtain ⟨e0, e1⟩ := idx12 t
  show (V m c main_v107 : FVec Ideal _ .f32) (((cfg0.win 12).blk t).view.emb (ix2 0 e)) = _
  rw [V107]
  refine Eq.trans (congrArg (lit_lanes second) (flat2 _ 0 e ?_ ?_)) (lit_lanes_at second 64 65 at_second e)
  · show win0_12.index t (0 : Fin 2) * 1 + 1 * 0 = 0; omega
  · show win0_12.index t (1 : Fin 2) * 128 + 1 * (e.val) = e.val; omega

end Cert.Kernel5Ideal.FoxIn

end
-- ==== Proof.FoxInArr.lean ====
/- The output arrays of the attention's input projection kernel: the reference's values of the launched arguments. -/
module

public import proofs.«01_k».proof.Proof.FoxInBlk
public import proofs.«01_k».proof.Proof.FoxInVal
public import proofs.«01_k».proof.Proof.Gen.Kernel5Ideal.Value

@[expose] public section

set_option maxRecDepth 16384

noncomputable section

namespace Cert.Kernel5Ideal.FoxIn

open Cert.Kernel5Ideal Cert.Kernel5Ideal.Gen Cert.Reference5Ideal.Read Idealize.ShloMosaic Idealize.ShloMosaic.TcCoe Idealize.SL.Sem Cert.Mem

variable (m : (ℓ : Loc nD τ sig) → Buf (Elt Ideal) ℓ) (c : Dev nD)

/-! What the reference computes of the launched arguments. -/

abbrev ent (b : Fin 2) (r : Fin 16384) (k : Fin 3600) : EReal := Reference5Ideal.FoxIn.entry (a0 m c) (a1 m c) (a2 m c) b r k
abbrev dec (b : Fin 2) (l : Fin 128) (s : ℕ) : EReal := Reference5Ideal.FoxIn.decay (a0 m c) (a1 m c) (a2 m c) (a5 m c) b l s
abbrev win (b : Fin 2) (r : Fin 16384) (l : Fin 128) : EReal := Reference5Ideal.FoxIn.within (a0 m c) (a1 m c) (a2 m c) (a5 m c) b r l

section
variable (t : Fin cfg0.N)

/-- The block's gates and their running sums. -/
abbrev gates : FVec Ideal S512x128 .f32 := k0_pay5 (iblk m c 0 t) (iblk m c 1 t) (iblk m c 5 t) (iblk m c 6 t)
abbrev sums : FVec Ideal S512x128 .f32 := k0_pay6 (gates m c t) (Scalar.ofBits .f32 0x00000000#32)

theorem row_eq (r : Fin 512) : row (iblk m c 0 t) (iblk m c 1 t) r = Reference5Ideal.FoxIn.row (a0 m c) (a1 m c) (gb t) (gpos t r) := by
  unfold row Reference5Ideal.FoxIn.row
  simp only [iblk0, iblk1]

theorem gates_at (r : Fin 512) (l : Fin 128) :
    gates m c t (ix2 r l) = Reference5Ideal.FoxIn.score (a0 m c) (a1 m c) (a2 m c) (a5 m c) (gb t) (gpos t r) l := by
  refine (pay5_at _ _ _ _ r l).trans ?_
  rw [row_eq, iblk6]
  simp only [iblk5, gmat_at]
  unfold Reference5Ideal.FoxIn.score
  by_cases h : l.val < 8
  · simp only [dif_pos h]; rfl
  · simp only [dif_neg h, lin, mul_zero, Finset.sum_const_zero, add_zero]

variable (hd : ∀ b l s, IsReal (dec m c b l s))
include hd

theorem sums_at (r : Fin 512) (l : Fin 128) : sums m c t (ix2 r l) = ∑ s ∈ Finset.range (r.val + 1), dec m c (gb t) l (512 * (gn t).val + s) := by
  refine pay6_at _ l (fun s => dec m c (gb t) l (512 * (gn t).val + s)) (fun s => hd _ _ _) (fun s => ?_) r
  have hs : 512 * (gn t).val + s.val < 16384 := by have := (gn t).isLt; omega
  rw [gates_at]
  show _ = Reference5Ideal.FoxIn.decay _ _ _ _ _ _ _
  rw [Reference5Ideal.FoxIn.decay, dif_pos hs]
  refine congrArg (fun q => logsig (Reference5Ideal.FoxIn.score (a0 m c) (a1 m c) (a2 m c) (a5 m c) (gb t) q l)) (Fin.ext ?_)
  show (gn t).val * 512 + s.val = 512 * (gn t).val + s.val
  omega

theorem sums_win (r : Fin 512) (l : Fin 128) : sums m c t (ix2 r l) = win m c (gb t) (gpos t r) l := by
  have h0 : (gpos t r).val % 512 = r.val := by show ((gn t).val * 512 + r.val) % 512 = r.val; omega
  have h1 : (gpos t r).val / 512 = (gn t).val := by show ((gn t).val * 512 + r.val) / 512 = (gn t).val; omega
  rw [sums_at m c t hd]
  unfold win Reference5Ideal.FoxIn.within
  rw [h0, h1]

theorem halves_at (r : Fin 512) : (fun j => k0_pay10 (sums m c t) (ix2 r j)) = halves fun l => win m c (gb t) (gpos t r) l := by
  have hy : ∀ r l, IsReal (sums m c t (ix2 r l)) := fun r l => by
    rw [sums_at m c t hd]; exact IsReal.sum _ _ fun s _ => hd _ _ _
  funext j
  rw [pay10_at _ hy]
  exact congrArg (fun f => halves f j) (funext fun l => sums_win m c t hd r l)

variable (he : ∀ b r k, IsReal (ent m c b r k))
include he

theorem bank_q (h : Fin 8) (r : Fin 512) (e : Fin 128) :
    bank (hid (iblk m c 0 t) (iblk m c 1 t)) (k0_pay10 (cum (iblk m c 0 t) (iblk m c 1 t) (iblk m c 5 t) (iblk m c 6 t)))
      (iblk m c 2 t) (iblk m c 7 t) (iblk m c 9 t) (iblk m c 11 t) (ix4 0 h r e) =
      val_main_v71 (F := Ideal) (a0 m c) (a1 m c) (a2 m c) (a3 m c) (a5 m c) (ix4 (gb t) h (gpos t r) e) := by
  rw [Reference5Ideal.FoxIn.q_at _ _ _ _ _ _ _ _ _ fun s => hd _ _ s]
  refine Eq.trans ?_ (lanes_q _ _ (fun l => win m c (gb t) (gpos t r) l) h (fun d => he _ _ _) e)
  show lanes (fun e : Fin 128 => lin (fun i => k0_pay3 (iblk m c 0 t) (iblk m c 1 t) (ix2 r i)) fun i => iblk m c 2 t (ix2 i ⟨h.val * 128 + e.val, _⟩))
    (fun e => iblk m c 7 t (ix2 0 e)) (fun j => k0_pay10 (sums m c t) (ix2 r j)) (fun j e => iblk m c 9 t (ix3 h j e)) (fun e => iblk m c 11 t (ix2 0 e)) e = _
  rw [halves_at m c t hd, hid_row, row_eq]
  simp only [iblk2, iblk7, iblk9, iblk11, qmat_at]
  refine congrArg (fun f => lanes f _ _ _ _ e) (funext fun e => ?_)
  unfold wide64 lin
  split
  · rfl
  · simp only [mul_zero, Finset.sum_const_zero]

theorem bank_k (h : Fin 8) (r : Fin 512) (e : Fin 128) :
    bank (hid (iblk m c 0 t) (iblk m c 1 t)) (k0_pay10 (cum (iblk m c 0 t) (iblk m c 1 t) (iblk m c 5 t) (iblk m c 6 t)))
      (iblk m c 3 t) (iblk m c 8 t) (iblk m c 10 t) (iblk m c 12 t) (ix4 0 h r e) =
      val_main_v73 (F := Ideal) (a0 m c) (a1 m c) (a2 m c) (a4 m c) (a5 m c) (ix4 (gb t) h (gpos t r) e) := by
  rw [Reference5Ideal.FoxIn.k_at _ _ _ _ _ _ _ _ _ fun s => hd _ _ s]
  refine Eq.trans ?_ (lanes_k _ _ (fun l => win m c (gb t) (gpos t r) l) h (fun d => he _ _ _) e)
  show lanes (fun e : Fin 128 => lin (fun i => k0_pay3 (iblk m c 0 t) (iblk m c 1 t) (ix2 r i)) fun i => iblk m c 3 t (ix2 i ⟨h.val * 128 + e.val, _⟩))
    (fun e => iblk m c 8 t (ix2 0 e)) (fun j => k0_pay10 (sums m c t) (ix2 r j)) (fun j e => iblk m c 10 t (ix3 h j e)) (fun e => iblk m c 12 t (ix2 0 e)) e = _
  rw [halves_at m c t hd, hid_row, row_eq]
  simp only [iblk3, iblk8, iblk10, iblk12, kmat_at]
  refine congrArg (fun f => lanes f _ _ _ _ e) (funext fun e => ?_)
  unfold wide64 lin
  split
  · rfl
  · simp only [mul_zero, Finset.sum_const_zero]

/-! What a grid point leaves in the four output blocks and in the carried sum. -/

theorem point_q (h : Fin 8) (r : Fin 512) (e : Fin 128) : (outsAt0 m c t.val t.isLt).1 (ix4 0 h r e) =
    val_main_v71 (F := Ideal) (a0 m c) (a1 m c) (a2 m c) (a3 m c) (a5 m c) (ix4 (gb t) h (gpos t r) e) := by
  rw [← bank_q m c t hd he h r e]
  by_cases h0 : t.val % 32 = 0
  · rw [outsAt0_A m c t h0]; dsimp only; rw [out_A13]
  · rw [outsAt0_B m c t h0]; dsimp only; rw [out_B13]

theorem point_k (h : Fin 8) (r : Fin 512) (e : Fin 128) : (outsAt0 m c t.val t.isLt).2.1 (ix4 0 h r e) =
    val_main_v73 (F := Ideal) (a0 m c) (a1 m c) (a2 m c) (a4 m c) (a5 m c) (ix4 (gb t) h (gpos t r) e) := by
  rw [← bank_k m c t hd he h r e]
  by_cases h0 : t.val % 32 = 0
  · rw [outsAt0_A m c t h0]; dsimp only; rw [out_A14]
  · rw [outsAt0_B m c t h0]; dsimp only; rw [out_B14]

omit hd he

theorem point_v (r k : Fin 512) : (outsAt0 m c t.val t.isLt).2.2.1 (ix3 0 r k) =
    val_main_v74 (F := Ideal) (a0 m c) (a1 m c) (a2 m c) (ix3 (gb t) (gpos t r) k) := by
  have e : (outsAt0 m c t.val t.isLt).2.2.1 = k0_pay4 (iblk m c 0 t) (iblk m c 1 t) (iblk m c 4 t) := by
    by_cases h0 : t.val % 32 = 0
    · rw [outsAt0_A m c t h0]; dsimp only; rw [out_A15]
    · rw [outsAt0_B m c t h0]; dsimp only; rw [out_B15]
  rw [e, Reference5Ideal.FoxIn.v_at, Reference5Ideal.FoxIn.entry]
  refine (pay4_at _ _ _ r k).trans ?_
  rw [row_eq]
  simp only [iblk4]

/-- The first row of the carried sum. -/
theorem top_row (x : Vec Ideal S8x128 .f32) (l : Fin 128) :
    View.ld x (Rect.unit (s := S8x128) ![0, 0] S1x128.size inb_S8x128_S1x128_0_0) (ix2 0 l) = x (ix2 0 l) :=
  View.ld_unit_apply_of _ _ _ _ _ _ (fun a => by
    match a with
    | ⟨0, _⟩ => rfl
    | ⟨1, _⟩ => show l.val = 0 + l.val; omega)

include hd

/-- A block adds its gates' sum to what the blocks before it left. -/
theorem add_block (a : Vec Ideal S8x128 .f32) (h : Fin 8) (l : Fin 128)
    (ha : a (ix2 h l) = ∑ s ∈ Finset.range (512 * (gn t).val), dec m c (gb t) l s) :
    k0_pay9 a (k0_pay8 (gates m c t) (Scalar.ofBits .f32 0x00000000#32)) (ix2 h l) =
      ∑ s ∈ Finset.range (512 * (gn t).val + 512), dec m c (gb t) l s := by
  rw [pay9_at, pay8_at, ha, Finset.sum_range_add]
  exact congrArg _ (sums_at m c t hd 511 l)

end

/-- The grid point that writes a row. -/
theorem point_of (b : Fin 2) (n : Fin 32) (p : ℕ) (hp : p = 32 * b.val + n.val) :
    ∃ h : p < cfg0.N, gb ⟨p, h⟩ = b ∧ gn ⟨p, h⟩ = n := by
  have hN : cfg0.N = 64 := N_0
  have hb := b.isLt
  have hn := n.isLt
  have h : p < cfg0.N := by omega
  have q := place ⟨p, h⟩
  have h1 := (gn ⟨p, h⟩).isLt
  simp only at q
  exact ⟨h, Fin.ext (by omega), Fin.ext (by omega)⟩

theorem pos_of (t : Fin cfg0.N) (r : Fin 16384) (hn : gn t = ⟨r.val / 512, by omega⟩) : gpos t ⟨r.val % 512, by omega⟩ = r := by
  refine Fin.ext ?_
  show (gn t).val * 512 + r.val % 512 = r.val
  rw [hn]
  show r.val / 512 * 512 + r.val % 512 = r.val
  omega

/-- The grid point before one that is not the first of its batch entry. -/
theorem before (n : ℕ) (hn : n + 1 < cfg0.N) (h0 : ¬(n + 1) % 32 = 0) :
    gb ⟨n + 1, hn⟩ = gb ⟨n, by omega⟩ ∧ (gn ⟨n + 1, hn⟩).val = (gn ⟨n, by omega⟩).val + 1 := by
  have p := place ⟨n + 1, hn⟩
  have q := place ⟨n, by omega⟩
  have h1 := (gn ⟨n + 1, hn⟩).isLt
  have h2 := (gn ⟨n, by omega⟩).isLt
  simp only at p q
  exact ⟨Fin.ext (by omega), by omega⟩

section
variable (hd : ∀ b l s, IsReal (dec m c b l s))
include hd

/-- What is carried out of a grid point. -/
theorem carry (n : ℕ) (hn : n < cfg0.N) (h : Fin 8) (l : Fin 128) : (outsAt0 m c n hn).2.2.2.2 (ix2 h l) =
    ∑ s ∈ Finset.range (512 * (gn ⟨n, hn⟩).val + 512), dec m c (gb ⟨n, hn⟩) l s := by
  induction n with
  | zero =>
    have p := place ⟨0, hn⟩
    rw [outsAt0_A m c ⟨0, hn⟩ rfl]
    dsimp only
    rw [sout_A]
    refine add_block m c ⟨0, hn⟩ hd _ h l ?_
    rw [pay2_at, show (gn ⟨0, hn⟩).val = 0 by simp only at p; omega]
    rfl
  | succ n ih =>
    by_cases h0 : (n + 1) % 32 = 0
    · have p := place ⟨n + 1, hn⟩
      have := (gn ⟨n + 1, hn⟩).isLt
      rw [outsAt0_A m c ⟨n + 1, hn⟩ h0]
      dsimp only
      rw [sout_A]
      refine add_block m c ⟨n + 1, hn⟩ hd _ h l ?_
      rw [pay2_at, show (gn ⟨n + 1, hn⟩).val = 0 by simp only at p; omega]
      rfl
    · obtain ⟨eb, en⟩ := before n hn h0
      rw [outsAt0_B m c ⟨n + 1, hn⟩ h0]
      dsimp only
      rw [sout_B]
      refine add_block m c ⟨n + 1, hn⟩ hd _ h l ((ih (by omega)).trans ?_)
      rw [eb, en, Nat.mul_add]

/-- The block's starting sum. -/
theorem point_c (t : Fin cfg0.N) (h : Fin 8) (l : Fin 128) : (outsAt0 m c t.val t.isLt).2.2.2.1 (ix4 0 0 h l) =
    val_main_v77 (F := Ideal) (a0 m c) (a1 m c) (a2 m c) (a5 m c) (ix4 (gb t) (gn t) h l) := by
  rw [Reference5Ideal.FoxIn.start_at]
  have p := place t
  have hl := (gn t).isLt
  by_cases h0 : t.val % 32 = 0
  · rw [outsAt0_A m c t h0]
    dsimp only
    rw [out_A16, pay7_at, top_row, pay2_at, show (gn t).val = 0 by omega]
    rfl
  · rw [outsAt0_B m c t h0]
    dsimp only
    rw [out_B16, pay7_at, top_row]
    obtain ⟨n, hn⟩ := t
    obtain ⟨n, rfl⟩ : ∃ k, n = k + 1 := ⟨n - 1, by simp only at h0; omega⟩
    obtain ⟨eb, en⟩ := before n hn h0
    refine (carry m c hd n (by omega) 0 l).trans ?_
    rw [eb, en, Nat.mul_add]

/-! The output arrays. -/

theorem arr13 (he : ∀ b r k, IsReal (ent m c b r k)) : Value.G13 m c =
    val_main_v71 (F := Ideal) (a0 m c) (a1 m c) (a2 m c) (a3 m c) (a5 m c) := by
  funext i
  obtain ⟨b, h, r, e, rfl⟩ : ∃ (b : Fin 2) (h : Fin 8) (r : Fin 16384) (e : Fin 128), i = ix4 b h r e := ⟨i 0, i 1, i 2, i 3, eq_ix4 i⟩
  obtain ⟨hp, hb, hn⟩ := point_of b ⟨r.val / 512, by omega⟩ (Value.pt13Of (ix4 b h r e)) (by
    show 32 * (b.val / 1 - 0) + 32 * (h.val / 8 - 0) + 1 * (r.val / 512 - 0) + 1 * (e.val / 128 - 0) = 32 * b.val + r.val / 512
    omega)
  have hl : Value.loc13Of (ix4 b h r e) = ix4 0 h ⟨r.val % 512, by omega⟩ e := by
    funext a; apply Fin.ext
    match a with
    | ⟨0, _⟩ => show b.val % 1 = 0; omega
    | ⟨1, _⟩ => show h.val % 8 = h.val; omega
    | ⟨2, _⟩ => rfl
    | ⟨3, _⟩ => show e.val % 128 = e.val; omega
  unfold Value.G13
  rw [dif_pos hp, ← Value.outsAt0_sweep m c _ hp, hl]
  refine (point_q m c ⟨_, hp⟩ hd he h ⟨r.val % 512, by omega⟩ e).trans ?_
  rw [hb, pos_of _ r hn]

theorem arr14 (he : ∀ b r k, IsReal (ent m c b r k)) : Value.G14 m c =
    val_main_v73 (F := Ideal) (a0 m c) (a1 m c) (a2 m c) (a4 m c) (a5 m c) := by
  funext i
  obtain ⟨b, h, r, e, rfl⟩ : ∃ (b : Fin 2) (h : Fin 8) (r : Fin 16384) (e : Fin 128), i = ix4 b h r e := ⟨i 0, i 1, i 2, i 3, eq_ix4 i⟩
  obtain ⟨hp, hb, hn⟩ := point_of b ⟨r.val / 512, by omega⟩ (Value.pt14Of (ix4 b h r e)) (by
    show 32 * (b.val / 1 - 0) + 32 * (h.val / 8 - 0) + 1 * (r.val / 512 - 0) + 1 * (e.val / 128 - 0) = 32 * b.val + r.val / 512
    omega)
  have hl : Value.loc14Of (ix4 b h r e) = ix4 0 h ⟨r.val % 512, by omega⟩ e := by
    funext a; apply Fin.ext
    match a with
    | ⟨0, _⟩ => show b.val % 1 = 0; omega
    | ⟨1, _⟩ => show h.val % 8 = h.val; omega
    | ⟨2, _⟩ => rfl
    | ⟨3, _⟩ => show e.val % 128 = e.val; omega
  unfold Value.G14
  rw [dif_pos hp, ← Value.outsAt0_sweep m c _ hp, hl]
  refine (point_k m c ⟨_, hp⟩ hd he h ⟨r.val % 512, by omega⟩ e).trans ?_
  rw [hb, pos_of _ r hn]

theorem arr16 : Value.G16 m c = val_main_v77 (F := Ideal) (a0 m c) (a1 m c) (a2 m c) (a5 m c) := by
  funext i
  obtain ⟨b, n, h, l, rfl⟩ : ∃ (b : Fin 2) (n : Fin 32) (h : Fin 8) (l : Fin 128), i = ix4 b n h l := ⟨i 0, i 1, i 2, i 3, eq_ix4 i⟩
  obtain ⟨hp, hb, hn⟩ := point_of b n (Value.pt16Of (ix4 b n h l)) (by
    show 32 * (b.val / 1 - 0) + 1 * (n.val / 1 - 0) + 1 * (h.val / 8 - 0) + 1 * (l.val / 128 - 0) = 32 * b.val + n.val
    omega)
  have hl : Value.loc16Of (ix4 b n h l) = ix4 0 0 h l := by
    funext a; apply Fin.ext
    match a with
    | ⟨0, _⟩ => show b.val % 1 = 0; omega
    | ⟨1, _⟩ => show n.val % 1 = 0; omega
    | ⟨2, _⟩ => show h.val % 8 = h.val; omega
    | ⟨3, _⟩ => show l.val % 128 = l.val; omega
  unfold Value.G16
  rw [dif_pos hp, ← Value.outsAt0_sweep m c _ hp, hl]
  refine (point_c m c hd ⟨_, hp⟩ h l).trans ?_
  rw [hb, hn]

omit hd in
theorem arr15 : Value.G15 m c = val_main_v74 (F := Ideal) (a0 m c) (a1 m c) (a2 m c) := by
  funext i
  obtain ⟨b, r, k, rfl⟩ : ∃ (b : Fin 2) (r : Fin 16384) (k : Fin 512), i = ix3 b r k := ⟨i 0, i 1, i 2, eq_ix3 i⟩
  obtain ⟨hp, hb, hn⟩ := point_of b ⟨r.val / 512, by omega⟩ (Value.pt15Of (ix3 b r k)) (by
    show 32 * (b.val / 1 - 0) + 1 * (r.val / 512 - 0) + 1 * (k.val / 512 - 0) = 32 * b.val + r.val / 512
    omega)
  have hl : Value.loc15Of (ix3 b r k) = ix3 0 ⟨r.val % 512, by omega⟩ k := by
    funext a; apply Fin.ext
    match a with
    | ⟨0, _⟩ => show b.val % 1 = 0; omega
    | ⟨1, _⟩ => rfl
    | ⟨2, _⟩ => show k.val % 512 = k.val; omega
  unfold Value.G15
  rw [dif_pos hp, ← Value.outsAt0_sweep m c _ hp, hl]
  refine (point_v m c ⟨_, hp⟩ ⟨r.val % 512, by omega⟩ k).trans ?_
  rw [hb, pos_of _ r hn]

end

end Cert.Kernel5Ideal.FoxIn

end
-- ==== Proof.Finite5.lean ====
/- What the input projection's precondition says at the ideal values: the gain, the weights and the bias are real numbers. -/
module

public import proofs.«01_k».proof.Pre_finite5
public import proofs.«01_k».proof.Proof.Finite

@[expose] public section

set_option maxRecDepth 16384

noncomputable section

namespace Cert.Pre_finite5

open Idealize.ShloMosaic Cert.Pre_finite

theorem facts : Facts where
  bcast_S_S1024 := by decide
  bcast_S_S1024x3600 := by decide
  bcast_S_S8 := by decide

theorem real [Facts] (x0 : FVec Ideal S2x16384x1024 .f32) (x1 : FVec Ideal S1024 .f32) (x2 : FVec Ideal S1024x3600 .f32)
    (x3 x4 : FVec Ideal S64 .f32) (x5 : FVec Ideal S8 .f32) (h1 : (fn x0 x1 x2 x3 x4 x5).1 = fun _ => 1#1)
    (h2 : (fn x0 x1 x2 x3 x4 x5).2.1 = fun _ => 1#1) (h5 : (fn x0 x1 x2 x3 x4 x5).2.2 = fun _ => 1#1) :
    (∀ i, ∃ a : ℝ, x1 i = (a : EReal)) ∧ (∀ i, ∃ a : ℝ, x2 i = (a : EReal)) ∧ ∀ i, ∃ a : ℝ, x5 i = (a : EReal) :=
  ⟨fun i => of_cmp (x1 i) _ inf32 (congrFun h1 i), fun i => of_cmp (x2 i) _ inf32 (congrFun h2 i),
    fun i => of_cmp (x5 i) _ inf32 (congrFun h5 i)⟩

end Cert.Pre_finite5

end
-- ==== Proof.lean ====
module

public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Arr
public import proofs.«01_k».proof.Proof.Finite
public import proofs.«01_k».proof.Proof.MemArr
public import proofs.«01_k».proof.Proof.GdnArr
public import proofs.«01_k».proof.Proof.KvArr
public import proofs.«01_k».proof.Proof.FoxInArr
public import proofs.«01_k».proof.Proof.Finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel5Ideal.Value
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel4Ideal.Value
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import Idealize.ShloMosaic.Init

@[expose] public section

noncomputable section

namespace Cert.Proof

open Idealize.ShloMosaic Idealize.SL.Sem Cert.Kernel

/-- The kernel's output array and the reference's are the same function of the arguments. -/
theorem value [hPre : Cert.Pre_finite.Facts] :
    Cert.algebraic_KernelIdeal_ReferenceIdeal_pre_finite (hKernelIdeal := Cert.KernelIdeal.Gen.facts)
      (hReferenceIdeal := Cert.ReferenceIdeal.Gen.facts) := by
  intro m g m' g' hpre hm
  refine ⟨fun c => Cert.KernelIdeal.Fox.G m c, ?_, ?_⟩
  · refine (θ_run _ _ _).mono (fun r h c => ?_) (Cert.KernelIdeal.Value.run_blocks m g)
    obtain ⟨hv, a0, a1, a2, a3⟩ := h c
    obtain ⟨p0, p1, p3⟩ := hpre c
    obtain ⟨h0, h1, h3⟩ := Cert.Pre_finite.real _ _ _ _ p0 p1 p3
    exact ⟨hv.trans (Cert.KernelIdeal.Fox.arr_eq m c h0 h1 h3), a0, a1, a2, a3⟩
  · refine (θ_run _ _ _).mono (fun r h c => ?_) (Cert.ReferenceIdeal.Value.run m' g')
    obtain ⟨hv, a0, a1, a2, a3⟩ := h c
    obtain ⟨e0, e1, e2, e3⟩ := hm c
    refine ⟨hv.trans ((Cert.ReferenceIdeal.Read.val_main_v36_eq (F := Ideal) _ _).trans ?_), a0, a1, a2, a3⟩
    rw [e0, e1, e2, e3]
    rfl

/-- The reference ends with its arguments unchanged and, as it has no semaphores, with every counter at zero. -/
theorem frame_ref : Cert.quiescent_ReferenceIdeal (hReferenceIdeal := Cert.ReferenceIdeal.Gen.facts) :=
  fun m ρ _ => (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m ρ)

/-- The same for the output projection and the memory attention, with no condition on the arguments. -/
theorem value2 : Cert.algebraic_Kernel2Ideal_Reference2Ideal (hKernel2Ideal := Cert.Kernel2Ideal.Gen.facts)
    (hReference2Ideal := Cert.Reference2Ideal.Gen.facts) := by
  intro m g m' g' _ hm
  refine ⟨fun c => Cert.Kernel2Ideal.Mem.G m c, ?_, ?_⟩
  · refine (θ_run _ _ _).mono (fun r h c => ?_) (Cert.Kernel2Ideal.Value.run_blocks m g)
    obtain ⟨hv, ha⟩ := h c
    exact ⟨hv.trans (Cert.Kernel2Ideal.Mem.arr_eq m c), ha⟩
  · refine (θ_run _ _ _).mono (fun r h c => ?_) (Cert.Reference2Ideal.Value.run m' g')
    obtain ⟨hv, ha⟩ := h c
    obtain ⟨e0, e1, e2, e3, e4, e5, e6, e7, e8, e9⟩ := hm c
    refine ⟨hv.trans ((Cert.Reference2Ideal.Read.val_main_v51_eq (F := Ideal) _ _).trans ?_), ha⟩
    rw [e0, e1, e2, e3, e4, e5, e6, e7, e8, e9]
    rfl

theorem frame_ref2 : Cert.quiescent_Reference2Ideal (hReference2Ideal := Cert.Reference2Ideal.Gen.facts) :=
  fun m ρ _ => (θ_run (Cert.Reference2Ideal.defs (F := Ideal)) _ _).mono
    (fun r h => And.intro (fun c => (h c).2) (Idealize.ShloMosaic.sem_eq_zero_of_no_sems (by decide) r.2))
    (Cert.Reference2Ideal.Value.run (F := Ideal) m ρ)

/-- The four results of the input projection of the delta mixer. -/
theorem value3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Kernel3Ideal.Gdn.G5 m c, fun c => Cert.Kernel3Ideal.Gdn.G6 m c,
    fun c => Cert.Kernel3Ideal.Gdn.G7 m c, fun c => Cert.Kernel3Ideal.Gdn.G8 m c, ?_, ?_⟩
  · refine (θ_run _ _ _).mono (fun r h c => ?_) (Cert.Kernel3Ideal.Value.run_blocks m g)
    obtain ⟨h5, h6, h7, h8, ha⟩ := h c
    exact ⟨h5.trans (Cert.Kernel3Ideal.Gdn.arr5_eq m c), h6.trans (Cert.Kernel3Ideal.Gdn.arr6_eq m c),
      h7.trans (Cert.Kernel3Ideal.Gdn.arr7_eq m c), h8.trans (Cert.Kernel3Ideal.Gdn.arr8_eq m c), ha⟩
  · refine (θ_run _ _ _).mono (fun r h c => ?_) (Cert.Reference3Ideal.Value.run m' g')
    obtain ⟨h5, h6, h7, h8, ha⟩ := h c
    obtain ⟨e0, e1, e2, e3, e4⟩ := hm c
    refine ⟨h5.trans ((Cert.Reference3Ideal.Read.val_main_v31_eq (F := Ideal) _ _ _).trans ?_),
      h6.trans ((Cert.Reference3Ideal.Read.val_main_v33_eq (F := Ideal) _ _ _).trans ?_),
      h7.trans ((Cert.Reference3Ideal.Read.val_main_v35_eq (F := Ideal) _ _).trans ?_),
      h8.trans ((Cert.Reference3Ideal.Read.val_main_v37_eq (F := Ideal) _ _ _).trans ?_), ha⟩
    · rw [e0, e1, e2]; rfl
    · rw [e0, e1, e2]; rfl
    · rw [e0, e1, e2, e3, e4]; rfl
    · rw [e0, e1, e2]; rfl

theorem frame_ref3 : Cert.quiescent_Reference3Ideal (hReference3Ideal := Cert.Reference3Ideal.Gen.facts) :=
  fun m ρ _ => (θ_run (Cert.Reference3Ideal.defs (F := Ideal)) _ _).mono
    (fun r h => And.intro (fun c => (h c).2.2.2.2) (Idealize.ShloMosaic.sem_eq_zero_of_no_sems (by decide) r.2))
    (Cert.Reference3Ideal.Value.run (F := Ideal) m ρ)

/-- The memory's keys and values. -/
theorem value4 : Cert.algebraic_Kernel4Ideal_Reference4Ideal (hKernel4Ideal := Cert.Kernel4Ideal.Gen.facts)
    (hReference4Ideal := Cert.Reference4Ideal.Gen.facts) := by
  intro m g m' g' _ hm
  refine ⟨fun c => Cert.Kernel4Ideal.Kv.G4 m c, fun c => Cert.Kernel4Ideal.Kv.G5 m c, ?_, ?_⟩
  · refine (θ_run _ _ _).mono (fun r h c => ?_) (Cert.Kernel4Ideal.Value.run_blocks m g)
    obtain ⟨h4, h5, ha⟩ := h c
    exact ⟨h4.trans (Cert.Kernel4Ideal.Kv.arr4_eq m c), h5.trans (Cert.Kernel4Ideal.Kv.arr5_eq m c), ha⟩
  · refine (θ_run _ _ _).mono (fun r h c => ?_) (Cert.Reference4Ideal.Value.run m' g')
    obtain ⟨h4, h5, ha⟩ := h c
    obtain ⟨e0, e1, e2, e3⟩ := hm c
    refine ⟨h4.trans ((Cert.Reference4Ideal.Read.val_main_v32_eq (F := Ideal) _ _ _ _).trans ?_),
      h5.trans ((Cert.Reference4Ideal.Read.val_main_v34_eq (F := Ideal) _ _ _).trans ?_), ha⟩
    · rw [e0, e1, e2, e3]; rfl
    · rw [e0, e1, e2]; rfl

theorem frame_ref4 : Cert.quiescent_Reference4Ideal (hReference4Ideal := Cert.Reference4Ideal.Gen.facts) :=
  fun m ρ _ => (θ_run (Cert.Reference4Ideal.defs (F := Ideal)) _ _).mono
    (fun r h => And.intro (fun c => (h c).2.2) (Idealize.ShloMosaic.sem_eq_zero_of_no_sems (by decide) r.2))
    (Cert.Reference4Ideal.Value.run (F := Ideal) m ρ)

/-- The same of the forgetting attention's input projection. -/
theorem value5 [hPre : Cert.Pre_finite5.Facts] :
    Cert.algebraic_Kernel5Ideal_Reference5Ideal_pre_finite5 (hKernel5Ideal := Cert.Kernel5Ideal.Gen.facts)
      (hReference5Ideal := Cert.Reference5Ideal.Gen.facts) := by
  intro m g m' g' hpre hm
  refine ⟨fun c => Cert.Kernel5Ideal.Value.G13 m c, fun c => Cert.Kernel5Ideal.Value.G14 m c,
    fun c => Cert.Kernel5Ideal.Value.G15 m c, fun c => Cert.Kernel5Ideal.Value.G16 m c, Cert.Kernel5Ideal.Value.run m g, ?_⟩
  refine (θ_run _ _ _).mono (fun r h c => ?_) (Cert.Reference5Ideal.Value.run m' g')
  obtain ⟨h71, h73, h74, h77, ha⟩ := h c
  obtain ⟨e0, e1, e2, e3, e4, e5⟩ := hm c
  obtain ⟨p1, p2, p5⟩ := hpre c
  obtain ⟨r1, r2, r5⟩ := Cert.Pre_finite5.real _ _ _ _ _ _ p1 p2 p5
  have he : ∀ b q k, Cert.Mem.IsReal (Cert.Kernel5Ideal.FoxIn.ent m c b q k) :=
    Cert.Reference5Ideal.FoxIn.entry_real _ _ _ r1 r2
  have hd : ∀ b l s, Cert.Mem.IsReal (Cert.Kernel5Ideal.FoxIn.dec m c b l s) :=
    Cert.Reference5Ideal.FoxIn.decay_real _ _ _ _ r1 r2 r5
  refine ⟨h71.trans ((Cert.Reference5Ideal.Read.val_main_v71_eq (F := Ideal) m' c).trans ?_),
    h73.trans ((Cert.Reference5Ideal.Read.val_main_v73_eq (F := Ideal) m' c).trans ?_),
    h74.trans ((Cert.Reference5Ideal.Read.val_main_v74_eq (F := Ideal) _ _ _).trans ?_),
    h77.trans ((Cert.Reference5Ideal.Read.val_main_v77_eq (F := Ideal) m' c).trans ?_), ha⟩
  · rw [e0, e1, e2, e3, e5]; exact (Cert.Kernel5Ideal.FoxIn.arr13 m c hd he).symm
  · rw [e0, e1, e2, e4, e5]; exact (Cert.Kernel5Ideal.FoxIn.arr14 m c hd he).symm
  · rw [e0, e1, e2]; exact (Cert.Kernel5Ideal.FoxIn.arr15 m c).symm
  · rw [e0, e1, e2, e5]; exact (Cert.Kernel5Ideal.FoxIn.arr16 m c hd).symm

theorem frame_ref5 : Cert.quiescent_Reference5Ideal (hReference5Ideal := Cert.Reference5Ideal.Gen.facts) :=
  fun m ρ _ => (θ_run (Cert.Reference5Ideal.defs (F := Ideal)) _ _).mono
    (fun r h => And.intro (fun c => (h c).2.2.2.2) (Idealize.ShloMosaic.sem_eq_zero_of_no_sems (by decide) r.2))
    (Cert.Reference5Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Kernel7.Gen.facts, Cert.Kernel7Ideal.Gen.facts,
  Cert.Pre_finite.facts, Cert.Pre_finite5.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  fun m ρ _ => Cert.Kernel5Ideal.Gen.frame m ρ,
  frame_ref5,
  fun m ρ _ => frame_ref5 m ρ trivial,
  fun m ρ _ => Cert.Kernel6.Gen.frame m ρ,
  fun m ρ _ => Cert.Kernel6Ideal.Gen.frame m ρ,
  fun m ρ _ => Cert.Kernel7.Gen.frame m ρ,
  fun m ρ _ => Cert.Kernel7Ideal.Gen.frame m ρ,
  trivial,
  value (hPre := Cert.Pre_finite.facts),
  trivial,
  value2,
  trivial,
  value3,
  trivial,
  value4,
  trivial,
  value5 (hPre := Cert.Pre_finite5.facts),
  trivial,
  trivial⟩

end Cert.Proof

end
